-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 256]⟩ ⟨2, ![512, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S64x256 : Shape := ⟨2, ![64, 256]⟩
abbrev S3x256x512 : Shape := ⟨3, ![3, 256, 512]⟩
abbrev S3x512x256 : Shape := ⟨3, ![3, 512, 256]⟩
abbrev S3x8x64x256 : Shape := ⟨4, ![3, 8, 64, 256]⟩
abbrev S3x7x64x256 : Shape := ⟨4, ![3, 7, 64, 256]⟩
abbrev S2x8x64x256 : Shape := ⟨4, ![2, 8, 64, 256]⟩
abbrev S7 : Shape := ⟨1, ![7]⟩
abbrev S3x2x7 : Shape := ⟨3, ![3, 2, 7]⟩
abbrev S1 : Shape := ⟨1, ![1]⟩
abbrev S_ : Shape := ⟨0, ![]⟩
abbrev S1x256x512 : Shape := ⟨3, ![1, 256, 512]⟩
abbrev S1x512x256 : Shape := ⟨3, ![1, 512, 256]⟩
abbrev S512x512 : Shape := ⟨2, ![512, 512]⟩
abbrev S8x64x256 : Shape := ⟨3, ![8, 64, 256]⟩
abbrev S1x8x64x256 : Shape := ⟨4, ![1, 8, 64, 256]⟩
abbrev S1x1x1 : Shape := ⟨3, ![1, 1, 1]⟩
abbrev S1x1x64x256 : Shape := ⟨4, ![1, 1, 64, 256]⟩
abbrev S1x64x256 : Shape := ⟨3, ![1, 64, 256]⟩
abbrev S64x512 : Shape := ⟨2, ![64, 512]⟩
abbrev S1x2x64x256 : Shape := ⟨4, ![1, 2, 64, 256]⟩
abbrev S2x64x256 : Shape := ⟨3, ![2, 64, 256]⟩
abbrev S128x256 : Shape := ⟨2, ![128, 256]⟩
abbrev S128x512 : Shape := ⟨2, ![128, 512]⟩

abbrev nBuf : Space → Nat
  | .hbm => 8
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S64x256, .f32⟩
  | .local _ .vmem, ⟨0, _⟩ => ⟨S64x256, .f32⟩
  | .local _ .vmem, ⟨1, _⟩ => ⟨S512x256, .f32⟩
  | .local _ .vmem, ⟨2, _⟩ => ⟨S3x256x512, .f32⟩
  | .local _ .vmem, ⟨3, _⟩ => ⟨S3x512x256, .f32⟩
  | .local _ .vmem, ⟨4, _⟩ => ⟨S3x8x64x256, .bf16⟩
  | .local _ .vmem, ⟨5, _⟩ => ⟨S3x7x64x256, .bf16⟩
  | .local _ .vmem, ⟨6, _⟩ => ⟨S2x8x64x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  (ofTc nBuf bufTy 1 92 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v30 : BitVec 32 := Scalar.addi v2 c1_i32_19
  let c8_i32_20 : BitVec 32 := 8#32
  let v31 : BitVec 32 := Scalar.addi v30 c8_i32_20
  let c8_i32_21 : BitVec 32 := 8#32
  let v32 : BitVec 32 := Scalar.remsi v31 c8_i32_21
  let c1_i32_23 : BitVec 32 := 1#32
  let v33 : BitVec 32 := Scalar.muli v32 c1_i32_23
  let v34 : BitVec 32 := Scalar.addi c0_i32_24 v33
  v34.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_25 : BitVec 32 := 2#32
  let v35 : BitVec 32 := Scalar.addi v2 c2_i32_25
  let c8_i32_26 : BitVec 32 := 8#32
  let v36 : BitVec 32 := Scalar.addi v35 c8_i32_26
  let c8_i32_27 : BitVec 32 := 8#32
  let v37 : BitVec 32 := Scalar.remsi v36 c8_i32_27
  let c1_i32_29 : BitVec 32 := 1#32
  let v38 : BitVec 32 := Scalar.muli v37 c1_i32_29
  let v39 : BitVec 32 := Scalar.addi c0_i32_30 v38
  v39.toNat
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_31 : BitVec 32 := 3#32
  let v40 : BitVec 32 := Scalar.addi v2 c3_i32_31
  let c8_i32_32 : BitVec 32 := 8#32
  let v41 : BitVec 32 := Scalar.addi v40 c8_i32_32
  let c8_i32_33 : BitVec 32 := 8#32
  let v42 : BitVec 32 := Scalar.remsi v41 c8_i32_33
  let c1_i32_35 : BitVec 32 := 1#32
  let v43 : BitVec 32 := Scalar.muli v42 c1_i32_35
  let v44 : BitVec 32 := Scalar.addi c0_i32_36 v43
  v44.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_37 : BitVec 32 := 4#32
  let v45 : BitVec 32 := Scalar.addi v2 c4_i32_37
  let c8_i32_38 : BitVec 32 := 8#32
  let v46 : BitVec 32 := Scalar.addi v45 c8_i32_38
  let c8_i32_39 : BitVec 32 := 8#32
  let v47 : BitVec 32 := Scalar.remsi v46 c8_i32_39
  let c1_i32_41 : BitVec 32 := 1#32
  let v48 : BitVec 32 := Scalar.muli v47 c1_i32_41
  let v49 : BitVec 32 := Scalar.addi c0_i32_42 v48
  v49.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_43 : BitVec 32 := 5#32
  let v50 : BitVec 32 := Scalar.addi v2 c5_i32_43
  let c8_i32_44 : BitVec 32 := 8#32
  let v51 : BitVec 32 := Scalar.addi v50 c8_i32_44
  let c8_i32_45 : BitVec 32 := 8#32
  let v52 : BitVec 32 := Scalar.remsi v51 c8_i32_45
  let c1_i32_47 : BitVec 32 := 1#32
  let v53 : BitVec 32 := Scalar.muli v52 c1_i32_47
  let v54 : BitVec 32 := Scalar.addi c0_i32_48 v53
  v54.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_49 : BitVec 32 := 6#32
  let v55 : BitVec 32 := Scalar.addi v2 c6_i32_49
  let c8_i32_50 : BitVec 32 := 8#32
  let v56 : BitVec 32 := Scalar.addi v55 c8_i32_50
  let c8_i32_51 : BitVec 32 := 8#32
  let v57 : BitVec 32 := Scalar.remsi v56 c8_i32_51
  let c1_i32_53 : BitVec 32 := 1#32
  let v58 : BitVec 32 := Scalar.muli v57 c1_i32_53
  let v59 : BitVec 32 := Scalar.addi c0_i32_54 v58
  v59.toNat
def k0_dev7 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v60 : BitVec 32 := Scalar.addi v2 c7_i32
  let c8_i32_55 : BitVec 32 := 8#32
  let v61 : BitVec 32 := Scalar.addi v60 c8_i32_55
  let c8_i32_56 : BitVec 32 := 8#32
  let v62 : BitVec 32 := Scalar.remsi v61 c8_i32_56
  let c1_i32_58 : BitVec 32 := 1#32
  let v63 : BitVec 32 := Scalar.muli v62 c1_i32_58
  let v64 : BitVec 32 := Scalar.addi c0_i32_59 v63
  v64.toNat
def k0_off1 (d0 : Dev nD) (c1_i32_83 : BitVec 32) : Fin 4 → Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v93 : BitVec 32 := Scalar.addi v2 c1_i32_83
  let c8_i32_84 : BitVec 32 := 8#32
  let v94 : BitVec 32 := Scalar.remsi v93 c8_i32_84
  let c0_i32_101 : BitVec 32 := 0#32
  let c0_i32_102 : BitVec 32 := 0#32
  ![0, v94.toNat, 0, 0]
def k0_dev8 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v95 : BitVec 32 := Scalar.addi v2 c1_i32_85
  let c8_i32_86 : BitVec 32 := 8#32
  let v96 : BitVec 32 := Scalar.addi v95 c8_i32_86
  let c8_i32_87 : BitVec 32 := 8#32
  let v97 : BitVec 32 := Scalar.remsi v96 c8_i32_87
  let c1_i32_96 : BitVec 32 := 1#32
  let v98 : BitVec 32 := Scalar.muli v97 c1_i32_96
  let v99 : BitVec 32 := Scalar.addi c0_i32_97 v98
  v99.toNat
def k0_dev9 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_105 : BitVec 32 := 2#32
  let v110 : BitVec 32 := Scalar.addi v2 c2_i32_105
  let c8_i32_106 : BitVec 32 := 8#32
  let v111 : BitVec 32 := Scalar.addi v110 c8_i32_106
  let c8_i32_107 : BitVec 32 := 8#32
  let v112 : BitVec 32 := Scalar.remsi v111 c8_i32_107
  let c1_i32_116 : BitVec 32 := 1#32
  let v113 : BitVec 32 := Scalar.muli v112 c1_i32_116
  let v114 : BitVec 32 := Scalar.addi c0_i32_117 v113
  v114.toNat
def k0_dev10 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_125 : BitVec 32 := 3#32
  let v125 : BitVec 32 := Scalar.addi v2 c3_i32_125
  let c8_i32_126 : BitVec 32 := 8#32
  let v126 : BitVec 32 := Scalar.addi v125 c8_i32_126
  let c8_i32_127 : BitVec 32 := 8#32
  let v127 : BitVec 32 := Scalar.remsi v126 c8_i32_127
  let c1_i32_136 : BitVec 32 := 1#32
  let v128 : BitVec 32 := Scalar.muli v127 c1_i32_136
  let v129 : BitVec 32 := Scalar.addi c0_i32_137 v128
  v129.toNat
def k0_dev11 (d0 : Dev nD) : Nat :=
  let c0_i32_157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_145 : BitVec 32 := 4#32
  let v140 : BitVec 32 := Scalar.addi v2 c4_i32_145
  let c8_i32_146 : BitVec 32 := 8#32
  let v141 : BitVec 32 := Scalar.addi v140 c8_i32_146
  let c8_i32_147 : BitVec 32 := 8#32
  let v142 : BitVec 32 := Scalar.remsi v141 c8_i32_147
  let c1_i32_156 : BitVec 32 := 1#32
  let v143 : BitVec 32 := Scalar.muli v142 c1_i32_156
  let v144 : BitVec 32 := Scalar.addi c0_i32_157 v143
  v144.toNat
def k0_dev12 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_165 : BitVec 32 := 5#32
  let v155 : BitVec 32 := Scalar.addi v2 c5_i32_165
  let c8_i32_166 : BitVec 32 := 8#32
  let v156 : BitVec 32 := Scalar.addi v155 c8_i32_166
  let c8_i32_167 : BitVec 32 := 8#32
  let v157 : BitVec 32 := Scalar.remsi v156 c8_i32_167
  let c1_i32_176 : BitVec 32 := 1#32
  let v158 : BitVec 32 := Scalar.muli v157 c1_i32_176
  let v159 : BitVec 32 := Scalar.addi c0_i32_177 v158
  v159.toNat
def k0_dev13 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_185 : BitVec 32 := 6#32
  let v170 : BitVec 32 := Scalar.addi v2 c6_i32_185
  let c8_i32_186 : BitVec 32 := 8#32
  let v171 : BitVec 32 := Scalar.addi v170 c8_i32_186
  let c8_i32_187 : BitVec 32 := 8#32
  let v172 : BitVec 32 := Scalar.remsi v171 c8_i32_187
  let c1_i32_196 : BitVec 32 := 1#32
  let v173 : BitVec 32 := Scalar.muli v172 c1_i32_196
  let v174 : BitVec 32 := Scalar.addi c0_i32_197 v173
  v174.toNat
def k0_dev14 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_205 : BitVec 32 := 7#32
  let v185 : BitVec 32 := Scalar.addi v2 c7_i32_205
  let c8_i32_206 : BitVec 32 := 8#32
  let v186 : BitVec 32 := Scalar.addi v185 c8_i32_206
  let c8_i32_207 : BitVec 32 := 8#32
  let v187 : BitVec 32 := Scalar.remsi v186 c8_i32_207
  let c1_i32_216 : BitVec 32 := 1#32
  let v188 : BitVec 32 := Scalar.muli v187 c1_i32_216
  let v189 : BitVec 32 := Scalar.addi c0_i32_217 v188
  v189.toNat
def k0_off2 (d0 : Dev nD) : Fin 4 → Nat :=
  let c0_223 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v198 : Index := Scalar.indexCast v2
  let c0_224 : Index := 0#32
  let c0_225 : Index := 0#32
  ![0, v198.toNat, 0, 0]
def k0_dev15 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_378 : BitVec 32 := 1#32
  let v305 : BitVec 32 := Scalar.addi v2 c1_i32_378
  let c8_i32_379 : BitVec 32 := 8#32
  let v306 : BitVec 32 := Scalar.addi v305 c8_i32_379
  let c8_i32_380 : BitVec 32 := 8#32
  let v307 : BitVec 32 := Scalar.remsi v306 c8_i32_380
  let c1_i32_389 : BitVec 32 := 1#32
  let v308 : BitVec 32 := Scalar.muli v307 c1_i32_389
  let v309 : BitVec 32 := Scalar.addi c0_i32_390 v308
  v309.toNat
def k0_dev16 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_397 : BitVec 32 := 2#32
  let v318 : BitVec 32 := Scalar.addi v2 c2_i32_397
  let c8_i32_398 : BitVec 32 := 8#32
  let v319 : BitVec 32 := Scalar.addi v318 c8_i32_398
  let c8_i32_399 : BitVec 32 := 8#32
  let v320 : BitVec 32 := Scalar.remsi v319 c8_i32_399
  let c1_i32_408 : BitVec 32 := 1#32
  let v321 : BitVec 32 := Scalar.muli v320 c1_i32_408
  let v322 : BitVec 32 := Scalar.addi c0_i32_409 v321
  v322.toNat
def k0_dev17 (d0 : Dev nD) : Nat :=
  let c0_i32_428 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_416 : BitVec 32 := 3#32
  let v331 : BitVec 32 := Scalar.addi v2 c3_i32_416
  let c8_i32_417 : BitVec 32 := 8#32
  let v332 : BitVec 32 := Scalar.addi v331 c8_i32_417
  let c8_i32_418 : BitVec 32 := 8#32
  let v333 : BitVec 32 := Scalar.remsi v332 c8_i32_418
  let c1_i32_427 : BitVec 32 := 1#32
  let v334 : BitVec 32 := Scalar.muli v333 c1_i32_427
  let v335 : BitVec 32 := Scalar.addi c0_i32_428 v334
  v335.toNat
def k0_dev18 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_435 : BitVec 32 := 4#32
  let v344 : BitVec 32 := Scalar.addi v2 c4_i32_435
  let c8_i32_436 : BitVec 32 := 8#32
  let v345 : BitVec 32 := Scalar.addi v344 c8_i32_436
  let c8_i32_437 : BitVec 32 := 8#32
  let v346 : BitVec 32 := Scalar.remsi v345 c8_i32_437
  let c1_i32_446 : BitVec 32 := 1#32
  let v347 : BitVec 32 := Scalar.muli v346 c1_i32_446
  let v348 : BitVec 32 := Scalar.addi c0_i32_447 v347
  v348.toNat
def k0_dev19 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_454 : BitVec 32 := 5#32
  let v357 : BitVec 32 := Scalar.addi v2 c5_i32_454
  let c8_i32_455 : BitVec 32 := 8#32
  let v358 : BitVec 32 := Scalar.addi v357 c8_i32_455
  let c8_i32_456 : BitVec 32 := 8#32
  let v359 : BitVec 32 := Scalar.remsi v358 c8_i32_456
  let c1_i32_465 : BitVec 32 := 1#32
  let v360 : BitVec 32 := Scalar.muli v359 c1_i32_465
  let v361 : BitVec 32 := Scalar.addi c0_i32_466 v360
  v361.toNat
def k0_dev20 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_473 : BitVec 32 := 6#32
  let v370 : BitVec 32 := Scalar.addi v2 c6_i32_473
  let c8_i32_474 : BitVec 32 := 8#32
  let v371 : BitVec 32 := Scalar.addi v370 c8_i32_474
  let c8_i32_475 : BitVec 32 := 8#32
  let v372 : BitVec 32 := Scalar.remsi v371 c8_i32_475
  let c1_i32_484 : BitVec 32 := 1#32
  let v373 : BitVec 32 := Scalar.muli v372 c1_i32_484
  let v374 : BitVec 32 := Scalar.addi c0_i32_485 v373
  v374.toNat
def k0_dev21 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_492 : BitVec 32 := 7#32
  let v383 : BitVec 32 := Scalar.addi v2 c7_i32_492
  let c8_i32_493 : BitVec 32 := 8#32
  let v384 : BitVec 32 := Scalar.addi v383 c8_i32_493
  let c8_i32_494 : BitVec 32 := 8#32
  let v385 : BitVec 32 := Scalar.remsi v384 c8_i32_494
  let c1_i32_503 : BitVec 32 := 1#32
  let v386 : BitVec 32 := Scalar.muli v385 c1_i32_503
  let v387 : BitVec 32 := Scalar.addi c0_i32_504 v386
  v387.toNat
def k0_dev22 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_585 : BitVec 32 := 1#32
  let v458 : BitVec 32 := Scalar.subi v2 c1_i32_585
  let c8_i32_586 : BitVec 32 := 8#32
  let v459 : BitVec 32 := Scalar.addi v458 c8_i32_586
  let c8_i32_587 : BitVec 32 := 8#32
  let v460 : BitVec 32 := Scalar.remsi v459 c8_i32_587
  let c1_i32_596 : BitVec 32 := 1#32
  let v461 : BitVec 32 := Scalar.muli v460 c1_i32_596
  let v462 : BitVec 32 := Scalar.addi c0_i32_597 v461
  v462.toNat
def k0_dev23 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_604 : BitVec 32 := 2#32
  let v471 : BitVec 32 := Scalar.subi v2 c2_i32_604
  let c8_i32_605 : BitVec 32 := 8#32
  let v472 : BitVec 32 := Scalar.addi v471 c8_i32_605
  let c8_i32_606 : BitVec 32 := 8#32
  let v473 : BitVec 32 := Scalar.remsi v472 c8_i32_606
  let c1_i32_615 : BitVec 32 := 1#32
  let v474 : BitVec 32 := Scalar.muli v473 c1_i32_615
  let v475 : BitVec 32 := Scalar.addi c0_i32_616 v474
  v475.toNat
def k0_dev24 (d0 : Dev nD) : Nat :=
  let c0_i32_684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_672 : BitVec 32 := 3#32
  let v519 : BitVec 32 := Scalar.subi v2 c3_i32_672
  let c8_i32_673 : BitVec 32 := 8#32
  let v520 : BitVec 32 := Scalar.addi v519 c8_i32_673
  let c8_i32_674 : BitVec 32 := 8#32
  let v521 : BitVec 32 := Scalar.remsi v520 c8_i32_674
  let c1_i32_683 : BitVec 32 := 1#32
  let v522 : BitVec 32 := Scalar.muli v521 c1_i32_683
  let v523 : BitVec 32 := Scalar.addi c0_i32_684 v522
  v523.toNat
def k0_dev25 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_691 : BitVec 32 := 4#32
  let v532 : BitVec 32 := Scalar.subi v2 c4_i32_691
  let c8_i32_692 : BitVec 32 := 8#32
  let v533 : BitVec 32 := Scalar.addi v532 c8_i32_692
  let c8_i32_693 : BitVec 32 := 8#32
  let v534 : BitVec 32 := Scalar.remsi v533 c8_i32_693
  let c1_i32_702 : BitVec 32 := 1#32
  let v535 : BitVec 32 := Scalar.muli v534 c1_i32_702
  let v536 : BitVec 32 := Scalar.addi c0_i32_703 v535
  v536.toNat
def k0_dev26 (d0 : Dev nD) : Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_759 : BitVec 32 := 5#32
  let v580 : BitVec 32 := Scalar.subi v2 c5_i32_759
  let c8_i32_760 : BitVec 32 := 8#32
  let v581 : BitVec 32 := Scalar.addi v580 c8_i32_760
  let c8_i32_761 : BitVec 32 := 8#32
  let v582 : BitVec 32 := Scalar.remsi v581 c8_i32_761
  let c1_i32_770 : BitVec 32 := 1#32
  let v583 : BitVec 32 := Scalar.muli v582 c1_i32_770
  let v584 : BitVec 32 := Scalar.addi c0_i32_771 v583
  v584.toNat
def k0_dev27 (d0 : Dev nD) : Nat :=
  let c0_i32_790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_778 : BitVec 32 := 6#32
  let v593 : BitVec 32 := Scalar.subi v2 c6_i32_778
  let c8_i32_779 : BitVec 32 := 8#32
  let v594 : BitVec 32 := Scalar.addi v593 c8_i32_779
  let c8_i32_780 : BitVec 32 := 8#32
  let v595 : BitVec 32 := Scalar.remsi v594 c8_i32_780
  let c1_i32_789 : BitVec 32 := 1#32
  let v596 : BitVec 32 := Scalar.muli v595 c1_i32_789
  let v597 : BitVec 32 := Scalar.addi c0_i32_790 v596
  v597.toNat
def k0_dev28 (d0 : Dev nD) : Nat :=
  let c0_i32_838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_826 : BitVec 32 := 7#32
  let v630 : BitVec 32 := Scalar.subi v2 c7_i32_826
  let c8_i32_827 : BitVec 32 := 8#32
  let v631 : BitVec 32 := Scalar.addi v630 c8_i32_827
  let c8_i32_828 : BitVec 32 := 8#32
  let v632 : BitVec 32 := Scalar.remsi v631 c8_i32_828
  let c1_i32_837 : BitVec 32 := 1#32
  let v633 : BitVec 32 := Scalar.muli v632 c1_i32_837
  let v634 : BitVec 32 := Scalar.addi c0_i32_838 v633
  v634.toNat
def k0_dev29 (d0 : Dev nD) : Nat :=
  let c0_i32_1015 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1003 : BitVec 32 := 1#32
  let v745 : BitVec 32 := Scalar.addi v2 c1_i32_1003
  let c8_i32_1004 : BitVec 32 := 8#32
  let v746 : BitVec 32 := Scalar.addi v745 c8_i32_1004
  let c8_i32_1005 : BitVec 32 := 8#32
  let v747 : BitVec 32 := Scalar.remsi v746 c8_i32_1005
  let c1_i32_1014 : BitVec 32 := 1#32
  let v748 : BitVec 32 := Scalar.muli v747 c1_i32_1014
  let v749 : BitVec 32 := Scalar.addi c0_i32_1015 v748
  v749.toNat
def k0_dev30 (d0 : Dev nD) : Nat :=
  let c0_i32_1034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1022 : BitVec 32 := 2#32
  let v758 : BitVec 32 := Scalar.addi v2 c2_i32_1022
  let c8_i32_1023 : BitVec 32 := 8#32
  let v759 : BitVec 32 := Scalar.addi v758 c8_i32_1023
  let c8_i32_1024 : BitVec 32 := 8#32
  let v760 : BitVec 32 := Scalar.remsi v759 c8_i32_1024
  let c1_i32_1033 : BitVec 32 := 1#32
  let v761 : BitVec 32 := Scalar.muli v760 c1_i32_1033
  let v762 : BitVec 32 := Scalar.addi c0_i32_1034 v761
  v762.toNat
def k0_dev31 (d0 : Dev nD) : Nat :=
  let c0_i32_1053 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1041 : BitVec 32 := 3#32
  let v771 : BitVec 32 := Scalar.addi v2 c3_i32_1041
  let c8_i32_1042 : BitVec 32 := 8#32
  let v772 : BitVec 32 := Scalar.addi v771 c8_i32_1042
  let c8_i32_1043 : BitVec 32 := 8#32
  let v773 : BitVec 32 := Scalar.remsi v772 c8_i32_1043
  let c1_i32_1052 : BitVec 32 := 1#32
  let v774 : BitVec 32 := Scalar.muli v773 c1_i32_1052
  let v775 : BitVec 32 := Scalar.addi c0_i32_1053 v774
  v775.toNat
def k0_dev32 (d0 : Dev nD) : Nat :=
  let c0_i32_1072 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1060 : BitVec 32 := 4#32
  let v784 : BitVec 32 := Scalar.addi v2 c4_i32_1060
  let c8_i32_1061 : BitVec 32 := 8#32
  let v785 : BitVec 32 := Scalar.addi v784 c8_i32_1061
  let c8_i32_1062 : BitVec 32 := 8#32
  let v786 : BitVec 32 := Scalar.remsi v785 c8_i32_1062
  let c1_i32_1071 : BitVec 32 := 1#32
  let v787 : BitVec 32 := Scalar.muli v786 c1_i32_1071
  let v788 : BitVec 32 := Scalar.addi c0_i32_1072 v787
  v788.toNat
def k0_dev33 (d0 : Dev nD) : Nat :=
  let c0_i32_1091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1079 : BitVec 32 := 5#32
  let v797 : BitVec 32 := Scalar.addi v2 c5_i32_1079
  let c8_i32_1080 : BitVec 32 := 8#32
  let v798 : BitVec 32 := Scalar.addi v797 c8_i32_1080
  let c8_i32_1081 : BitVec 32 := 8#32
  let v799 : BitVec 32 := Scalar.remsi v798 c8_i32_1081
  let c1_i32_1090 : BitVec 32 := 1#32
  let v800 : BitVec 32 := Scalar.muli v799 c1_i32_1090
  let v801 : BitVec 32 := Scalar.addi c0_i32_1091 v800
  v801.toNat
def k0_dev34 (d0 : Dev nD) : Nat :=
  let c0_i32_1110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1098 : BitVec 32 := 6#32
  let v810 : BitVec 32 := Scalar.addi v2 c6_i32_1098
  let c8_i32_1099 : BitVec 32 := 8#32
  let v811 : BitVec 32 := Scalar.addi v810 c8_i32_1099
  let c8_i32_1100 : BitVec 32 := 8#32
  let v812 : BitVec 32 := Scalar.remsi v811 c8_i32_1100
  let c1_i32_1109 : BitVec 32 := 1#32
  let v813 : BitVec 32 := Scalar.muli v812 c1_i32_1109
  let v814 : BitVec 32 := Scalar.addi c0_i32_1110 v813
  v814.toNat
def k0_dev35 (d0 : Dev nD) : Nat :=
  let c0_i32_1129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1117 : BitVec 32 := 7#32
  let v823 : BitVec 32 := Scalar.addi v2 c7_i32_1117
  let c8_i32_1118 : BitVec 32 := 8#32
  let v824 : BitVec 32 := Scalar.addi v823 c8_i32_1118
  let c8_i32_1119 : BitVec 32 := 8#32
  let v825 : BitVec 32 := Scalar.remsi v824 c8_i32_1119
  let c1_i32_1128 : BitVec 32 := 1#32
  let v826 : BitVec 32 := Scalar.muli v825 c1_i32_1128
  let v827 : BitVec 32 := Scalar.addi c0_i32_1129 v826
  v827.toNat
def k0_dev36 (d0 : Dev nD) : Nat :=
  let c0_i32_1222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1210 : BitVec 32 := 1#32
  let v898 : BitVec 32 := Scalar.subi v2 c1_i32_1210
  let c8_i32_1211 : BitVec 32 := 8#32
  let v899 : BitVec 32 := Scalar.addi v898 c8_i32_1211
  let c8_i32_1212 : BitVec 32 := 8#32
  let v900 : BitVec 32 := Scalar.remsi v899 c8_i32_1212
  let c1_i32_1221 : BitVec 32 := 1#32
  let v901 : BitVec 32 := Scalar.muli v900 c1_i32_1221
  let v902 : BitVec 32 := Scalar.addi c0_i32_1222 v901
  v902.toNat
def k0_dev37 (d0 : Dev nD) : Nat :=
  let c0_i32_1241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1229 : BitVec 32 := 2#32
  let v911 : BitVec 32 := Scalar.subi v2 c2_i32_1229
  let c8_i32_1230 : BitVec 32 := 8#32
  let v912 : BitVec 32 := Scalar.addi v911 c8_i32_1230
  let c8_i32_1231 : BitVec 32 := 8#32
  let v913 : BitVec 32 := Scalar.remsi v912 c8_i32_1231
  let c1_i32_1240 : BitVec 32 := 1#32
  let v914 : BitVec 32 := Scalar.muli v913 c1_i32_1240
  let v915 : BitVec 32 := Scalar.addi c0_i32_1241 v914
  v915.toNat
def k0_dev38 (d0 : Dev nD) : Nat :=
  let c0_i32_1309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1297 : BitVec 32 := 3#32
  let v959 : BitVec 32 := Scalar.subi v2 c3_i32_1297
  let c8_i32_1298 : BitVec 32 := 8#32
  let v960 : BitVec 32 := Scalar.addi v959 c8_i32_1298
  let c8_i32_1299 : BitVec 32 := 8#32
  let v961 : BitVec 32 := Scalar.remsi v960 c8_i32_1299
  let c1_i32_1308 : BitVec 32 := 1#32
  let v962 : BitVec 32 := Scalar.muli v961 c1_i32_1308
  let v963 : BitVec 32 := Scalar.addi c0_i32_1309 v962
  v963.toNat
def k0_dev39 (d0 : Dev nD) : Nat :=
  let c0_i32_1328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1316 : BitVec 32 := 4#32
  let v972 : BitVec 32 := Scalar.subi v2 c4_i32_1316
  let c8_i32_1317 : BitVec 32 := 8#32
  let v973 : BitVec 32 := Scalar.addi v972 c8_i32_1317
  let c8_i32_1318 : BitVec 32 := 8#32
  let v974 : BitVec 32 := Scalar.remsi v973 c8_i32_1318
  let c1_i32_1327 : BitVec 32 := 1#32
  let v975 : BitVec 32 := Scalar.muli v974 c1_i32_1327
  let v976 : BitVec 32 := Scalar.addi c0_i32_1328 v975
  v976.toNat
def k0_dev40 (d0 : Dev nD) : Nat :=
  let c0_i32_1396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1384 : BitVec 32 := 5#32
  let v1020 : BitVec 32 := Scalar.subi v2 c5_i32_1384
  let c8_i32_1385 : BitVec 32 := 8#32
  let v1021 : BitVec 32 := Scalar.addi v1020 c8_i32_1385
  let c8_i32_1386 : BitVec 32 := 8#32
  let v1022 : BitVec 32 := Scalar.remsi v1021 c8_i32_1386
  let c1_i32_1395 : BitVec 32 := 1#32
  let v1023 : BitVec 32 := Scalar.muli v1022 c1_i32_1395
  let v1024 : BitVec 32 := Scalar.addi c0_i32_1396 v1023
  v1024.toNat
def k0_dev41 (d0 : Dev nD) : Nat :=
  let c0_i32_1415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1403 : BitVec 32 := 6#32
  let v1033 : BitVec 32 := Scalar.subi v2 c6_i32_1403
  let c8_i32_1404 : BitVec 32 := 8#32
  let v1034 : BitVec 32 := Scalar.addi v1033 c8_i32_1404
  let c8_i32_1405 : BitVec 32 := 8#32
  let v1035 : BitVec 32 := Scalar.remsi v1034 c8_i32_1405
  let c1_i32_1414 : BitVec 32 := 1#32
  let v1036 : BitVec 32 := Scalar.muli v1035 c1_i32_1414
  let v1037 : BitVec 32 := Scalar.addi c0_i32_1415 v1036
  v1037.toNat
def k0_dev42 (d0 : Dev nD) : Nat :=
  let c0_i32_1464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1452 : BitVec 32 := 7#32
  let v1070 : BitVec 32 := Scalar.subi v2 c7_i32_1452
  let c8_i32_1453 : BitVec 32 := 8#32
  let v1071 : BitVec 32 := Scalar.addi v1070 c8_i32_1453
  let c8_i32_1454 : BitVec 32 := 8#32
  let v1072 : BitVec 32 := Scalar.remsi v1071 c8_i32_1454
  let c1_i32_1463 : BitVec 32 := 1#32
  let v1073 : BitVec 32 := Scalar.muli v1072 c1_i32_1463
  let v1074 : BitVec 32 := Scalar.addi c0_i32_1464 v1073
  v1074.toNat
abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x256 : Shape := ⟨2, ![512, 256]⟩
abbrev S256x4096 : Shape := ⟨2, ![256, 4096]⟩
abbrev S4096x256 : Shape := ⟨2, ![4096, 256]⟩
abbrev S512x4096 : Shape := ⟨2, ![512, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x4096, .f32⟩
  | .hbm, ⟨2, _⟩ => ⟨S256x4096, .f32⟩
  | .hbm, ⟨3, _⟩ => ⟨S256x4096, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S512x4096, .f32⟩
  | .hbm, ⟨8, _⟩ => ⟨S_, .f32⟩
  | .hbm, ⟨9, _⟩ => ⟨S512x4096, .f32⟩
  | .hbm, ⟨10, _⟩ => ⟨S512x4096, .f32⟩
  | .hbm, ⟨11, _⟩ => ⟨S512x256, .f32⟩
  | .hbm, ⟨12, _⟩ => ⟨S512x4096, .f32⟩
  | .hbm, ⟨13, _⟩ => ⟨S_, .f32⟩
  | .hbm, ⟨14, _⟩ => ⟨S512x4096, .f32⟩
  | .hbm, ⟨15, _⟩ => ⟨S512x4096, .f32⟩
  | .hbm, ⟨16, _⟩ => ⟨S512x256, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Values.lean ====
/-
# What the buffers hold

The contents the kernel computes with, as functions of the launch memory: the two weight blocks of each layer, the
partial products of each layer, the blocks received from the other devices, the activations gathered for the next
layer, and the output block. A buffer with a leading layer axis is described by one function whose row `l` is what
the buffer holds in row `l` once layer `l` has filled it.
-/
module

public import proofs.«01_k».proof.Proof.Gen.KernelIdeal.Skeleton
public import Idealize.ShloMosaic.Lib.ValueLayout

@[expose] public section

noncomputable section

namespace Cert.TpMlp

open Cert.KernelIdeal Cert.KernelIdeal.Gen
open Idealize.ShloMosaic Idealize.ShloMosaic.TcCoe Idealize.ShloMosaic.ValueIdx Idealize.SL.Sem

variable {F : FTy → Type} [FloatOps F]

/-! ## Devices -/

/-- The device `a` places after `c` around the eight. -/
def sh (c : Dev nD) (a : ℕ) : Dev nD := ⟨(c.val + a) % 8, Nat.mod_lt _ (by decide)⟩

theorem sh_val (c : Dev nD) (a : ℕ) : (sh c a).val = (c.val + a) % 8 := rfl
theorem sh_sh (c : Dev nD) (a b : ℕ) : sh (sh c a) b = sh c (a + b) :=
  Fin.ext (by simp only [sh_val]; omega)
theorem sh_eight (c : Dev nD) : sh c 8 = c := by
  have := c.isLt; exact Fin.ext (by simp only [sh_val]; simp only [nD] at this; omega)
theorem sh_zero (c : Dev nD) : sh c 0 = c := by
  have := c.isLt; exact Fin.ext (by simp only [sh_val]; simp only [nD] at this; omega)

/-! ## Reading blocks -/

/-- The `w` consecutive blocks of row `l` from block `j` on. -/
def ld4 {n₀ n₁ : ℕ} {e : EltTy} (f : (⟨4, ![n₀, n₁, 64, 256]⟩ : Shape).Idx → Elt F e) (l j w : ℕ) (hl : l < n₀)
    (hj : j + w ≤ n₁) : (⟨4, ![1, w, 64, 256]⟩ : Shape).Idx → Elt F e :=
  fun i => f (ix4 ⟨l, hl⟩ ⟨j + (i 1).val, by have h : (i 1).val < w := (i 1).isLt; omega⟩ (i 2) (i 3))

/-- Layer `l` of a three-axis buffer. -/
def ld3 {n₀ n₁ n₂ : ℕ} {e : EltTy} (f : (⟨3, ![n₀, n₁, n₂]⟩ : Shape).Idx → Elt F e) (l : ℕ) (hl : l < n₀) :
    (⟨3, ![1, n₁, n₂]⟩ : Shape).Idx → Elt F e :=
  fun i => f (ix3 ⟨l, hl⟩ (i 1) (i 2))

/-- A row of eight blocks whose blocks `lo … lo + w - 1` are given by `g`, the others by `rest`. -/
def grp {n₀ : ℕ} {e : EltTy} (lo w : ℕ) (g : (⟨4, ![1, w, 64, 256]⟩ : Shape).Idx → Elt F e)
    (rest : (⟨4, ![n₀, 8, 64, 256]⟩ : Shape).Idx → Elt F e) (i : (⟨4, ![n₀, 8, 64, 256]⟩ : Shape).Idx) : Elt F e :=
  if h : lo ≤ (i 1).val ∧ (i 1).val < lo + w then g (ix4 0 ⟨(i 1).val - lo, by omega⟩ (i 2) (i 3)) else rest i

omit [FloatOps F] in
/-- Reading the group itself. -/
theorem ld4_grp_self {n₀ : ℕ} {e : EltTy} (lo w : ℕ) (g : (⟨4, ![1, w, 64, 256]⟩ : Shape).Idx → Elt F e)
    (rest : (⟨4, ![n₀, 8, 64, 256]⟩ : Shape).Idx → Elt F e) (l : ℕ) (hl : l < n₀) (hj : lo + w ≤ 8) :
    ld4 (grp lo w g rest) l lo w hl hj = g := by
  funext i
  have h1 : (i 1).val < w := (i 1).isLt
  have h0 : (i 0).val < 1 := (i 0).isLt
  show grp lo w g rest (ix4 _ _ _ _) = _
  refine (dif_pos (show lo ≤ lo + (i 1).val ∧ lo + (i 1).val < lo + w by omega)).trans ?_
  refine congrArg g (funext fun a => ?_)
  match a with
  | 0 => exact Fin.ext (by show 0 = (i 0).val; omega)
  | 1 => exact Fin.ext (by show lo + (i 1).val - lo = (i 1).val; omega)
  | 2 => rfl
  | 3 => rfl

omit [FloatOps F] in
/-- Reading blocks outside the group. -/
theorem ld4_grp_ne {n₀ : ℕ} {e : EltTy} (lo w : ℕ) (g : (⟨4, ![1, w, 64, 256]⟩ : Shape).Idx → Elt F e)
    (rest : (⟨4, ![n₀, 8, 64, 256]⟩ : Shape).Idx → Elt F e) (l j v : ℕ) (hl : l < n₀) (hj : j + v ≤ 8) (h : lo + w ≤ j) :
    ld4 (grp lo w g rest) l j v hl hj = ld4 rest l j v hl hj := by
  funext i
  show grp lo w g rest (ix4 _ _ _ _) = _
  exact dif_neg (show ¬(lo ≤ j + (i 1).val ∧ j + (i 1).val < lo + w) by omega)

/-! ## The contents -/

variable (m : (ℓ : Loc nD τ sig) → Buf (Elt F) ℓ)

/-- The activations device `c` starts from. -/
def xA (c : Dev nD) : S512x256.Idx → Elt F .f32 := m ((c : Thread nD τ).loc main_arg0)
/-- Device `c`'s block of the first weight of layer `l`. -/
def winA (l : Fin 3) (c : Dev nD) : S256x512.Idx → Elt F .f32 :=
  match l with
  | 0 => m ((c : Thread nD τ).loc main_arg1)
  | 1 => m ((c : Thread nD τ).loc main_arg2)
  | 2 => m ((c : Thread nD τ).loc main_arg3)
/-- Device `c`'s block of the second weight of layer `l`. -/
def woutA (l : Fin 3) (c : Dev nD) : S512x256.Idx → Elt F .f32 :=
  match l with
  | 0 => m ((c : Thread nD τ).loc main_arg4)
  | 1 => m ((c : Thread nD τ).loc main_arg5)
  | 2 => m ((c : Thread nD τ).loc main_arg6)

/-- The first weights of the three layers. -/
def WI (c : Dev nD) : S3x256x512.Idx → Elt F .f32 := fun i => winA m (i 0) c (ix2 (i 1) (i 2))
/-- The second weights of the three layers. -/
def WO (c : Dev nD) : S3x512x256.Idx → Elt F .f32 := fun i => woutA m (i 0) c (ix2 (i 1) (i 2))
/-- Layer `l`'s first weight as the kernel loads it. -/
abbrev wi (l : ℕ) (hl : l < 3) (c : Dev nD) : S1x256x512.Idx → Elt F .f32 := ld3 (WI m c) l hl
/-- Layer `l`'s second weight as the kernel loads it. -/
abbrev wo (l : ℕ) (hl : l < 3) (c : Dev nD) : S1x512x256.Idx → Elt F .f32 := ld3 (WO m c) l hl

/-- Layer 0: the partial products, all eight row blocks. -/
def P0 (c : Dev nD) : S3x8x64x256.Idx → Elt F .bf16 :=
  fun i => k0_pay1 (xA m c) (wi m 0 (by decide) c) (wo m 0 (by decide) c) (ix4 0 (i 1) (i 2) (i 3))
/-- Layer 0: the seven partial products for `c`'s row block received from the others. -/
def R0 (c : Dev nD) : S3x7x64x256.Idx → Elt F .bf16 :=
  fun i => P0 m (sh c (7 - (i 1).val)) (ix4 0 c (i 2) (i 3))
/-- Layer 0: `c`'s row block of the result. -/
def A0 (c : Dev nD) : S1x1x64x256.Idx → Elt F .bf16 :=
  k0_pay4 (k0_pay3 (k0_pay2 (ld4 (P0 m c) 0 c.val 1 (by decide) c.isLt))
      (ld4 (R0 m c) 0 0 1 (by decide) (by decide)) (ld4 (R0 m c) 0 1 1 (by decide) (by decide))
      (ld4 (R0 m c) 0 2 1 (by decide) (by decide)) (ld4 (R0 m c) 0 3 1 (by decide) (by decide))
      (ld4 (R0 m c) 0 4 1 (by decide) (by decide)) (ld4 (R0 m c) 0 5 1 (by decide) (by decide)))
    (ld4 (R0 m c) 0 6 1 (by decide) (by decide))
/-- Layer 1's input as `c` gathers it: block `j` is the row block of the device `j` places before `c`. -/
def X0 (c : Dev nD) : S2x8x64x256.Idx → Elt F .bf16 :=
  fun i => A0 m (sh c (8 - (i 1).val)) (ix4 0 0 (i 2) (i 3))

/-- Layer 1: the partial products, group by group. -/
def P1 (c : Dev nD) : S3x8x64x256.Idx → Elt F .bf16 :=
  grp 0 1 (k0_pay9 (k0_pay8 (ld4 (X0 m c) 0 0 1 (by decide) (by decide)) (wi m 1 (by decide) c) (wo m 1 (by decide) c))) <|
  grp 1 2 (k0_pay10 (k0_pay5 (wi m 1 (by decide) c)) (k0_pay6 (wo m 1 (by decide) c)) (ld4 (X0 m c) 0 1 2 (by decide) (by decide))) <|
  grp 3 2 (k0_pay12 (k0_pay11 (k0_pay5 (wi m 1 (by decide) c)) (k0_pay6 (wo m 1 (by decide) c)) (ld4 (X0 m c) 0 3 2 (by decide) (by decide)))) <|
  grp 5 2 (k0_pay13 (k0_pay5 (wi m 1 (by decide) c)) (k0_pay6 (wo m 1 (by decide) c)) (ld4 (X0 m c) 0 5 2 (by decide) (by decide))) <|
  grp 7 1 (k0_pay14 (k0_pay5 (wi m 1 (by decide) c)) (k0_pay6 (wo m 1 (by decide) c)) (ld4 (X0 m c) 0 7 1 (by decide) (by decide))) (P0 m c)
/-- Layer 1: the partial products received. -/
def R1 (c : Dev nD) : S3x7x64x256.Idx → Elt F .bf16 :=
  fun i => P1 m (sh c ((i 1).val + 1)) (ix4 1 ⟨(i 1).val + 1, Nat.succ_lt_succ (i 1).isLt⟩ (i 2) (i 3))
/-- Layer 1: `c`'s row block of the result. -/
def A1 (c : Dev nD) : S1x1x64x256.Idx → Elt F .bf16 :=
  k0_pay16 (k0_pay15 (k0_pay7 (ld4 (X0 m c) 0 0 1 (by decide) (by decide)) (wi m 1 (by decide) c) (wo m 1 (by decide) c))
      (ld4 (R1 m c) 1 0 1 (by decide) (by decide)) (ld4 (R1 m c) 1 1 1 (by decide) (by decide))
      (ld4 (R1 m c) 1 2 1 (by decide) (by decide)))
    (ld4 (R1 m c) 1 3 1 (by decide) (by decide)) (ld4 (R1 m c) 1 4 1 (by decide) (by decide))
    (ld4 (R1 m c) 1 5 1 (by decide) (by decide)) (ld4 (R1 m c) 1 6 1 (by decide) (by decide))
/-- Layer 2's input as `c` gathers it. -/
def X1 (c : Dev nD) : S2x8x64x256.Idx → Elt F .bf16 :=
  fun i => A1 m (sh c (8 - (i 1).val)) (ix4 0 0 (i 2) (i 3))

/-- Layer 2: the partial products, group by group. -/
def P2 (c : Dev nD) : S3x8x64x256.Idx → Elt F .bf16 :=
  grp 0 1 (k0_pay21 (k0_pay17 (ld4 (X1 m c) 1 0 1 (by decide) (by decide))) (k0_pay18 (wi m 2 (by decide) c)) (wo m 2 (by decide) c)) <|
  grp 1 2 (k0_pay22 (k0_pay18 (wi m 2 (by decide) c)) (k0_pay19 (wo m 2 (by decide) c)) (ld4 (X1 m c) 1 1 2 (by decide) (by decide))) <|
  grp 3 2 (k0_pay23 (k0_pay18 (wi m 2 (by decide) c)) (k0_pay19 (wo m 2 (by decide) c)) (ld4 (X1 m c) 1 3 2 (by decide) (by decide))) <|
  grp 5 2 (k0_pay24 (k0_pay18 (wi m 2 (by decide) c)) (k0_pay19 (wo m 2 (by decide) c)) (ld4 (X1 m c) 1 5 2 (by decide) (by decide))) <|
  grp 7 1 (k0_pay25 (k0_pay18 (wi m 2 (by decide) c)) (k0_pay19 (wo m 2 (by decide) c)) (ld4 (X1 m c) 1 7 1 (by decide) (by decide))) (P0 m c)
/-- Layer 2: the partial products received. -/
def R2 (c : Dev nD) : S3x7x64x256.Idx → Elt F .bf16 :=
  fun i => P2 m (sh c ((i 1).val + 1)) (ix4 2 ⟨(i 1).val + 1, Nat.succ_lt_succ (i 1).isLt⟩ (i 2) (i 3))
/-- Device `c`'s block of the output. -/
def outV (c : Dev nD) : S64x256.Idx → Elt F .f32 :=
  k0_pay26 (k0_pay20 (k0_pay17 (ld4 (X1 m c) 1 0 1 (by decide) (by decide))) (k0_pay18 (wi m 2 (by decide) c)) (wo m 2 (by decide) c))
    (ld4 (R2 m c) 2 0 1 (by decide) (by decide)) (ld4 (R2 m c) 2 1 1 (by decide) (by decide))
    (ld4 (R2 m c) 2 2 1 (by decide) (by decide)) (ld4 (R2 m c) 2 3 1 (by decide) (by decide))
    (ld4 (R2 m c) 2 4 1 (by decide) (by decide)) (ld4 (R2 m c) 2 5 1 (by decide) (by decide))
    (ld4 (R2 m c) 2 6 1 (by decide) (by decide))

/-! ## The buffers, all layers -/

/-- The partial products of all three layers. -/
def PA (c : Dev nD) : S3x8x64x256.Idx → Elt F .bf16 :=
  fun i => match (i 0).val with | 0 => P0 m c i | 1 => P1 m c i | _ => P2 m c i
/-- The received blocks of all three layers. -/
def RA (c : Dev nD) : S3x7x64x256.Idx → Elt F .bf16 :=
  fun i => match (i 0).val with | 0 => R0 m c i | 1 => R1 m c i | _ => R2 m c i
/-- The gathered activations of both inner layers. -/
def XA (c : Dev nD) : S2x8x64x256.Idx → Elt F .bf16 :=
  fun i => match (i 0).val with | 0 => X0 m c i | _ => X1 m c i

end Cert.TpMlp

end
-- ==== Proof.Regions.lean ====
/-
# The regions of the buffers

Every buffer access of the kernel touches consecutive 64 × 256 blocks of one row of a four-axis buffer. This module
names those regions (`box4`, counted from a starting block `z` around the eight), says which region an access or a
transferred block covers, splits and joins regions, and gives the load and store rules in these terms.
-/
module

public import proofs.«01_k».proof.Proof.Values
public import Idealize.ShloMosaic.Lib.Pipeline.Launch
public import Idealize.ShloMosaic.Lib.Pipeline.Kit
public import Idealize.ShloMosaic.Lib.Tactic

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own, and the kernel's cells with duties numbered by naturals. -/
abbrev UU : Type := URounds (GSem nD τ sig) Unit × URounds (GSem nD τ sig) ℕ

local notation "𝕄" => MT nD τ sig Unit (Elt F) ℕ UU ℕ

abbrev 𝒱₀ : Variants := Variants.none

/-- The weakest precondition of a piece of the kernel's body on device `c`. -/
abbrev Wp {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Regions -/

/-- The blocks of row `l` whose distance after block `z`, around the eight, lies in `[lo, hi)`. -/
def box4 {n₀ n₁ : ℕ} (z l lo hi : ℕ) : Finset (⟨4, ![n₀, n₁, 64, 256]⟩ : Shape).Idx :=
  Finset.univ.filter fun i => (i 0).val = l ∧ lo ≤ ((i 1).val + 8 - z) % 8 ∧ ((i 1).val + 8 - z) % 8 < hi

theorem mem_box4 {n₀ n₁ z l lo hi : ℕ} {i : (⟨4, ![n₀, n₁, 64, 256]⟩ : Shape).Idx} :
    i ∈ box4 z l lo hi ↔ (i 0).val = l ∧ lo ≤ ((i 1).val + 8 - z) % 8 ∧ ((i 1).val + 8 - z) % 8 < hi := by
  unfold box4; rw [Finset.mem_filter]; exact and_iff_right (Finset.mem_univ _)

theorem box4_union {n₀ n₁ z l lo mid hi : ℕ} (h₁ : lo ≤ mid) (h₂ : mid ≤ hi) :
    (box4 z l lo hi : Finset (⟨4, ![n₀, n₁, 64, 256]⟩ : Shape).Idx) = box4 z l lo mid ∪ box4 z l mid hi := by
  ext i; rw [Finset.mem_union, mem_box4, mem_box4, mem_box4]; omega

theorem box4_disjoint {n₀ n₁ z l lo mid hi : ℕ} :
    Disjoint (box4 z l lo mid : Finset (⟨4, ![n₀, n₁, 64, 256]⟩ : Shape).Idx) (box4 z l mid hi) := by
  rw [Finset.disjoint_left]; intro i; rw [mem_box4, mem_box4]; omega

theorem box4_sub {n₀ n₁ z l lo hi lo' hi' : ℕ} (h₁ : lo' ≤ lo) (h₂ : hi ≤ hi') :
    (box4 z l lo hi : Finset (⟨4, ![n₀, n₁, 64, 256]⟩ : Shape).Idx) ⊆ box4 z l lo' hi' := by
  intro i; rw [mem_box4, mem_box4]; omega

/-- The block `j` of row `l` and on is in bounds. -/
theorem inb4 {n₀ n₁ l j w : ℕ} (hl : l < n₀) (hj : j + w ≤ n₁) :
    ∀ a : Fin 4, (![l, j, 0, 0] : Fin 4 → ℕ) a + (![1, w, 64, 256] : Fin 4 → ℕ) a ≤ (![n₀, n₁, 64, 256] : Fin 4 → ℕ) a := by
  intro a
  match a with
  | 0 => exact hl
  | 1 => exact hj
  | 2 => exact Nat.le_refl 64
  | 3 => exact Nat.le_refl 256

/-- The elements a rectangle of `w` whole blocks covers. -/
theorem rect_box {n₀ n₁ z l j w lo hi : ℕ}
    (inb : ∀ a : Fin 4, (![l, j, 0, 0] : Fin 4 → ℕ) a + (![1, w, 64, 256] : Fin 4 → ℕ) a ≤ (![n₀, n₁, 64, 256] : Fin 4 → ℕ) a)
    (hb : ∀ b, b < n₁ → ((j ≤ b ∧ b < j + w) ↔ (lo ≤ (b + 8 - z) % 8 ∧ (b + 8 - z) % 8 < hi))) :
    (Rect.unit (s := ⟨4, ![n₀, n₁, 64, 256]⟩) ![l, j, 0, 0] ![1, w, 64, 256] inb).set = box4 z l lo hi := by
  ext i
  rw [Rect.mem_set_unit, mem_box4]
  have h1 : (i 1).val < n₁ := (i 1).isLt
  have h2 : (i 2).val < 64 := (i 2).isLt
  have h3 : (i 3).val < 256 := (i 3).isLt
  have hb' := hb _ h1
  constructor
  · intro h
    have a0 : l ≤ (i 0).val ∧ (i 0).val < l + 1 := h 0
    have a1 : j ≤ (i 1).val ∧ (i 1).val < j + w := h 1
    exact ⟨by omega, hb'.1 a1⟩
  · rintro ⟨h0, h⟩ a
    match a with
    | 0 => exact (show l ≤ (i 0).val ∧ (i 0).val < l + 1 by omega)
    | 1 => exact hb'.2 h
    | 2 => exact (show 0 ≤ (i 2).val ∧ (i 2).val < 0 + 64 by omega)
    | 3 => exact (show 0 ≤ (i 3).val ∧ (i 3).val < 0 + 256 by omega)

/-- Where a rectangle of `w` whole blocks places its elements. -/
theorem emb_unit4 {n₀ n₁ l j w : ℕ}
    (inb : ∀ a : Fin 4, (![l, j, 0, 0] : Fin 4 → ℕ) a + (![1, w, 64, 256] : Fin 4 → ℕ) a ≤ (![n₀, n₁, 64, 256] : Fin 4 → ℕ) a)
    (hl : l < n₀) (hj : j + w ≤ n₁) (x : (⟨4, ![1, w, 64, 256]⟩ : Shape).Idx) :
    (Rect.unit (s := ⟨4, ![n₀, n₁, 64, 256]⟩) ![l, j, 0, 0] ![1, w, 64, 256] inb).emb x
      = ix4 ⟨l, hl⟩ ⟨j + (x 1).val, by have h : (x 1).val < w := (x 1).isLt; omega⟩ (x 2) (x 3) := by
  have h0 : (x 0).val < 1 := (x 0).isLt
  funext a
  match a with
  | 0 => exact Fin.ext (show l + 1 * (x 0).val = l by omega)
  | 1 => exact Fin.ext (show j + 1 * (x 1).val = j + (x 1).val by omega)
  | 2 => exact Fin.ext (show 0 + 1 * (x 2).val = (x 2).val by omega)
  | 3 => exact Fin.ext (show 0 + 1 * (x 3).val = (x 3).val by omega)

/-! ## Points-to, cut along regions -/

section Cut
variable {ℓ : Loc nD τ sig} {q : PosShare TreeShare} {f g : Buf (Elt F) ℓ} {I J K : Finset (Idx ℓ)}

omit [FloatOps F] in
/-- A region cut in two disjoint parts. -/
theorem pts_cut (h : I = J ∪ K) (hd : Disjoint J K) :
    (ℓ ↦[I]{q} f : sProp 𝕄) = iprop((ℓ ↦[J]{q} f) ∗ (ℓ ↦[K]{q} f)) := by
  rw [h]; exact (pointsTo_union hd).1.antisymm (pointsTo_union hd).2
end Cut

/-- Device `c`'s buffer of partial products. -/
abbrev pLoc (c : Dev nD) : Loc nD τ sig := (c : Thread nD τ).loc cc0_scratch3
/-- Device `c`'s buffer of received partial products. -/
abbrev rLoc (c : Dev nD) : Loc nD τ sig := (c : Thread nD τ).loc cc0_scratch4
/-- Device `c`'s buffer of gathered activations. -/
abbrev xLoc (c : Dev nD) : Loc nD τ sig := (c : Thread nD τ).loc cc0_scratch5

/-- Blocks of `c`'s partial-product buffer at contents `f`. -/
def pR (q : PosShare TreeShare) (z l lo hi : ℕ) (c : Dev nD) (f : S3x8x64x256.Idx → Elt F .bf16) : sProp 𝕄 :=
  (pLoc c) ↦[(box4 z l lo hi : Finset S3x8x64x256.Idx)]{q} f
/-- Blocks of `c`'s receive buffer at contents `f`. -/
def rR (q : PosShare TreeShare) (z l lo hi : ℕ) (c : Dev nD) (f : S3x7x64x256.Idx → Elt F .bf16) : sProp 𝕄 :=
  (rLoc c) ↦[(box4 z l lo hi : Finset S3x7x64x256.Idx)]{q} f
/-- Blocks of `c`'s activation buffer at contents `f`. -/
def xR (q : PosShare TreeShare) (z l lo hi : ℕ) (c : Dev nD) (f : S2x8x64x256.Idx → Elt F .bf16) : sProp 𝕄 :=
  (xLoc c) ↦[(box4 z l lo hi : Finset S2x8x64x256.Idx)]{q} f

section Split
variable (q : PosShare TreeShare) {z l lo : ℕ} (mid : ℕ) {hi : ℕ} (c : Dev nD)

omit [FloatOps F] in
theorem pR_cut (f : S3x8x64x256.Idx → Elt F .bf16) (h₁ : lo ≤ mid) (h₂ : mid ≤ hi) : pR q z l lo hi c f = iprop(pR q z l lo mid c f ∗ pR q z l mid hi c f) := by
  unfold pR; exact pts_cut (box4_union h₁ h₂) box4_disjoint
omit [FloatOps F] in
theorem rR_cut (f : S3x7x64x256.Idx → Elt F .bf16) (h₁ : lo ≤ mid) (h₂ : mid ≤ hi) : rR q z l lo hi c f = iprop(rR q z l lo mid c f ∗ rR q z l mid hi c f) := by
  unfold rR; exact pts_cut (box4_union h₁ h₂) box4_disjoint
omit [FloatOps F] in
theorem xR_cut (f : S2x8x64x256.Idx → Elt F .bf16) (h₁ : lo ≤ mid) (h₂ : mid ≤ hi) : xR q z l lo hi c f = iprop(xR q z l lo mid c f ∗ xR q z l mid hi c f) := by
  unfold xR; exact pts_cut (box4_union h₁ h₂) box4_disjoint
end Split

/-! ## The blocks the transfers move -/

/-- Block `j` of row `l` of the partial products. -/
abbrev pM (l j : ℕ) (hl : l < 3) (hj : j + 1 ≤ 8) : Memref sig .tc .vmem S1x64x256 .bf16 :=
  ((Memref.whole cc0_scratch3).slice (Rect.unit (s := S3x8x64x256) ![l, j, 0, 0] S1x1x64x256.size (inb4 hl hj)) (fun _ => rfl)).squeeze
    S1x64x256 squeezes_S1x1x64x256_S1x64x256
/-- Block `j` of row `l` of the received partial products. -/
abbrev rM (l j : ℕ) (hl : l < 3) (hj : j + 1 ≤ 7) : Memref sig .tc .vmem S1x64x256 .bf16 :=
  ((Memref.whole cc0_scratch4).slice (Rect.unit (s := S3x7x64x256) ![l, j, 0, 0] S1x1x64x256.size (inb4 hl hj)) (fun _ => rfl)).squeeze
    S1x64x256 squeezes_S1x1x64x256_S1x64x256
/-- Block `j` of row `l` of the gathered activations. -/
abbrev xM (l j : ℕ) (hl : l < 2) (hj : j + 1 ≤ 8) : Memref sig .tc .vmem S1x64x256 .bf16 :=
  ((Memref.whole cc0_scratch5).slice (Rect.unit (s := S2x8x64x256) ![l, j, 0, 0] S1x1x64x256.size (inb4 hl hj)) (fun _ => rfl)).squeeze
    S1x64x256 squeezes_S1x1x64x256_S1x64x256

section Blocks
variable (c : Dev nD) (q : PosShare TreeShare) {l j z lo : ℕ}

omit [FloatOps F] in
theorem pM_pts (hl : l < 3) (hj : j + 1 ≤ 8) (hb : ∀ b, b < 8 → ((j ≤ b ∧ b < j + 1) ↔ (lo ≤ (b + 8 - z) % 8 ∧ (b + 8 - z) % 8 < lo + 1)))
    (f : Buf (Elt F) ((pM l j hl hj).view.loc (c : Thread nD τ))) :
    ((pM l j hl hj).view.loc (c : Thread nD τ) ↦[(pM l j hl hj).view.set]{q} f : sProp 𝕄) = pR q z l lo (lo + 1) c f := by
  have h : (pM l j hl hj).view.set = (box4 z l lo (lo + 1) : Finset S3x8x64x256.Idx) :=
    (View.set_reshape _ _).trans ((View.set_slice_whole _ _).trans (rect_box (inb4 hl hj) hb))
  unfold pR; rw [← h]
omit [FloatOps F] in
theorem rM_pts (hl : l < 3) (hj : j + 1 ≤ 7) (hb : ∀ b, b < 7 → ((j ≤ b ∧ b < j + 1) ↔ (lo ≤ (b + 8 - z) % 8 ∧ (b + 8 - z) % 8 < lo + 1)))
    (f : Buf (Elt F) ((rM l j hl hj).view.loc (c : Thread nD τ))) :
    ((rM l j hl hj).view.loc (c : Thread nD τ) ↦[(rM l j hl hj).view.set]{q} f : sProp 𝕄) = rR q z l lo (lo + 1) c f := by
  have h : (rM l j hl hj).view.set = (box4 z l lo (lo + 1) : Finset S3x7x64x256.Idx) :=
    (View.set_reshape _ _).trans ((View.set_slice_whole _ _).trans (rect_box (inb4 hl hj) hb))
  unfold rR; rw [← h]
omit [FloatOps F] in
theorem xM_pts (hl : l < 2) (hj : j + 1 ≤ 8) (hb : ∀ b, b < 8 → ((j ≤ b ∧ b < j + 1) ↔ (lo ≤ (b + 8 - z) % 8 ∧ (b + 8 - z) % 8 < lo + 1)))
    (f : Buf (Elt F) ((xM l j hl hj).view.loc (c : Thread nD τ))) :
    ((xM l j hl hj).view.loc (c : Thread nD τ) ↦[(xM l j hl hj).view.set]{q} f : sProp 𝕄) = xR q z l lo (lo + 1) c f := by
  have h : (xM l j hl hj).view.set = (box4 z l lo (lo + 1) : Finset S2x8x64x256.Idx) :=
    (View.set_reshape _ _).trans ((View.set_slice_whole _ _).trans (rect_box (inb4 hl hj) hb))
  unfold xR; rw [← h]

/-- What a block holds, up to the block's re-indexing. -/
theorem pM_read (hl : l < 3) (hj : j + 1 ≤ 8) (f : S3x8x64x256.Idx → Elt F .bf16) :
    (pM l j hl hj).view.read (Elt F) f
      = fun x => ld4 f l j 1 hl hj (Shape.reshapeEquiv squeezes_S1x1x64x256_S1x64x256.numel_eq x) := by
  funext x; exact congrArg f (emb_unit4 _ hl hj _)
theorem rM_read (hl : l < 3) (hj : j + 1 ≤ 7) (f : S3x7x64x256.Idx → Elt F .bf16) :
    (rM l j hl hj).view.read (Elt F) f
      = fun x => ld4 f l j 1 hl hj (Shape.reshapeEquiv squeezes_S1x1x64x256_S1x64x256.numel_eq x) := by
  funext x; exact congrArg f (emb_unit4 _ hl hj _)
theorem xM_read (hl : l < 2) (hj : j + 1 ≤ 8) (f : S2x8x64x256.Idx → Elt F .bf16) :
    (xM l j hl hj).view.read (Elt F) f
      = fun x => ld4 f l j 1 hl hj (Shape.reshapeEquiv squeezes_S1x1x64x256_S1x64x256.numel_eq x) := by
  funext x; exact congrArg f (emb_unit4 _ hl hj _)

omit [FloatOps F] in
/-- A view rewritten by what `f` holds there is the view at `f`. -/
theorem write_read_pts {c : Dev nD} {sp : Space} {s : Shape} {e : EltTy} (v : View sig .tc sp s e)
    (fd f : Buf (Elt F) (v.loc (c : Thread nD τ))) (w : s.Idx → Elt F e) (h : v.read (Elt F) f = w) :
    (v.loc (c : Thread nD τ) ↦[v.set]{q} (v.write (Elt F) fd w Finset.univ) : sProp 𝕄) = (v.loc (c : Thread nD τ) ↦[v.set]{q} f) := by
  subst h
  refine pointsTo_congr fun i hi => ?_
  obtain ⟨x, -, rfl⟩ := Finset.mem_map.mp hi
  have h1 := congrFun (v.read_write_univ (Val := Elt F) fd (v.read (Elt F) f)) x
  exact (cast_inj _).1 h1
end Blocks

/-! ## Loads and stores -/

section Access
variable {α : Type} (c : Dev nD) {Q : α → sProp (MT nD τ sig Unit (Elt F) ℕ UU ℕ)}

omit [FloatOps F] in
theorem read_p {l j w : ℕ} (hl : l < 3) (hj : j + w ≤ 8) (inb) (f : S3x8x64x256.Idx → Elt F .bf16) :
    (Memref.whole cc0_scratch3 : Memref sig .tc .vmem S3x8x64x256 .bf16).view.readAt (Elt F)
      (Rect.unit (s := S3x8x64x256) ![l, j, 0, 0] ![1, w, 64, 256] inb).toLoadRect f = ld4 f l j w hl hj := by
  funext x; exact congrArg f (emb_unit4 inb hl hj x)
omit [FloatOps F] in
theorem read_r {l j w : ℕ} (hl : l < 3) (hj : j + w ≤ 7) (inb) (f : S3x7x64x256.Idx → Elt F .bf16) :
    (Memref.whole cc0_scratch4 : Memref sig .tc .vmem S3x7x64x256 .bf16).view.readAt (Elt F)
      (Rect.unit (s := S3x7x64x256) ![l, j, 0, 0] ![1, w, 64, 256] inb).toLoadRect f = ld4 f l j w hl hj := by
  funext x; exact congrArg f (emb_unit4 inb hl hj x)
omit [FloatOps F] in
theorem read_x {l j w : ℕ} (hl : l < 2) (hj : j + w ≤ 8) (inb) (f : S2x8x64x256.Idx → Elt F .bf16) :
    (Memref.whole cc0_scratch5 : Memref sig .tc .vmem S2x8x64x256 .bf16).view.readAt (Elt F)
      (Rect.unit (s := S2x8x64x256) ![l, j, 0, 0] ![1, w, 64, 256] inb).toLoadRect f = ld4 f l j w hl hj := by
  funext x; exact congrArg f (emb_unit4 inb hl hj x)

/-- A load of `w` blocks of the partial products held among others. -/
theorem load_p {l j w z lo hi : ℕ} (hl : l < 3) (hj : j + w ≤ 8)
    (hb : ∀ b, b < 8 → j ≤ b ∧ b < j + w → lo ≤ (b + 8 - z) % 8 ∧ (b + 8 - z) % 8 < hi)
    {off : Fin 4 → ℕ} (hoff : off = ![l, j, 0, 0]) (inb) {hld}
    {q : PosShare TreeShare} {f : S3x8x64x256.Idx → Elt F .bf16} {k} :
    pR q z l lo hi c f ⊢ iprop((pR q z l lo hi c f -∗ Wp c (k (ld4 f l j w hl hj)) Q)
      -∗ Wp c (.op (.load (Memref.whole cc0_scratch3 : Memref sig .tc .vmem S3x8x64x256 .bf16)
          (Rect.unit (s := S3x8x64x256) off ![1, w, 64, 256] inb).toLoadRect hld) k) Q) := by
  subst hoff
  rw [← read_p hl hj inb f]
  refine wp_load 𝒱₀ (c : Thread nD τ) none Set.univ (m := Memref.whole cc0_scratch3) ?_
  intro i hi
  have hi' : i ∈ (Rect.unit (s := S3x8x64x256) ![l, j, 0, 0] ![1, w, 64, 256] inb).set := by
    obtain ⟨y, hy, rfl⟩ := Finset.mem_map.mp hi; exact hy
  have h0 : l ≤ (i 0).val ∧ (i 0).val < l + 1 := Rect.mem_set_unit.mp hi' 0
  have h1 : j ≤ (i 1).val ∧ (i 1).val < j + w := Rect.mem_set_unit.mp hi' 1
  exact mem_box4.mpr ⟨by omega, hb _ (i 1).isLt h1⟩

/-- A load of `w` blocks of the received partial products held among others. -/
theorem load_r {l j w z lo hi : ℕ} (hl : l < 3) (hj : j + w ≤ 7)
    (hb : ∀ b, b < 7 → j ≤ b ∧ b < j + w → lo ≤ (b + 8 - z) % 8 ∧ (b + 8 - z) % 8 < hi) (inb) {hld}
    {q : PosShare TreeShare} {f : S3x7x64x256.Idx → Elt F .bf16} {k} :
    rR q z l lo hi c f ⊢ iprop((rR q z l lo hi c f -∗ Wp c (k (ld4 f l j w hl hj)) Q)
      -∗ Wp c (.op (.load (Memref.whole cc0_scratch4 : Memref sig .tc .vmem S3x7x64x256 .bf16)
          (Rect.unit (s := S3x7x64x256) ![l, j, 0, 0] ![1, w, 64, 256] inb).toLoadRect hld) k) Q) := by
  rw [← read_r hl hj inb f]
  refine wp_load 𝒱₀ (c : Thread nD τ) none Set.univ (m := Memref.whole cc0_scratch4) ?_
  intro i hi
  have hi' : i ∈ (Rect.unit (s := S3x7x64x256) ![l, j, 0, 0] ![1, w, 64, 256] inb).set := by
    obtain ⟨y, hy, rfl⟩ := Finset.mem_map.mp hi; exact hy
  have h0 : l ≤ (i 0).val ∧ (i 0).val < l + 1 := Rect.mem_set_unit.mp hi' 0
  have h1 : j ≤ (i 1).val ∧ (i 1).val < j + w := Rect.mem_set_unit.mp hi' 1
  exact mem_box4.mpr ⟨by omega, hb _ (i 1).isLt h1⟩

/-- A load of `w` blocks of the gathered activations held among others. -/
theorem load_x {l j w z lo hi : ℕ} (hl : l < 2) (hj : j + w ≤ 8)
    (hb : ∀ b, b < 8 → j ≤ b ∧ b < j + w → lo ≤ (b + 8 - z) % 8 ∧ (b + 8 - z) % 8 < hi) (inb) {hld}
    {q : PosShare TreeShare} {f : S2x8x64x256.Idx → Elt F .bf16} {k} :
    xR q z l lo hi c f ⊢ iprop((xR q z l lo hi c f -∗ Wp c (k (ld4 f l j w hl hj)) Q)
      -∗ Wp c (.op (.load (Memref.whole cc0_scratch5 : Memref sig .tc .vmem S2x8x64x256 .bf16)
          (Rect.unit (s := S2x8x64x256) ![l, j, 0, 0] ![1, w, 64, 256] inb).toLoadRect hld) k) Q) := by
  rw [← read_x hl hj inb f]
  refine wp_load 𝒱₀ (c : Thread nD τ) none Set.univ (m := Memref.whole cc0_scratch5) ?_
  intro i hi
  have hi' : i ∈ (Rect.unit (s := S2x8x64x256) ![l, j, 0, 0] ![1, w, 64, 256] inb).set := by
    obtain ⟨y, hy, rfl⟩ := Finset.mem_map.mp hi; exact hy
  have h0 : l ≤ (i 0).val ∧ (i 0).val < l + 1 := Rect.mem_set_unit.mp hi' 0
  have h1 : j ≤ (i 1).val ∧ (i 1).val < j + w := Rect.mem_set_unit.mp hi' 1
  exact mem_box4.mpr ⟨by omega, hb _ (i 1).isLt h1⟩

/-- A store of `w` blocks of partial products, held at any contents: they then hold `g`, whose blocks these are. -/
theorem store_p {l j w z lo hi : ℕ} (hl : l < 3) (hj : j + w ≤ 8)
    (hb : ∀ b, b < 8 → ((j ≤ b ∧ b < j + w) ↔ (lo ≤ (b + 8 - z) % 8 ∧ (b + 8 - z) % 8 < hi))) (inb) {hx hm}
    (f g : S3x8x64x256.Idx → Elt F .bf16) {v : (⟨4, ![1, w, 64, 256]⟩ : Shape).Idx → Elt F .bf16} (hg : ld4 g l j w hl hj = v) {k} :
    pR fullShare z l lo hi c f ⊢ iprop((pR fullShare z l lo hi c g -∗ Wp c (k ⟨⟩) Q)
      -∗ Wp c (.op (.store (Memref.whole cc0_scratch3 : Memref sig .tc .vmem S3x8x64x256 .bf16)
          (Rect.unit (s := S3x8x64x256) ![l, j, 0, 0] ![1, w, 64, 256] inb) v Finset.univ hx hm) k) Q) := by
  have hs : ((Memref.whole cc0_scratch3 : Memref sig .tc .vmem S3x8x64x256 .bf16).access
      (Rect.unit (s := S3x8x64x256) ![l, j, 0, 0] ![1, w, 64, 256] inb)).set = (box4 z l lo hi : Finset S3x8x64x256.Idx) :=
    (View.set_slice_whole _ _).trans (rect_box inb hb)
  have hw := write_read_pts (F := F) (q := fullShare) (c := c) ((Memref.whole cc0_scratch3 : Memref sig .tc .vmem S3x8x64x256 .bf16).access
      (Rect.unit (s := S3x8x64x256) ![l, j, 0, 0] ![1, w, 64, 256] inb)) f g v ((read_p hl hj inb g).trans hg)
  unfold pR
  rw [← hs]
  refine (wp_store 𝒱₀ (c : Thread nD τ) none Set.univ (m := Memref.whole cc0_scratch3)
    (r := Rect.unit (s := S3x8x64x256) ![l, j, 0, 0] ![1, w, 64, 256] inb) (w := v) (Mk := Finset.univ) (f := f) (hx := hx) (hm := hm) (k := k)
    (Finset.Subset.refl _)).trans (wand_mono_left (wand_mono_left (Entails.of_eq hw)))

/-- A store of `w` blocks of activations, held at any contents: they then hold `g`, whose blocks these are. -/
theorem store_x {l j w z lo hi : ℕ} (hl : l < 2) (hj : j + w ≤ 8)
    (hb : ∀ b, b < 8 → ((j ≤ b ∧ b < j + w) ↔ (lo ≤ (b + 8 - z) % 8 ∧ (b + 8 - z) % 8 < hi))) (inb) {hx hm}
    (f g : S2x8x64x256.Idx → Elt F .bf16) {v : (⟨4, ![1, w, 64, 256]⟩ : Shape).Idx → Elt F .bf16} (hg : ld4 g l j w hl hj = v) {k} :
    xR fullShare z l lo hi c f ⊢ iprop((xR fullShare z l lo hi c g -∗ Wp c (k ⟨⟩) Q)
      -∗ Wp c (.op (.store (Memref.whole cc0_scratch5 : Memref sig .tc .vmem S2x8x64x256 .bf16)
          (Rect.unit (s := S2x8x64x256) ![l, j, 0, 0] ![1, w, 64, 256] inb) v Finset.univ hx hm) k) Q) := by
  have hs : ((Memref.whole cc0_scratch5 : Memref sig .tc .vmem S2x8x64x256 .bf16).access
      (Rect.unit (s := S2x8x64x256) ![l, j, 0, 0] ![1, w, 64, 256] inb)).set = (box4 z l lo hi : Finset S2x8x64x256.Idx) :=
    (View.set_slice_whole _ _).trans (rect_box inb hb)
  have hw := write_read_pts (F := F) (q := fullShare) (c := c) ((Memref.whole cc0_scratch5 : Memref sig .tc .vmem S2x8x64x256 .bf16).access
      (Rect.unit (s := S2x8x64x256) ![l, j, 0, 0] ![1, w, 64, 256] inb)) f g v ((read_x hl hj inb g).trans hg)
  unfold xR
  rw [← hs]
  refine (wp_store 𝒱₀ (c : Thread nD τ) none Set.univ (m := Memref.whole cc0_scratch5)
    (r := Rect.unit (s := S2x8x64x256) ![l, j, 0, 0] ![1, w, 64, 256] inb) (w := v) (Mk := Finset.univ) (f := f) (hx := hx) (hm := hm) (k := k)
    (Finset.Subset.refl _)).trans (wand_mono_left (wand_mono_left (Entails.of_eq hw)))

end Access

end Cert.TpMlp

end
-- ==== Proof.Weights.lean ====
/-
# The weight buffers

Each weight buffer holds one block per layer. The kernel fills the layers by local copies and loads each once.
-/
module

public import proofs.«01_k».proof.Proof.Regions

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Layer `l` of a three-axis buffer. -/
def box3 {n a b : ℕ} (l : ℕ) : Finset (⟨3, ![n, a, b]⟩ : Shape).Idx := Finset.univ.filter fun i => (i 0).val = l

theorem mem_box3 {n a b l : ℕ} {i : (⟨3, ![n, a, b]⟩ : Shape).Idx} : i ∈ box3 l ↔ (i 0).val = l := by
  unfold box3; rw [Finset.mem_filter]; exact and_iff_right (Finset.mem_univ _)

theorem inb3 {n a b l : ℕ} (hl : l < n) :
    ∀ x : Fin 3, (![l, 0, 0] : Fin 3 → ℕ) x + (![1, a, b] : Fin 3 → ℕ) x ≤ (![n, a, b] : Fin 3 → ℕ) x := by
  intro x
  match x with
  | 0 => exact hl
  | 1 => exact (Nat.zero_add a).le
  | 2 => exact (Nat.zero_add b).le

theorem rect_box3 {n a b l : ℕ}
    (inb : ∀ x : Fin 3, (![l, 0, 0] : Fin 3 → ℕ) x + (![1, a, b] : Fin 3 → ℕ) x ≤ (![n, a, b] : Fin 3 → ℕ) x) :
    (Rect.unit (s := ⟨3, ![n, a, b]⟩) ![l, 0, 0] ![1, a, b] inb).set = box3 l := by
  ext i
  rw [Rect.mem_set_unit, mem_box3]
  have h1 : (i 1).val < a := (i 1).isLt
  have h2 : (i 2).val < b := (i 2).isLt
  constructor
  · intro h
    have a0 : l ≤ (i 0).val ∧ (i 0).val < l + 1 := h 0
    omega
  · intro h x
    match x with
    | 0 => exact (show l ≤ (i 0).val ∧ (i 0).val < l + 1 by omega)
    | 1 => exact (show 0 ≤ (i 1).val ∧ (i 1).val < 0 + a by omega)
    | 2 => exact (show 0 ≤ (i 2).val ∧ (i 2).val < 0 + b by omega)

theorem emb_unit3 {n a b l : ℕ}
    (inb : ∀ x : Fin 3, (![l, 0, 0] : Fin 3 → ℕ) x + (![1, a, b] : Fin 3 → ℕ) x ≤ (![n, a, b] : Fin 3 → ℕ) x)
    (hl : l < n) (y : (⟨3, ![1, a, b]⟩ : Shape).Idx) :
    (Rect.unit (s := ⟨3, ![n, a, b]⟩) ![l, 0, 0] ![1, a, b] inb).emb y = ix3 ⟨l, hl⟩ (y 1) (y 2) := by
  have h0 : (y 0).val < 1 := (y 0).isLt
  funext x
  match x with
  | 0 => exact Fin.ext (show l + 1 * (y 0).val = l by omega)
  | 1 => exact Fin.ext (show 0 + 1 * (y 1).val = (y 1).val by omega)
  | 2 => exact Fin.ext (show 0 + 1 * (y 2).val = (y 2).val by omega)

/-- Layer `l` of `c`'s buffer of first weights at contents `f`. -/
def wiR (l : ℕ) (c : Dev nD) (f : S3x256x512.Idx → Elt F .f32) : sProp 𝕄 :=
  ((c : Thread nD τ).loc cc0_scratch1) ↦[(box3 l : Finset S3x256x512.Idx)]{fullShare} f
/-- Layer `l` of `c`'s buffer of second weights at contents `f`. -/
def woR (l : ℕ) (c : Dev nD) (f : S3x512x256.Idx → Elt F .f32) : sProp 𝕄 :=
  ((c : Thread nD τ).loc cc0_scratch2) ↦[(box3 l : Finset S3x512x256.Idx)]{fullShare} f

/-- The block of first weights of layer `l`. -/
abbrev wiM (l : ℕ) (hl : l < 3) : Memref sig .tc .vmem S256x512 .f32 :=
  ((Memref.whole cc0_scratch1).slice (Rect.unit (s := S3x256x512) ![l, 0, 0] S1x256x512.size (inb3 hl)) (fun _ => rfl)).squeeze
    S256x512 squeezes_S1x256x512_S256x512
/-- The block of second weights of layer `l`. -/
abbrev woM (l : ℕ) (hl : l < 3) : Memref sig .tc .vmem S512x256 .f32 :=
  ((Memref.whole cc0_scratch2).slice (Rect.unit (s := S3x512x256) ![l, 0, 0] S1x512x256.size (inb3 hl)) (fun _ => rfl)).squeeze
    S512x256 squeezes_S1x512x256_S512x256

section Pts
variable (c : Dev nD) {l : ℕ}
omit [FloatOps F] in
theorem wiM_pts (hl : l < 3) (f : Buf (Elt F) ((wiM l hl).view.loc (c : Thread nD τ))) :
    ((wiM l hl).view.loc (c : Thread nD τ) ↦[(wiM l hl).view.set]{fullShare} f : sProp 𝕄) = wiR l c f := by
  have h : (wiM l hl).view.set = (box3 l : Finset S3x256x512.Idx) :=
    (View.set_reshape _ _).trans ((View.set_slice_whole _ _).trans (rect_box3 (inb3 hl)))
  unfold wiR; rw [← h]
omit [FloatOps F] in
theorem woM_pts (hl : l < 3) (f : Buf (Elt F) ((woM l hl).view.loc (c : Thread nD τ))) :
    ((woM l hl).view.loc (c : Thread nD τ) ↦[(woM l hl).view.set]{fullShare} f : sProp 𝕄) = woR l c f := by
  have h : (woM l hl).view.set = (box3 l : Finset S3x512x256.Idx) :=
    (View.set_reshape _ _).trans ((View.set_slice_whole _ _).trans (rect_box3 (inb3 hl)))
  unfold woR; rw [← h]

/-- Layer `l`'s block of the filled buffer is the argument's block. -/
theorem wiM_read (m : (ℓ : Loc nD τ sig) → Buf (Elt F) ℓ) (hl : l < 3) :
    (wiM l hl).view.read (Elt F) (WI m c) = winA m ⟨l, hl⟩ c := by
  funext x
  obtain ⟨a, b, rfl⟩ : ∃ (a : Fin 256) (b : Fin 512), x = ix2 a b := ⟨x 0, x 1, eq_ix2 x⟩
  show WI m c ((Rect.unit (s := S3x256x512) ![l, 0, 0] S1x256x512.size (inb3 hl)).emb (Shape.reshapeEquiv _ (ix2 a b))) = _
  rw [reshapeEquiv_ix2_1ab]
  exact congrArg (WI m c) (emb_unit3 (inb3 hl) hl _)
theorem woM_read (m : (ℓ : Loc nD τ sig) → Buf (Elt F) ℓ) (hl : l < 3) :
    (woM l hl).view.read (Elt F) (WO m c) = woutA m ⟨l, hl⟩ c := by
  funext x
  obtain ⟨a, b, rfl⟩ : ∃ (a : Fin 512) (b : Fin 256), x = ix2 a b := ⟨x 0, x 1, eq_ix2 x⟩
  show WO m c ((Rect.unit (s := S3x512x256) ![l, 0, 0] S1x512x256.size (inb3 hl)).emb (Shape.reshapeEquiv _ (ix2 a b))) = _
  rw [reshapeEquiv_ix2_1ab]
  exact congrArg (WO m c) (emb_unit3 (inb3 hl) hl _)

variable {α : Type} {Q : α → sProp (MT nD τ sig Unit (Elt F) ℕ UU ℕ)}
theorem load_wi (hl : l < 3) (inb) {hld} {f : S3x256x512.Idx → Elt F .f32} {k} :
    wiR l c f ⊢ iprop((wiR l c f -∗ Wp c (k (ld3 f l hl)) Q)
      -∗ Wp c (.op (.load (Memref.whole cc0_scratch1 : Memref sig .tc .vmem S3x256x512 .f32)
          (Rect.unit (s := S3x256x512) ![l, 0, 0] ![1, 256, 512] inb).toLoadRect hld) k) Q) := by
  rw [← (show (Memref.whole cc0_scratch1 : Memref sig .tc .vmem S3x256x512 .f32).view.readAt (Elt F)
      (Rect.unit (s := S3x256x512) ![l, 0, 0] ![1, 256, 512] inb).toLoadRect f = ld3 f l hl from
        funext fun x => congrArg f (emb_unit3 inb hl x))]
  refine wp_load 𝒱₀ (c : Thread nD τ) none Set.univ (m := Memref.whole cc0_scratch1) ?_
  intro i hi
  rw [← rect_box3 inb]
  obtain ⟨y, hy, rfl⟩ := Finset.mem_map.mp hi; exact hy
theorem load_wo (hl : l < 3) (inb) {hld} {f : S3x512x256.Idx → Elt F .f32} {k} :
    woR l c f ⊢ iprop((woR l c f -∗ Wp c (k (ld3 f l hl)) Q)
      -∗ Wp c (.op (.load (Memref.whole cc0_scratch2 : Memref sig .tc .vmem S3x512x256 .f32)
          (Rect.unit (s := S3x512x256) ![l, 0, 0] ![1, 512, 256] inb).toLoadRect hld) k) Q) := by
  rw [← (show (Memref.whole cc0_scratch2 : Memref sig .tc .vmem S3x512x256 .f32).view.readAt (Elt F)
      (Rect.unit (s := S3x512x256) ![l, 0, 0] ![1, 512, 256] inb).toLoadRect f = ld3 f l hl from
        funext fun x => congrArg f (emb_unit3 inb hl x))]
  refine wp_load 𝒱₀ (c : Thread nD τ) none Set.univ (m := Memref.whole cc0_scratch2) ?_
  intro i hi
  rw [← rect_box3 inb]
  obtain ⟨y, hy, rfl⟩ := Finset.mem_map.mp hi; exact hy
end Pts

end Cert.TpMlp

end
-- ==== Proof.Protocol.lean ====
/-
# The protocol between the devices

Each device makes 35 remote transfers, numbered in the order they are issued: seven in each of five phases (scatter of
layer 0, gather of layer 0, scatter of layer 1, gather of layer 1, scatter of layer 2). Transfer `n` of device `c` goes
to the device `off n` places after `c`. A device first tells the seven others, through the barrier semaphore, that its
landing blocks are theirs to fill. Each transfer raises a send cell on its issuer, which gives the source back, and a
receive cell on its target, which hands over the landed block. Seven local copies fill the activations and the weights.

This module lists the cells, what each hands over, and the levels that order the waits.
-/
module

public import proofs.«01_k».proof.Proof.Weights

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) ℕ) (MT nD τ sig Unit (Elt F) ℕ UU ℕ) := embR

variable (m : (ℓ : Loc nD τ sig) → Buf (Elt F) ℓ)

/-! ## The transfers -/

/-- How far transfer `n` goes. -/
def off (n : ℕ) : ℕ := if n / 7 = 2 ∨ n / 7 = 4 then 7 - n % 7 else n % 7 + 1
theorem off_pos (n : ℕ) : 1 ≤ off n := by unfold off; split <;> omega
theorem off_le (n : ℕ) : off n ≤ 7 := by unfold off; split <;> omega

/-- The target of transfer `n` of device `c`. -/
def dst (n : ℕ) (c : Dev nD) : Dev nD := sh c (off n)

/-- What transfer `n` of device `c` reads. -/
def Src (n : ℕ) (c : Dev nD) : sProp 𝕄 :=
  match n / 7 with
  | 0 => pR fullShare c.val 0 (n % 7 + 1) (n % 7 + 1 + 1) c (PA m c)
  | 1 => xR (Transfers.shareTokN fullShare (n % 7)) 0 0 0 1 c (XA m c)
  | 2 => pR fullShare 0 1 (n % 7 + 1) (n % 7 + 1 + 1) c (PA m c)
  | 3 => xR (Transfers.shareTokN fullShare (n % 7)) 0 1 0 1 c (XA m c)
  | _ => pR fullShare 0 2 (n % 7 + 1) (n % 7 + 1 + 1) c (PA m c)

/-- Where transfer `n` lands on device `d`, at contents `f` or `g`. -/
def landAt (n : ℕ) (d : Dev nD) (f : S3x7x64x256.Idx → Elt F .bf16) (g : S2x8x64x256.Idx → Elt F .bf16) : sProp 𝕄 :=
  match n / 7 with
  | 0 => rR fullShare 0 0 (n % 7) (n % 7 + 1) d f
  | 1 => xR fullShare 0 0 (n % 7 + 1) (n % 7 + 1 + 1) d g
  | 2 => rR fullShare 0 1 (n % 7) (n % 7 + 1) d f
  | 3 => xR fullShare 0 1 (n % 7 + 1) (n % 7 + 1 + 1) d g
  | _ => rR fullShare 0 2 (n % 7) (n % 7 + 1) d f
/-- The landed block of transfer `n` on device `d`. -/
def Land (n : ℕ) (d : Dev nD) : sProp 𝕄 := landAt n d (RA m d) (XA m d)
/-- The landing block of transfer `n` on device `d`, at any contents. -/
def Slot (n : ℕ) (d : Dev nD) : sProp 𝕄 := iprop(∃ f g, landAt n d f g)

omit [FloatOps F] in
instance pR_storable (q z l lo hi) (c : Dev nD) (f) : BI.Storable (upEmb : UEmb _ 𝕄) (pR (F := F) q z l lo hi c f) := by unfold pR; infer_instance
omit [FloatOps F] in
instance rR_storable (q z l lo hi) (c : Dev nD) (f) : BI.Storable (upEmb : UEmb _ 𝕄) (rR (F := F) q z l lo hi c f) := by unfold rR; infer_instance
omit [FloatOps F] in
instance xR_storable (q z l lo hi) (c : Dev nD) (f) : BI.Storable (upEmb : UEmb _ 𝕄) (xR (F := F) q z l lo hi c f) := by unfold xR; infer_instance
omit [FloatOps F] in
instance wiR_storable (l) (c : Dev nD) (f) : BI.Storable (upEmb : UEmb _ 𝕄) (wiR (F := F) l c f) := by unfold wiR; infer_instance
omit [FloatOps F] in
instance woR_storable (l) (c : Dev nD) (f) : BI.Storable (upEmb : UEmb _ 𝕄) (woR (F := F) l c f) := by unfold woR; infer_instance
instance Src_storable (n) (c : Dev nD) : BI.Storable (upEmb : UEmb _ 𝕄) (Src m n c) := by unfold Src; split <;> infer_instance
omit [FloatOps F] in
instance landAt_storable (n) (c : Dev nD) (f g) : BI.Storable (upEmb : UEmb _ 𝕄) (landAt (F := F) n c f g) := by unfold landAt; split <;> infer_instance
instance Land_storable (n) (c : Dev nD) : BI.Storable (upEmb : UEmb _ 𝕄) (Land m n c) := by unfold Land; infer_instance
omit [FloatOps F] in
instance Slot_storable (n) (c : Dev nD) : BI.Storable (upEmb : UEmb _ 𝕄) (Slot (F := F) n c) := by unfold Slot; infer_instance

/-- What the `i`-th local copy hands back: the argument it read and the filled block. -/
def LoadPay (i : ℕ) (c : Dev nD) : sProp 𝕄 :=
  match i with
  | 0 => iprop((((c : Thread nD τ).loc main_arg0) ↦{fullShare} m _) ∗ (((c : Thread nD τ).loc cc0_scratch0) ↦{fullShare} xA m c))
  | 1 => iprop((((c : Thread nD τ).loc main_arg1) ↦{fullShare} m _) ∗ wiR 0 c (WI m c))
  | 2 => iprop((((c : Thread nD τ).loc main_arg4) ↦{fullShare} m _) ∗ woR 0 c (WO m c))
  | 3 => iprop((((c : Thread nD τ).loc main_arg2) ↦{fullShare} m _) ∗ wiR 1 c (WI m c))
  | 4 => iprop((((c : Thread nD τ).loc main_arg5) ↦{fullShare} m _) ∗ woR 1 c (WO m c))
  | 5 => iprop((((c : Thread nD τ).loc main_arg3) ↦{fullShare} m _) ∗ wiR 2 c (WI m c))
  | _ => iprop((((c : Thread nD τ).loc main_arg6) ↦{fullShare} m _) ∗ woR 2 c (WO m c))
instance LoadPay_storable (i) (c : Dev nD) : BI.Storable (upEmb : UEmb _ 𝕄) (LoadPay m i c) := by unfold LoadPay; split <;> infer_instance

/-- What the `k`-th raise of `c`'s barrier cell hands over: the landing blocks, on the device that raised it, of the
    transfers `c` makes to it. -/
def BarPay (k : ℕ) (c : Dev nD) : sProp 𝕄 :=
  bigSep ((Finset.Ico 0 35).filter fun n => off n = 7 - k) fun n => Slot (F := F) n (dst n c)
omit [FloatOps F] in
instance BarPay_storable (k) (c : Dev nD) : BI.Storable (upEmb : UEmb _ 𝕄) (BarPay (F := F) k c) := by unfold BarPay; infer_instance

/-! ## The cells -/

abbrev barS : Sem sig := (SemArray.scalar (sig.barrier 0 rfl) : Sems sig S_).sem
/-- DMA semaphore number `v`. -/
def dS (v : ℕ) : DmaSem sig := (Fin.ofNat 92 v : Fin 92)
theorem dS_val {v : ℕ} (h : v < 92) : (dS v).val = v := Nat.mod_eq_of_lt h
abbrev barCell (c : Dev nD) : GSem nD τ sig := ((c : Thread nD τ), .reg barS)
abbrev dCell (v : ℕ) (c : Dev nD) : GSem nD τ sig := ((c : Thread nD τ), .dma (dS v))
/-- The cell of the `i`-th local copy. -/
abbrev loadCell (i : ℕ) (c : Dev nD) : GSem nD τ sig := dCell (1 + i) c
/-- The cell that transfer `n` raises on its issuer. -/
abbrev sendCell (n : ℕ) (c : Dev nD) : GSem nD τ sig := dCell (8 + n) c
/-- The cell that transfer `n` raises on its target. -/
abbrev recvCell (n : ℕ) (c : Dev nD) : GSem nD τ sig := dCell (50 + n) c

/-- The credit of one 64 × 256 block. -/
abbrev N : ℕ := (pM 0 0 (by decide) (by decide)).view.dmaCredit
/-- The credit of a local copy. -/
abbrev NL : ℕ := (Memref.whole cc0_scratch0 : Memref sig .tc .vmem S512x256 .f32).view.dmaCredit
theorem N_pos : 0 < N := View.dmaCredit_pos _ (by decide)
theorem NL_pos : 0 < NL := View.dmaCredit_pos _ (by decide)

/-- The DMA semaphores in use. -/
def used (v : ℕ) : Prop := (1 ≤ v ∧ v < 43) ∨ (50 ≤ v ∧ v < 85)
instance (v : ℕ) : Decidable (used v) := by unfold used; infer_instance

/-- One round: the barrier cell is raised seven times, every used DMA cell once. -/
def Rd : Rounds.Schedule (GSem nD τ sig) ℕ 𝕄 where
  duties g r := if r = 0 ∧ g.1.2 = .tc then (match g.2 with | .reg s => if s = barS then Finset.Ico 0 7 else ∅ | .dma q => if used q.val then {0} else ∅) else ∅
  unitless _ := False
  amount g _ _ := match g.2 with | .reg _ => 1 | .dma q => if q.val < 8 then NL else N
  payload g _ d := match g.2 with
    | .reg _ => BarPay d g.1.1
    | .dma q => if q.val < 8 then LoadPay m (q.val - 1) g.1.1 else if q.val < 50 then Src m (q.val - 8) g.1.1 else Land m (q.val - 50) g.1.1
  amount_pos g _ _ _ := by
    split
    · exact Nat.one_pos
    · split
      · exact NL_pos
      · exact N_pos

instance Rd_payload_storable (g : GSem nD τ sig) (r : ℕ) (d : ℕ) : BI.Storable (upEmb : UEmb _ 𝕄) ((Rd m).payload g r d) := by
  show BI.Storable upEmb (match g.2 with
    | .reg _ => BarPay d g.1.1
    | .dma q => if q.val < 8 then LoadPay m (q.val - 1) g.1.1 else if q.val < 50 then Src m (q.val - 8) g.1.1 else Land m (q.val - 50) g.1.1)
  (repeat' split) <;> infer_instance

section Sched
variable (c : Dev nD)

theorem duties_later (g : GSem nD τ sig) : ∀ r, 1 ≤ r → (Rd m).duties g r = ∅ :=
  fun r hr => if_neg fun h => by omega
theorem duties_bar : (Rd m).duties (barCell c) 0 = Finset.Ico 0 7 := by
  dsimp only [Rd]; rw [if_pos ⟨rfl, rfl⟩, if_pos rfl]
theorem duties_d {v : ℕ} (hv : v < 92) (hu : used v) : (Rd m).duties (dCell v c) 0 = {0} := by
  dsimp only [Rd]; rw [if_pos ⟨rfl, rfl⟩, dS_val hv, if_pos hu]
theorem amount_bar (d : ℕ) : (Rd m).amount (barCell c) 0 d = 1 := rfl
theorem amount_d {v : ℕ} (hv : v < 92) : (Rd m).amount (dCell v c) 0 0 = if v < 8 then NL else N := by
  show (if (dS v).val < 8 then NL else N) = _
  rw [dS_val hv]
theorem amount_send {n : ℕ} (hn : n < 35) : (Rd m).amount (sendCell n c) 0 0 = N := by rw [amount_d m c (by omega), if_neg (by omega)]
theorem amount_recv {n : ℕ} (hn : n < 35) : (Rd m).amount (recvCell n c) 0 0 = N := by rw [amount_d m c (by omega), if_neg (by omega)]
theorem amount_load {i : ℕ} (hi : i < 7) : (Rd m).amount (loadCell i c) 0 0 = NL := by rw [amount_d m c (by omega), if_pos (by omega)]
theorem expect_bar : (Rd m).expect (barCell c) 0 = 7 := by
  unfold Schedule.expect Schedule.amountOf; rw [duties_bar]; rfl
theorem expect_d {v : ℕ} (hv : v < 92) (hu : used v) : (Rd m).expect (dCell v c) 0 = if v < 8 then NL else N := by
  unfold Schedule.expect Schedule.amountOf; rw [duties_d m c hv hu, Finset.sum_singleton, amount_d m c hv]
theorem payload_bar (d : ℕ) : (Rd m).payload (barCell c) 0 d = BarPay d c := rfl
theorem payload_d {v : ℕ} (hv : v < 92) : (Rd m).payload (dCell v c) 0 0
    = if v < 8 then LoadPay m (v - 1) c else if v < 50 then Src m (v - 8) c else Land m (v - 50) c := by
  show (if (dS v).val < 8 then LoadPay m ((dS v).val - 1) c else if (dS v).val < 50 then Src m ((dS v).val - 8) c else Land m ((dS v).val - 50) c) = _
  rw [dS_val hv]
theorem payload_send {n : ℕ} (hn : n < 35) : (Rd m).payload (sendCell n c) 0 0 = Src m n c := by
  rw [payload_d m c (by omega), if_neg (by omega), if_pos (by omega), Nat.add_sub_cancel_left]
theorem payload_recv {n : ℕ} (hn : n < 35) : (Rd m).payload (recvCell n c) 0 0 = Land m n c := by
  rw [payload_d m c (by omega), if_neg (by omega), if_neg (by omega), Nat.add_sub_cancel_left]
theorem payload_load {i : ℕ} (hi : i < 7) : (Rd m).payload (loadCell i c) 0 0 = LoadPay m i c := by
  rw [payload_d m c (by omega), if_pos (by omega), Nat.add_sub_cancel_left]
theorem rest_d {v : ℕ} (hv : v < 92) (hu : used v) :
    bigSep ((Rd m).duties (dCell v c) 0 \ ∅) (fun d => (Rd m).payload (dCell v c) 0 d) = (Rd m).payload (dCell v c) 0 0 := by
  rw [Finset.sdiff_empty, duties_d m c hv hu, bigSep_singleton]
theorem rest_bar : bigSep ((Rd m).duties (barCell c) 0 \ ∅) (fun d => (Rd m).payload (barCell c) 0 d)
    = bigSep (Finset.Ico 0 7) fun k => BarPay k c := by
  rw [Finset.sdiff_empty, duties_bar]; rfl

end Sched

/-! ## What a device owes, and the levels -/

/-- What device `c` owes the receive cells of its targets once `s` transfers are issued. -/
def Orem (c : Dev nD) (s : ℕ) : CellTallies nD τ sig Unit := ∑ n ∈ Finset.Ico s 35, tallyAt (recvCell n (dst n c)) () N
/-- What device `c` owes the others' barrier cells once `b` of them are told. -/
def Obar (c : Dev nD) (b : ℕ) : CellTallies nD τ sig Unit := ∑ k ∈ Finset.Ico b 7, tallyAt (barCell (sh c (k + 1))) () 1
/-- What device `c` owes at the start. -/
def O₀ (c : Dev nD) : CellTallies nD τ sig Unit := Orem c 0 + Obar c 0

theorem sum_Ico_bot {A : Type} [AddCommMonoid A] {a b : ℕ} (h : a < b) (f : ℕ → A) :
    ∑ n ∈ Finset.Ico a b, f n = ∑ n ∈ Finset.Ico (a + 1) b, f n + f a := by
  rw [show Finset.Ico a b = insert a (Finset.Ico (a + 1) b) by ext x; simp only [Finset.mem_Ico, Finset.mem_insert]; omega,
    Finset.sum_insert (by rw [Finset.mem_Ico]; omega), add_comm]

theorem Orem_step (c : Dev nD) {s : ℕ} (hs : s < 35) : Orem c s = Orem c (s + 1) + tallyAt (recvCell s (dst s c)) () N := by
  unfold Orem; exact sum_Ico_bot hs _
theorem Obar_step (c : Dev nD) {b : ℕ} (hb : b < 7) : Obar c b = Obar c (b + 1) + tallyAt (barCell (sh c (b + 1))) () 1 := by
  unfold Obar; exact sum_Ico_bot hb _
theorem Orem_last (c : Dev nD) : Orem c 35 = 0 := by unfold Orem; rw [Finset.Ico_self, Finset.sum_empty]
theorem Obar_last (c : Dev nD) : Obar c 7 = 0 := by unfold Obar; rw [Finset.Ico_self, Finset.sum_empty]

theorem tally_pos {s : Finset ℕ} {g : ℕ → GSem nD τ sig} {a : ℕ} {h : GSem nD τ sig} {u : Unit}
    (H : 0 < (∑ n ∈ s, (tallyAt (g n) () a : CellTallies nD τ sig Unit)) h u) : ∃ n ∈ s, h = g n := by
  rw [Finset.sum_apply, Finsupp.finset_sum_apply] at H
  obtain ⟨n, hn, h1⟩ := Finset.exists_ne_zero_of_sum_ne_zero H.ne'
  exact ⟨n, hn, (Pipeline.tallyAt_pos (Nat.pos_of_ne_zero h1)).1⟩
theorem Orem_pos {c : Dev nD} {s : ℕ} {g : GSem nD τ sig} {u : Unit} (h : 0 < Orem c s g u) : ∃ n, s ≤ n ∧ n < 35 ∧ g = recvCell n (dst n c) := by
  obtain ⟨n, hn, e⟩ := tally_pos h
  exact ⟨n, (Finset.mem_Ico.mp hn).1, (Finset.mem_Ico.mp hn).2, e⟩
theorem Obar_pos {c : Dev nD} {b : ℕ} {g : GSem nD τ sig} {u : Unit} (h : 0 < Obar c b g u) : ∃ d, g = barCell d := by
  obtain ⟨n, hn, e⟩ := tally_pos h
  exact ⟨_, e⟩

def L (g : GSem nD τ sig) : Finset Unit := if g.1.2 = .tc then {()} else ∅
def lev (s : SemLoc sig) : ℕ := match s with | .reg _ => 1 | .dma q => if q.val < 50 then 0 else 2 + (q.val - 50) / 7
def lv (g : GSem nD τ sig) (_ : Unit) : ℕ := lev g.2
theorem L_of_ne (g : GSem nD τ sig) (h : g.1.2 ≠ .tc) : L g = ∅ := if_neg h
theorem L_tc (c : Dev nD) (sm : SemLoc sig) : L ((c : Thread nD τ), sm) = {()} := if_pos rfl
theorem lev_recv {n : ℕ} (hn : n < 35) : lev (.dma (dS (50 + n))) = 2 + n / 7 := by
  show (if (dS (50 + n)).val < 50 then 0 else 2 + ((dS (50 + n)).val - 50) / 7) = _
  rw [dS_val (by omega), if_neg (by omega), Nat.add_sub_cancel_left]
theorem lev_low {v : ℕ} (hv : v < 50) : lev (.dma (dS v)) = 0 := by
  show (if (dS v).val < 50 then 0 else _) = _
  rw [dS_val (by omega), if_pos hv]

omit [FloatOps F] in
/-- A wait on a cell of a level below those of the transfers still to issue. -/
theorem mayWait (c : Dev nD) (sm : SemLoc sig) (s : ℕ) (h : ∀ n, s ≤ n → n < 35 → lev sm < 2 + n / 7) :
    (levAts L lv : sProp 𝕄) ⊢ MayWait (c : Thread nD τ) sm () (Orem c s) := by
  refine MayOwe.of_cut (L := L) (lev := lv) (lev sm) (fun p hp => by rw [Finset.mem_singleton.mp hp, L_tc]; exact Finset.mem_singleton_self _)
    (fun g u hg => by obtain ⟨n, _, _, rfl⟩ := Orem_pos hg; exact Finset.mem_singleton_self _)
    (fun p hp => by rw [Finset.mem_singleton.mp hp]; exact Nat.le_refl _)
    (fun g u hg => by
      obtain ⟨n, h1, h2, rfl⟩ := Orem_pos hg
      show lev sm < lev (.dma (dS (50 + n)))
      rw [lev_recv h2]; exact h n h1 h2)

omit [FloatOps F] in
/-- A wait on a staging cell, before anything is issued or after everything is. -/
theorem mayWait_stage (c : Dev nD) (q : DmaSem sig) (hq : q.val < 50) (O : CellTallies nD τ sig Unit) (hO : O = O₀ c ∨ O = 0) :
    (levAts L lv : sProp 𝕄) ⊢ MayWait (c : Thread nD τ) (.dma q) () O := by
  have hl : lev (.dma q) = 0 := if_pos hq
  have key (g : GSem nD τ sig) (u : Unit) (hg : 0 < O₀ c g u) : (∃ n, n < 35 ∧ g = recvCell n (dst n c)) ∨ ∃ d, g = barCell d := by
    unfold O₀ at hg
    rw [Pi.add_apply, Finsupp.add_apply] at hg
    rcases Nat.eq_zero_or_pos (Orem c 0 g u) with h0 | h0
    · rw [h0, Nat.zero_add] at hg; exact Or.inr (Obar_pos hg)
    · obtain ⟨n, _, h2, e⟩ := Orem_pos h0; exact Or.inl ⟨n, h2, e⟩
  rcases hO with rfl | rfl
  · refine MayOwe.of_cut (L := L) (lev := lv) 0 (fun p hp => by rw [Finset.mem_singleton.mp hp, L_tc]; exact Finset.mem_singleton_self _)
      (fun g u hg => by rcases key g u hg with ⟨n, _, rfl⟩ | ⟨d, rfl⟩ <;> exact Finset.mem_singleton_self _)
      (fun p hp => by rw [Finset.mem_singleton.mp hp]; exact hl.le)
      (fun g u hg => by
        rcases key g u hg with ⟨n, h2, rfl⟩ | ⟨d, rfl⟩
        · show 0 < lev (.dma (dS (50 + n))); rw [lev_recv h2]; omega
        · exact Nat.one_pos)
  · rw [MayWait_zero]; iintro -; iempintro

/-! ## The blocks a transfer moves -/

section Xfer
variable (c : Dev nD) {k : ℕ}

theorem src_rs0 (hk : k < 7) : Src m k c = pR fullShare c.val 0 (k + 1) (k + 1 + 1) c (PA m c) := by
  unfold Src; rw [show k / 7 = 0 by omega, show k % 7 = k by omega]; rfl
theorem src_ag0 (hk : k < 7) : Src m (7 + k) c = xR (Transfers.shareTokN fullShare k) 0 0 0 1 c (XA m c) := by
  unfold Src; rw [show (7 + k) / 7 = 1 by omega, show (7 + k) % 7 = k by omega]; rfl
theorem src_rs1 (hk : k < 7) : Src m (14 + k) c = pR fullShare 0 1 (k + 1) (k + 1 + 1) c (PA m c) := by
  unfold Src; rw [show (14 + k) / 7 = 2 by omega, show (14 + k) % 7 = k by omega]; rfl
theorem src_ag1 (hk : k < 7) : Src m (21 + k) c = xR (Transfers.shareTokN fullShare k) 0 1 0 1 c (XA m c) := by
  unfold Src; rw [show (21 + k) / 7 = 3 by omega, show (21 + k) % 7 = k by omega]; rfl
theorem src_rs2 (hk : k < 7) : Src m (28 + k) c = pR fullShare 0 2 (k + 1) (k + 1 + 1) c (PA m c) := by
  unfold Src; rw [show (28 + k) / 7 = 4 by omega, show (28 + k) % 7 = k by omega]; rfl
omit [FloatOps F] in
theorem landAt_rs0 (hk : k < 7) (f g) : landAt (F := F) k c f g = rR fullShare 0 0 k (k + 1) c f := by
  unfold landAt; rw [show k / 7 = 0 by omega, show k % 7 = k by omega]; rfl
omit [FloatOps F] in
theorem landAt_ag0 (hk : k < 7) (f g) : landAt (F := F) (7 + k) c f g = xR fullShare 0 0 (k + 1) (k + 1 + 1) c g := by
  unfold landAt; rw [show (7 + k) / 7 = 1 by omega, show (7 + k) % 7 = k by omega]; rfl
omit [FloatOps F] in
theorem landAt_rs1 (hk : k < 7) (f g) : landAt (F := F) (14 + k) c f g = rR fullShare 0 1 k (k + 1) c f := by
  unfold landAt; rw [show (14 + k) / 7 = 2 by omega, show (14 + k) % 7 = k by omega]; rfl
omit [FloatOps F] in
theorem landAt_ag1 (hk : k < 7) (f g) : landAt (F := F) (21 + k) c f g = xR fullShare 0 1 (k + 1) (k + 1 + 1) c g := by
  unfold landAt; rw [show (21 + k) / 7 = 3 by omega, show (21 + k) % 7 = k by omega]; rfl
omit [FloatOps F] in
theorem landAt_rs2 (hk : k < 7) (f g) : landAt (F := F) (28 + k) c f g = rR fullShare 0 2 k (k + 1) c f := by
  unfold landAt; rw [show (28 + k) / 7 = 4 by omega, show (28 + k) % 7 = k by omega]; rfl

theorem dst_rs0 (hk : k < 7) : dst k c = sh c (k + 1) := by
  unfold dst off; rw [if_neg (by omega), show k % 7 = k by omega]
theorem dst_ag0 (hk : k < 7) : dst (7 + k) c = sh c (k + 1) := by
  unfold dst off; rw [if_neg (by omega), show (7 + k) % 7 = k by omega]
theorem dst_rs1 (hk : k < 7) : dst (14 + k) c = sh c (7 - k) := by
  unfold dst off; rw [if_pos (by omega), show (14 + k) % 7 = k by omega]
theorem dst_ag1 (hk : k < 7) : dst (21 + k) c = sh c (k + 1) := by
  unfold dst off; rw [if_neg (by omega), show (21 + k) % 7 = k by omega]
theorem dst_rs2 (hk : k < 7) : dst (28 + k) c = sh c (7 - k) := by
  unfold dst off; rw [if_pos (by omega), show (28 + k) % 7 = k by omega]

theorem sh_back {a b : ℕ} (h : a + b = 8) : sh (sh c a) b = c := by
  rw [sh_sh, h, sh_eight]

/-- Scatter of layer 0: the block for the device `k + 1` places on is the block that device receives. -/
theorem sent_rs0 (hk : k < 7) : ld4 (RA m (sh c (k + 1))) 0 k 1 (by decide) hk
    = ld4 (PA m c) 0 (sh c (k + 1)).val 1 (by decide) (sh c (k + 1)).isLt := by
  funext i
  have h1 : (i 1).val < 1 := (i 1).isLt
  show P0 m (sh (sh c (k + 1)) (7 - (k + (i 1).val))) (ix4 0 (sh c (k + 1)) (i 2) (i 3)) = P0 m c (ix4 _ _ _ _)
  rw [sh_back c (show k + 1 + (7 - (k + (i 1).val)) = 8 by omega)]
  refine congrArg (P0 m c) ?_
  have h8 : (sh c (k + 1)).val < 8 := (sh c (k + 1)).isLt
  rw [show (⟨(sh c (k + 1)).val + (i 1).val, by omega⟩ : Fin 8) = sh c (k + 1) from
    Fin.ext (show (sh c (k + 1)).val + (i 1).val = (sh c (k + 1)).val by omega)]
  rfl
/-- Scatter of layer 1. -/
theorem sent_rs1 (hk : k < 7) : ld4 (RA m (sh c (7 - k))) 1 k 1 (by decide) hk = ld4 (PA m c) 1 (k + 1) 1 (by decide) (by omega) := by
  funext i
  have h1 : (i 1).val < 1 := (i 1).isLt
  show P1 m (sh (sh c (7 - k)) (k + (i 1).val + 1)) (ix4 1 ⟨k + (i 1).val + 1, _⟩ (i 2) (i 3)) = P1 m c (ix4 _ ⟨k + 1 + (i 1).val, _⟩ _ _)
  rw [sh_back c (show 7 - k + (k + (i 1).val + 1) = 8 by omega)]
  refine congrArg (P1 m c) ?_
  rw [show (⟨k + 1 + (i 1).val, by omega⟩ : Fin 8) = ⟨k + (i 1).val + 1, by omega⟩ from Fin.ext (show k + 1 + (i 1).val = k + (i 1).val + 1 by omega)]
  rfl
/-- Scatter of layer 2. -/
theorem sent_rs2 (hk : k < 7) : ld4 (RA m (sh c (7 - k))) 2 k 1 (by decide) hk = ld4 (PA m c) 2 (k + 1) 1 (by decide) (by omega) := by
  funext i
  have h1 : (i 1).val < 1 := (i 1).isLt
  show P2 m (sh (sh c (7 - k)) (k + (i 1).val + 1)) (ix4 2 ⟨k + (i 1).val + 1, _⟩ (i 2) (i 3)) = P2 m c (ix4 _ ⟨k + 1 + (i 1).val, _⟩ _ _)
  rw [sh_back c (show 7 - k + (k + (i 1).val + 1) = 8 by omega)]
  refine congrArg (P2 m c) ?_
  rw [show (⟨k + 1 + (i 1).val, by omega⟩ : Fin 8) = ⟨k + (i 1).val + 1, by omega⟩ from Fin.ext (show k + 1 + (i 1).val = k + (i 1).val + 1 by omega)]
  rfl
/-- Gather of layer 0: the block sent is the sender's own. -/
theorem sent_ag0 (hk : k < 7) : ld4 (XA m (sh c (k + 1))) 0 (k + 1) 1 (by decide) (by omega) = ld4 (XA m c) 0 0 1 (by decide) (by decide) := by
  funext i
  have h1 : (i 1).val < 1 := (i 1).isLt
  show A0 m (sh (sh c (k + 1)) (8 - (k + 1 + (i 1).val))) (ix4 0 0 (i 2) (i 3)) = A0 m (sh c (8 - (0 + (i 1).val))) (ix4 0 0 (i 2) (i 3))
  rw [sh_back c (show k + 1 + (8 - (k + 1 + (i 1).val)) = 8 by omega), show 8 - (0 + (i 1).val) = 8 by omega, sh_eight]
/-- Gather of layer 1. -/
theorem sent_ag1 (hk : k < 7) : ld4 (XA m (sh c (k + 1))) 1 (k + 1) 1 (by decide) (by omega) = ld4 (XA m c) 1 0 1 (by decide) (by decide) := by
  funext i
  have h1 : (i 1).val < 1 := (i 1).isLt
  show A1 m (sh (sh c (k + 1)) (8 - (k + 1 + (i 1).val))) (ix4 0 0 (i 2) (i 3)) = A1 m (sh c (8 - (0 + (i 1).val))) (ix4 0 0 (i 2) (i 3))
  rw [sh_back c (show k + 1 + (8 - (k + 1 + (i 1).val)) = 8 by omega), show 8 - (0 + (i 1).val) = 8 by omega, sh_eight]

end Xfer

end Cert.TpMlp

end
-- ==== Proof.Steps.lean ====
/-
# One step at a time

The state of the protocol on one device, and what each kind of statement (a local copy, a signal, a wait, a transfer)
does to it. The state counts the transfers issued (`s`) and the blocks received (`r`).
-/
module

public import proofs.«01_k».proof.Proof.Protocol
public import Idealize.SL.BI.BigOpNat

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 92 → ℕ)

/-! ## The records every device keeps -/

/-- The cells by number: number 0 is the barrier cell, the others are the DMA cells. -/
def ksem (i : Fin 92) : SemLoc sig := if i.val = 0 then .reg barS else .dma i
def kc (ci : Dev nD × Fin 92) : GSem nD τ sig := ((ci.1 : Thread nD τ), ksem ci.2)
theorem kc_bar (c : Dev nD) : kc (c, 0) = barCell c := rfl
theorem kc_d (c : Dev nD) {v : ℕ} (h0 : 0 < v) (h : v < 92) : kc (c, Fin.ofNat 92 v) = dCell v c := by
  unfold kc ksem
  rw [if_neg (show ¬ (Fin.ofNat 92 v).val = 0 by show ¬ v % 92 = 0; omega)]
  rfl

/-- Every cell's invariant, that every cell is open, and the levels. -/
def Recs : sProp 𝕄 :=
  iprop((bigSep Finset.univ fun ci : Dev nD × Fin 92 => cellInv ER (Rd m) (K ci) (kc ci))
    ∗ (bigSep Finset.univ fun ci : Dev nD × Fin 92 => reached ER (kc ci) 0) ∗ levAts L lv)
instance Recs_persistent : BI.Persistent (Recs m K) := by unfold Recs; infer_instance

theorem recs_inv (ci : Dev nD × Fin 92) : Recs m K ⊢ cellInv ER (Rd m) (K ci) (kc ci) := by
  unfold Recs
  iintro ⟨H, -, -⟩
  iapply (show (bigSep Finset.univ fun ci : Dev nD × Fin 92 => (cellInv ER (Rd m) (K ci) (kc ci) : sProp 𝕄)) ⊢ cellInv ER (Rd m) (K ci) (kc ci)
    from bigSep_elim (Finset.mem_univ ci)); iexact H
theorem recs_reached (ci : Dev nD × Fin 92) : Recs m K ⊢ reached ER (kc ci) 0 := by
  unfold Recs
  iintro ⟨-, H, -⟩
  iapply (show (bigSep Finset.univ fun ci : Dev nD × Fin 92 => (reached ER (kc ci) 0 : sProp 𝕄)) ⊢ reached ER (kc ci) 0
    from bigSep_elim (Finset.mem_univ ci)); iexact H
theorem recs_lev : Recs m K ⊢ levAts L lv := by
  unfold Recs
  iintro ⟨-, -, H⟩
  iexact H
theorem inv_bar (c : Dev nD) : Recs m K ⊢ cellInv ER (Rd m) (K (c, 0)) (barCell c) := recs_inv m K (c, 0)
theorem inv_d (c : Dev nD) {v : ℕ} (h0 : 0 < v) (h : v < 92) : Recs m K ⊢ cellInv ER (Rd m) (K (c, Fin.ofNat 92 v)) (dCell v c) := by
  have e := recs_inv m K (c, Fin.ofNat 92 v); rwa [kc_d c h0 h] at e
theorem reached_bar (c : Dev nD) : Recs m K ⊢ reached ER (barCell c) 0 := recs_reached m K (c, 0)
theorem reached_d (c : Dev nD) {v : ℕ} (h0 : 0 < v) (h : v < 92) : Recs m K ⊢ reached ER (dCell v c) 0 := by
  have e := recs_reached m K (c, Fin.ofNat 92 v); rwa [kc_d c h0 h] at e

/-! ## The state -/

/-- The tokens and the position transfer `n` of device `c` uses. -/
def Tok (n : ℕ) (c : Dev nD) : sProp 𝕄 :=
  iprop(dutyTok ER (sendCell n c) 0 0 ∗ dutyTok ER (recvCell n (dst n c)) 0 0 ∗ atPos ER (sendCell n c) 0 ∅ 0)
/-- The same with the landing block. -/
def Todo (n : ℕ) (c : Dev nD) : sProp 𝕄 := iprop(Tok n c ∗ Slot n (dst n c))
/-- What waiting for the source of transfer `n` takes. -/
def Sent (n : ℕ) (c : Dev nD) : sProp 𝕄 := iprop(cred (tallyAt (sendCell n c) () N) ∗ atPos ER (sendCell n c) 0 ∅ 0)
/-- What waiting for the block of transfer `n` takes. -/
def Due (n : ℕ) (c : Dev nD) : sProp 𝕄 := iprop(cred (tallyAt (recvCell n c) () N) ∗ atPos ER (recvCell n c) 0 ∅ 0)
/-- What waiting for the `i`-th local copy takes. -/
def LT (i : ℕ) (c : Dev nD) : sProp 𝕄 := iprop(cred (tallyAt (loadCell i c) () NL) ∗ atPos ER (loadCell i c) 0 ∅ 0)
/-- What issuing the `i`-th local copy takes. -/
def LI (i : ℕ) (c : Dev nD) : sProp 𝕄 := iprop(dutyTok ER (loadCell i c) 0 0 ∗ atPos ER (loadCell i c) 0 ∅ 0)

/-- The state with `s` transfers issued and `r` blocks received. -/
def St (c : Dev nD) (s r : ℕ) : sProp 𝕄 :=
  iprop(Recs m K ∗ (∃ W, owes (c : Thread nD τ) (Orem c s) W)
    ∗ (bigSep (Finset.Ico s 35) fun n => Todo n c) ∗ (bigSep (Finset.Ico 0 s) fun n => Sent n c)
    ∗ (bigSep (Finset.Ico r 35) fun n => Due n c) ∗ (bigSep (Finset.Ico 0 r) fun n => semVal (recvCell n c) 0))

/-- The state before the barrier, `b` devices told. -/
def Bs (c : Dev nD) (b : ℕ) : sProp 𝕄 :=
  iprop(Recs m K ∗ (∃ W, owes (c : Thread nD τ) (Orem c 0 + Obar c b) W)
    ∗ (bigSep (Finset.Ico b 7) fun k => iprop(dutyTok ER (barCell (sh c (k + 1))) 0 k ∗ BarPay k (sh c (k + 1)))))

/-- The barrier payloads together are the landing blocks of all transfers. -/
theorem bars_slots (c : Dev nD) : (bigSep (Finset.Ico 0 7) fun k => (BarPay k c : sProp 𝕄)) ⊢ bigSep (Finset.Ico 0 35) fun n => Slot n (dst n c) := by
  unfold BarPay
  refine (bigSep_biUnion (Finset.Ico 0 7) (fun k => (Finset.Ico 0 35).filter fun n => off n = 7 - k) (Φ := fun n => (Slot n (dst n c) : sProp 𝕄))).trans ?_
  refine Entails.of_eq (congrArg (fun s => bigSep s fun n => (Slot n (dst n c) : sProp 𝕄)) ?_)
  ext n
  have h1 := off_pos n
  have h2 := off_le n
  simp only [Finset.mem_biUnion, Finset.mem_filter, Finset.mem_Ico]
  exact ⟨fun ⟨k, _, h, _⟩ => h, fun h => ⟨7 - off n, by omega, h, by omega⟩⟩

section Steps
variable (c : Dev nD) {α : Type} {Q : α → sProp (MT nD τ sig Unit (Elt F) ℕ UU ℕ)} {k : PUnit → Prog (TpuEff nD τ sig (Elt F) Λ₀ .tc) α}

/-- A local copy. -/
theorem step_copy {i : ℕ} (hi : i < 7) {sp sp' : Space} {s : Shape} {e : EltTy}
    {src : Memref sig .tc sp s e} {dm : Memref sig .tc sp' s e} {sem : DmaSem sig} (hs : sem = dS (1 + i))
    {hsrc : src.view.WordExact} {hdst : dm.view.WordExact} {hsem : DmaTarget.Typed (nD := nD) (τ := τ) (p := .tc) sp (.dma sem) (.here dm)}
    {fs : Buf (Elt F) (src.view.loc (c : Thread nD τ))} {fd : Buf (Elt F) (dm.view.loc (c : Thread nD τ))}
    (hN : dm.view.dmaCredit = NL)
    (hpay : iprop((dm.view.loc (c : Thread nD τ) ↦[dm.view.set]{fullShare} (dm.view.write (Elt F) fd (src.view.read (Elt F) fs) Finset.univ))
              ∗ (src.view.loc (c : Thread nD τ) ↦[src.view.set]{fullShare} fs)) ⊢ LoadPay m i c)
    {b : ℕ} :
    iprop(Bs m K c b ∗ LI i c ∗ (src.view.loc (c : Thread nD τ) ↦[src.view.set]{fullShare} fs) ∗ (dm.view.loc (c : Thread nD τ) ↦[dm.view.set]{fullShare} fd))
      ⊢ iprop((iprop(Bs m K c b ∗ LT i c) -∗ Wp c (k ⟨⟩) Q)
          -∗ Wp c (.op (.enqueueDma src (.here dm) (.dma sem) hsrc hdst hsem) k) Q) := by
  subst hs
  unfold Bs LI LT
  iintro ⟨⟨#HR, Ho, Hb⟩, ⟨Ht, Ha⟩, Hs, Hd⟩ Hk
  iapply (Rounds.wp_copy_pointsTo 𝒱₀ ER (Rd m) (c : Thread nD τ) none (κ := K (c, Fin.ofNat 92 (1 + i))) (r := 0) (d := 0)
    (by rw [duties_d m c (by omega) (by unfold used; omega)]; exact Finset.mem_singleton_self _) () NL (show dm.view.amount (.dma (dS (1 + i))) = NL from hN) (amount_load m c hi)
    (by rw [payload_load m c hi]; exact hpay)) $$ [Hs Hd Ht]
  · isplitr; · iapply (inv_d m K c (by omega) (by omega)); iexact HR
    isplitl [Hs]; · iexact Hs
    isplitl [Hd]; · iexact Hd
    isplitl [Ht]; · iexact Ht
    iapply (reached_d m K c (by omega) (by omega)); iexact HR
  iintro Hc
  iapply Hk
  isplitr [Hc Ha]
  · isplitr; · iexact HR
    isplitl [Ho]; · iexact Ho
    iexact Hb
  isplitl [Hc]; · iexact Hc
  iexact Ha

/-- A signal to the device `b + 1` places on. -/
theorem step_signal {b : ℕ} (hb : b < 7) {d : Dev nD} (hd : d = sh c (b + 1)) {sem : Sem sig} (hs : sem = barS) {w : ℕ} (hw : w = 1) :
    Bs m K c b ⊢ iprop((Bs m K c (b + 1) -∗ Wp c (k ⟨⟩) Q)
          -∗ Wp c (.op (.semSignal (d : Thread nD τ) sem w) k) Q) := by
  subst hd hs hw
  unfold Bs
  rw [bigSep_Ico_succ_bot hb]
  iintro ⟨#HR, ⟨%W, Ho⟩, ⟨Ht, Hp⟩, Hb⟩ Hk
  iapply (Rounds.wp_signal 𝒱₀ ER (Rd m) (c : Thread nD τ) none (dst := (sh c (b + 1) : Thread nD τ)) (κ := K (sh c (b + 1), 0)) (r := 0) (d := b)
      (by rw [duties_bar]; exact Finset.mem_Ico.mpr ⟨Nat.zero_le _, hb⟩) (amount_bar m (sh c (b + 1)) b) () (O₀ := Orem c 0 + Obar c b) (Orem c 0 + Obar c (b + 1))
      (by rw [Obar_step c hb, add_assoc]) (W := W)) $$ [Ho Ht Hp]
  · isplitr; · iapply (inv_bar m K (sh c (b + 1))); iexact HR
    isplitl [Ho]; · iexact Ho
    isplitl [Ht]; · iexact Ht
    isplitl [Hp]; · rw [payload_bar]; iexact Hp
    iapply (reached_bar m K (sh c (b + 1))); iexact HR
  iintro Ho
  iapply Hk
  isplitr; · iexact HR
  isplitl [Ho]; · iexists W; iexact Ho
  iexact Hb

/-- The wait on the barrier cell: all landing blocks come with it. -/
theorem step_barrier {sem : Sem sig} (hs : sem = barS) {w : ℕ} (hw : w = 7) :
    iprop(Bs m K c 7 ∗ cred (tallyAt (barCell c) () 7) ∗ atPos ER (barCell c) 0 ∅ 0
        ∗ (bigSep (Finset.Ico 0 35) fun n => Tok n c) ∗ (bigSep (Finset.Ico 0 35) fun n => Due n c))
      ⊢ iprop((iprop(St m K c 0 0 ∗ semVal (barCell c) 0) -∗ Wp c (k ⟨⟩) Q)
          -∗ Wp c (.op (.semWait sem w) k) Q) := by
  subst hs hw
  unfold Bs St
  rw [Obar_last, add_zero]
  iintro ⟨⟨#HR, ⟨%W, Ho⟩, -⟩, Hc, Ha, Ht, Hd⟩ Hk
  iapply (Rounds.wp_wait_rest_token 𝒱₀ ER (Rd m) (c : Thread nD τ) none (κ := K (c, 0))
      (wpE_semWait_eq 𝒱₀ (c : Thread nD τ) none Set.univ) (Set.mem_univ _) () (O := Orem c 0) (W := W) (R := 0) (m := 0) (T := ∅)
      (by rw [expect_bar])) $$ [Hc Ho Ha]
  · isplitr; · iapply (inv_bar m K c); iexact HR
    isplitl [Hc]; · iexact Hc
    isplitl [Ho]; · iexact Ho
    isplitr
    · iapply (mayWait c (.reg barS) 0 (fun n _ _ => show 1 < 2 + n / 7 by omega)); iapply (recs_lev m K); iexact HR
    iexact Ha
  iintro ⟨Ho, Ha, -, Hp⟩
  ihave Hp := ((Entails.of_eq (rest_bar m c)).trans (bars_slots c)) $$ Hp
  imod (Rounds.cell_close ER (Rd m) (Set.mem_univ (K (c, 0))) (fun h => h) (R := 0 + 1) (duties_later m (barCell c))) $$ [Ha] with Hz
  · isplitr; · iapply (inv_bar m K c); iexact HR
    iexact Ha
  iapply Hk
  isplitr [Hz]
  · isplitr; · iexact HR
    isplitl [Ho]; · iexists _; iexact Ho
    isplitl [Ht Hp]
    · unfold Todo; rw [bigSep_sep']
      isplitl [Ht] <;> iassumption
    isplitr; · rw [Finset.Ico_self, bigSep_empty]; iempintro
    isplitl [Hd]; · iexact Hd
    rw [Finset.Ico_self, bigSep_empty]; iempintro
  iexact Hz

/-- The wait for the `i`-th local copy. -/
theorem step_load {s r : ℕ} {i : ℕ} (hi : i < 7) {sp sp' : Space} {sh₀ : Shape} {e : EltTy}
    {src : Memref sig .tc sp sh₀ e} {dm : Memref sig .tc sp' sh₀ e} {sem : DmaSem sig} (hs : sem = dS (1 + i))
    {hsrc : src.view.WordExact} {hdst : dm.view.WordExact} (hN : dm.view.dmaCredit = NL) :
    iprop(St m K c s r ∗ LT i c)
      ⊢ iprop((iprop(St m K c s r ∗ semVal (loadCell i c) 0 ∗ LoadPay m i c) -∗ Wp c (k ⟨⟩) Q)
          -∗ Wp c (.op (.waitDma2 sem src dm hsrc hdst) k) Q) := by
  subst hs
  unfold St LT
  iintro ⟨⟨#HR, ⟨%W, Ho⟩, H1, H2, H3, H4⟩, Hc, Ha⟩ Hk
  iapply (Rounds.wp_wait_rest_token 𝒱₀ ER (Rd m) (c : Thread nD τ) none (κ := K (c, Fin.ofNat 92 (1 + i)))
      (wpE_waitDma2_eq 𝒱₀ (c : Thread nD τ) none Set.univ) (Set.mem_univ _) () (O := Orem c s) (W := W) (R := 0) (m := 0) (T := ∅)
      (by rw [Nat.zero_add, expect_d m c (by omega) (by unfold used; omega), if_pos (by omega)]; exact hN)) $$ [Hc Ho Ha]
  · isplitr; · iapply (inv_d m K c (by omega) (by omega)); iexact HR
    isplitl [Hc]; · rw [hN]; iexact Hc
    isplitl [Ho]; · iexact Ho
    isplitr
    · iapply (mayWait c (.dma (dS (1 + i))) s (fun n _ _ => by rw [lev_low (by omega)]; omega)); iapply (recs_lev m K); iexact HR
    iexact Ha
  iintro ⟨Ho, Ha, -, Hp⟩
  ihave Hp := (Entails.of_eq ((rest_d m c (v := 1 + i) (by omega) (by unfold used; omega)).trans (payload_load m c hi))) $$ Hp
  imod (Rounds.cell_close ER (Rd m) (Set.mem_univ (K (c, Fin.ofNat 92 (1 + i)))) (fun h => h) (R := 0 + 1) (duties_later m (loadCell i c))) $$ [Ha] with Hz
  · isplitr; · iapply (inv_d m K c (by omega) (by omega)); iexact HR
    iexact Ha
  iapply Hk
  isplitr [Hz Hp]
  · isplitr; · iexact HR
    isplitl [Ho]; · iexists _; iexact Ho
    isplitl [H1]; · iexact H1
    isplitl [H2]; · iexact H2
    isplitl [H3]; · iexact H3
    iexact H4
  isplitl [Hz]; · iexact Hz
  iexact Hp

/-- The wait for the block of transfer `r`, all transfers of its phase being issued. -/
theorem step_recv {s r : ℕ} (hr : r < 35) (hsr : 7 * (r / 7 + 1) ≤ s) {sp sp' : Space} {sh₀ : Shape} {e : EltTy}
    {src : Memref sig .tc sp sh₀ e} {dm : Memref sig .tc sp' sh₀ e} {sem : DmaSem sig} (hs : sem = dS (50 + r))
    {hsrc : src.view.WordExact} {hdst : dm.view.WordExact} (hN : dm.view.dmaCredit = N) :
    St m K c s r
      ⊢ iprop((iprop(St m K c s (r + 1) ∗ Land m r c) -∗ Wp c (k ⟨⟩) Q)
          -∗ Wp c (.op (.waitDma2 sem src dm hsrc hdst) k) Q) := by
  subst hs
  unfold St Due
  rw [bigSep_Ico_succ_bot hr, bigSep_Ico_succ_top (Nat.zero_le r)]
  iintro ⟨#HR, ⟨%W, Ho⟩, H1, H2, ⟨⟨Hc, Ha⟩, H3⟩, H4⟩ Hk
  iapply (Rounds.wp_wait_rest_token 𝒱₀ ER (Rd m) (c : Thread nD τ) none (κ := K (c, Fin.ofNat 92 (50 + r)))
      (wpE_waitDma2_eq 𝒱₀ (c : Thread nD τ) none Set.univ) (Set.mem_univ _) () (O := Orem c s) (W := W) (R := 0) (m := 0) (T := ∅)
      (by rw [Nat.zero_add, expect_d m c (by omega) (by unfold used; omega), if_neg (by omega)]; exact hN)) $$ [Hc Ho Ha]
  · isplitr; · iapply (inv_d m K c (by omega) (by omega)); iexact HR
    isplitl [Hc]; · rw [hN]; iexact Hc
    isplitl [Ho]; · iexact Ho
    isplitr
    · iapply (mayWait c (.dma (dS (50 + r))) s (fun n _ _ => by rw [lev_recv hr]; omega)); iapply (recs_lev m K); iexact HR
    iexact Ha
  iintro ⟨Ho, Ha, -, Hp⟩
  ihave Hp := (Entails.of_eq ((rest_d m c (v := 50 + r) (by omega) (by unfold used; omega)).trans (payload_recv m c hr))) $$ Hp
  imod (Rounds.cell_close ER (Rd m) (Set.mem_univ (K (c, Fin.ofNat 92 (50 + r)))) (fun h => h) (R := 0 + 1) (duties_later m (recvCell r c))) $$ [Ha] with Hz
  · isplitr; · iapply (inv_d m K c (by omega) (by omega)); iexact HR
    iexact Ha
  iapply Hk
  isplitr [Hp]
  · isplitr; · iexact HR
    isplitl [Ho]; · iexists _; iexact Ho
    isplitl [H1]; · iexact H1
    isplitl [H2]; · iexact H2
    isplitl [H3]; · iexact H3
    isplitl [Hz]; · iexact Hz
    iexact H4
  iexact Hp

/-- Transfer `s`. -/
theorem step_send {s r : ℕ} (hs : s < 35) {d : Dev nD} (hd : d = dst s c)
    {src : Memref sig .tc .vmem S1x64x256 .bf16} {dm : Memref sig .tc .vmem S1x64x256 .bf16} {sS sem : DmaSem sig} (h₁ : sS = dS (8 + s)) (h₂ : sem = dS (50 + s))
    {hsc : (dm : Memref sig (Dev.tc d : Thread nD τ).2.kind .vmem S1x64x256 .bf16).view.ref.isScScratch = false}
    {hsrc : src.view.WordExact} {hdst : dm.view.WordExact}
    {hsem : DmaTarget.Typed (nD := nD) (τ := τ) (p := .tc) .vmem (.dma sem) (.remote (Dev.tc d : Thread nD τ) dm (.dma sS) hsc)}
    {q : PosShare TreeShare} {fs : Buf (Elt F) (src.view.loc (c : Thread nD τ))} (hN : dm.view.dmaCredit = N)
    (hsrcE : Src m s c = (src.view.loc (c : Thread nD τ) ↦[src.view.set]{q} fs))
    (hslot : ∀ f g, landAt s (dst s c) f g ⊢ (iprop(∃ fd, (dm.view.loc (dst s c : Thread nD τ) ↦[dm.view.set]{fullShare} fd)) : sProp 𝕄))
    (hland : ∀ fd, (dm.view.loc (dst s c : Thread nD τ) ↦[dm.view.set]{fullShare} (dm.view.write (Elt F) fd (src.view.read (Elt F) fs) Finset.univ))
      ⊢ Land m s (dst s c)) :
    iprop(St m K c s r ∗ Src m s c)
      ⊢ iprop((St m K c (s + 1) r -∗ Wp c (k ⟨⟩) Q)
          -∗ Wp c (.op (.enqueueDma src (.remote (Dev.tc d : Thread nD τ) dm (.dma sS) hsc) (.dma sem) hsrc hdst hsem) k) Q) := by
  subst hd h₁ h₂
  unfold St
  rw [bigSep_Ico_succ_bot hs, bigSep_Ico_succ_top (Nat.zero_le s)]
  unfold Todo Tok Slot
  rw [hsrcE]
  iintro ⟨⟨#HR, ⟨%W, Ho⟩, ⟨⟨⟨Ht1, Ht2, Ha⟩, ⟨%f, %g, Hl⟩⟩, H1⟩, H2, H3, H4⟩, Hs⟩ Hk
  ihave Hl := (hslot f g) $$ Hl
  icases Hl with ⟨%fd, Hl⟩
  iapply (Rounds.wp_send_pointsTo 𝒱₀ ER (Rd m) (c : Thread nD τ) none (κ₁ := K (c, Fin.ofNat 92 (8 + s))) (κ₂ := K (dst s c, Fin.ofNat 92 (50 + s)))
    (r₁ := 0) (r₂ := 0) (d₁ := 0) (d₂ := 0) (fd := fd)
    (by rw [duties_d m c (by omega) (by unfold used; omega)]; exact Finset.mem_singleton_self _)
    (by rw [duties_d m (dst s c) (by omega) (by unfold used; omega)]; exact Finset.mem_singleton_self _)
    () () N (show dm.view.amount (.dma (dS (50 + s))) = N from hN) (amount_send m c hs) (amount_recv m (dst s c) hs) (Orem c (s + 1)) (Orem_step c hs) (W := W)
    (by rw [payload_send m c hs, hsrcE])
    (by rw [payload_recv m (dst s c) hs]; exact hland fd)) $$ [Hs Hl Ho Ht1 Ht2]
  · isplitr; · iapply (inv_d m K c (by omega) (by omega)); iexact HR
    isplitr; · iapply (inv_d m K (dst s c) (by omega) (by omega)); iexact HR
    isplitl [Hs]; · iexact Hs
    isplitl [Hl]; · iexact Hl
    isplitl [Ho]; · iexact Ho
    isplitl [Ht1]; · iexact Ht1
    isplitr; · iapply (reached_d m K c (by omega) (by omega)); iexact HR
    isplitl [Ht2]; · iexact Ht2
    iapply (reached_d m K (dst s c) (by omega) (by omega)); iexact HR
  iintro ⟨Hc, Ho⟩
  iapply Hk
  isplitr; · iexact HR
  isplitl [Ho]; · iexists W; iexact Ho
  isplitl [H1]; · iexact H1
  isplitl [Hc Ha H2]
  · isplitl [Hc Ha]
    · unfold Sent
      isplitl [Hc] <;> iassumption
    iexact H2
  isplitl [H3]; · iexact H3
  iexact H4

end Steps

end Cert.TpMlp

end
-- ==== Proof.Moves.lean ====
/-
# The transfers by kind

Each kind of transfer as a move on the regions of the scratch buffers: what a transfer takes away at its source, what a
receive adds at its landing place, and what the waits on the sources give back.
-/
module

public import proofs.«01_k».proof.Proof.Steps

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Empty regions, shares -/

theorem box4_nil {n₀ n₁ z l lo : ℕ} : (box4 z l lo lo : Finset (⟨4, ![n₀, n₁, 64, 256]⟩ : Shape).Idx) = ∅ := by
  ext i; rw [mem_box4]; constructor
  · intro h; omega
  · intro h; exact absurd h (Finset.notMem_empty i)

omit [FloatOps F] in
theorem rR_nil {q z l lo} {c : Dev nD} {f : S3x7x64x256.Idx → Elt F .bf16} : (rR q z l lo lo c f : sProp 𝕄) = iprop(emp) := by
  unfold rR; rw [box4_nil, pointsTo_empty]
omit [FloatOps F] in
theorem xR_nil {q z l lo} {c : Dev nD} {f : S2x8x64x256.Idx → Elt F .bf16} : (xR q z l lo lo c f : sProp 𝕄) = iprop(emp) := by
  unfold xR; rw [box4_nil, pointsTo_empty]
omit [FloatOps F] in
theorem pR_nil {q z l lo} {c : Dev nD} {f : S3x8x64x256.Idx → Elt F .bf16} : (pR q z l lo lo c f : sProp 𝕄) = iprop(emp) := by
  unfold pR; rw [box4_nil, pointsTo_empty]

omit [FloatOps F] in
/-- One more reader's share taken off. -/
theorem xR_share (q : PosShare TreeShare) (k : ℕ) {z l lo hi} (c : Dev nD) (f : S2x8x64x256.Idx → Elt F .bf16) :
    (xR (Transfers.shareDrop q k) z l lo hi c f : sProp 𝕄)
      = iprop(xR (Transfers.shareDrop q (k + 1)) z l lo hi c f ∗ xR (Transfers.shareTokN q k) z l lo hi c f) := by
  unfold xR
  exact Entails.antisymm (pointsTo_share (PosShare.mem_left_op_right _)).1 (pointsTo_share (PosShare.mem_left_op_right _)).2

/-- A landing block of partial products rewritten by what `f` holds there. -/
theorem rM_land {l t : ℕ} (hl : l < 3) (ht : t + 1 ≤ 7) (d : Dev nD) (fd f : S3x7x64x256.Idx → Elt F .bf16) (w : S1x64x256.Idx → Elt F .bf16)
    (h : w = fun x => ld4 f l t 1 hl ht (Shape.reshapeEquiv squeezes_S1x1x64x256_S1x64x256.numel_eq x)) :
    ((rM l t hl ht).view.loc (d : Thread nD τ) ↦[(rM l t hl ht).view.set]{fullShare} ((rM l t hl ht).view.write (Elt F) fd w Finset.univ) : sProp 𝕄)
      = rR fullShare 0 l t (t + 1) d f :=
  (write_read_pts fullShare (rM l t hl ht).view fd f w ((rM_read hl ht f).trans h.symm)).trans
    (rM_pts d fullShare (z := 0) (lo := t) hl ht (by omega) f)
/-- A landing block of activations rewritten by what `f` holds there. -/
theorem xM_land {l t : ℕ} (hl : l < 2) (ht : t + 1 ≤ 8) (d : Dev nD) (fd f : S2x8x64x256.Idx → Elt F .bf16) (w : S1x64x256.Idx → Elt F .bf16)
    (h : w = fun x => ld4 f l t 1 hl ht (Shape.reshapeEquiv squeezes_S1x1x64x256_S1x64x256.numel_eq x)) :
    ((xM l t hl ht).view.loc (d : Thread nD τ) ↦[(xM l t hl ht).view.set]{fullShare} ((xM l t hl ht).view.write (Elt F) fd w Finset.univ) : sProp 𝕄)
      = xR fullShare 0 l t (t + 1) d f :=
  (write_read_pts fullShare (xM l t hl ht).view fd f w ((xM_read hl ht f).trans h.symm)).trans
    (xM_pts d fullShare (z := 0) (lo := t) hl ht (by omega) f)
omit [FloatOps F] in
theorem rM_slot {l t : ℕ} (hl : l < 3) (ht : t + 1 ≤ 7) (d : Dev nD) (f : S3x7x64x256.Idx → Elt F .bf16) :
    rR fullShare 0 l t (t + 1) d f ⊢ (iprop(∃ fd, ((rM l t hl ht).view.loc (d : Thread nD τ) ↦[(rM l t hl ht).view.set]{fullShare} fd)) : sProp 𝕄) := by
  rw [← rM_pts d fullShare (z := 0) (lo := t) hl ht (by omega) f]
  iintro H; iexists f; iexact H
omit [FloatOps F] in
theorem xM_slot {l t : ℕ} (hl : l < 2) (ht : t + 1 ≤ 8) (d : Dev nD) (f : S2x8x64x256.Idx → Elt F .bf16) :
    xR fullShare 0 l t (t + 1) d f ⊢ (iprop(∃ fd, ((xM l t hl ht).view.loc (d : Thread nD τ) ↦[(xM l t hl ht).view.set]{fullShare} fd)) : sProp 𝕄) := by
  rw [← xM_pts d fullShare (z := 0) (lo := t) hl ht (by omega) f]
  iintro H; iexists f; iexact H

variable (m : (ℓ : Loc nD τ sig) → Buf (Elt F) ℓ) (K : Dev nD × Fin 92 → ℕ)

section Moves
variable (c : Dev nD) {α : Type} {Q : α → sProp (MT nD τ sig Unit (Elt F) ℕ UU ℕ)} {k : PUnit → Prog (TpuEff nD τ sig (Elt F) Λ₀ .tc) α}

omit [FloatOps F] in
/-- Around the eight blocks, the one `t` places after block `z` is block `(z + t) % 8`. -/
theorem around {z t j : ℕ} (hz : z < 8) (ht : t < 8) (hj : j = (z + t) % 8) :
    ∀ b, b < 8 → ((j ≤ b ∧ b < j + 1) ↔ (t ≤ (b + 8 - z) % 8 ∧ (b + 8 - z) % 8 < t + 1)) := by
  intro b hb8
  have hj8 : j < 8 := by omega
  have e1 : j = z + t ∨ j + 8 = z + t := by omega
  have e2 : z ≤ b ∧ (b + 8 - z) % 8 = b - z ∨ b < z ∧ (b + 8 - z) % 8 = b + 8 - z := by omega
  clear hj
  constructor
  · intro h; rcases e1 with e1 | e1 <;> rcases e2 with ⟨_, e2⟩ | ⟨_, e2⟩ <;> rw [e2] <;> constructor <;> omega
  · intro h; rcases e1 with e1 | e1 <;> rcases e2 with ⟨_, e2⟩ | ⟨_, e2⟩ <;> rw [e2] at h <;> constructor <;> omega

/-- The common part of the three reduce-scatter phases: block `j`, the first of those still held, goes to `dd`. -/
theorem send_rs {r z l n j lo hi t : ℕ} {dd : Dev nD} (hl : l < 3) (h8 : lo < hi) (ht : t < 7) (hin : j + 1 ≤ 8)
    (hb : ∀ b, b < 8 → ((j ≤ b ∧ b < j + 1) ↔ (lo ≤ (b + 8 - z) % 8 ∧ (b + 8 - z) % 8 < lo + 1)))
    (hsrcE : Src m n c = pR fullShare z l lo (lo + 1) c (PA m c)) (hdd : dst n c = dd) (hn : n < 35)
    (hlA : ∀ (f : S3x7x64x256.Idx → Elt F .bf16) (g : S2x8x64x256.Idx → Elt F .bf16), landAt n dd f g = rR fullShare 0 l t (t + 1) dd f)
    (hsent : ∀ x, ld4 (PA m c) l j 1 hl hin x = ld4 (RA m dd) l t 1 hl ht x)
    {d : Dev nD} (hd : d = dd) {inb' : t + 1 ≤ 7} {inb : j + 1 ≤ 8} {sS sem : DmaSem sig}
    (h₁ : sS = dS (8 + n)) (h₂ : sem = dS (50 + n)) {hsc hsrc hdst hsem} :
    iprop(St m K c n r ∗ pR fullShare z l lo hi c (PA m c))
      ⊢ iprop((iprop(St m K c (n + 1) r ∗ pR fullShare z l (lo + 1) hi c (PA m c)) -∗ Wp c (k ⟨⟩) Q)
          -∗ Wp c (.op (.enqueueDma (pM l j hl inb) (.remote (Dev.tc d : Thread nD τ) (rM l t hl inb') (.dma sS) hsc) (.dma sem) hsrc hdst hsem) k) Q) := by
  have hsrcE' := hsrcE.trans (pM_pts c fullShare (z := z) (lo := lo) hl inb hb (PA m c)).symm
  rw [pR_cut fullShare (lo + 1) c (PA m c) (Nat.le_succ _) (by omega), ← hsrcE]
  iintro ⟨HS, Hp, Hrest⟩ Hk
  iapply (step_send m K c (s := n) (r := r) hn (d := d) (src := pM l j hl inb) (dm := rM l t hl inb') (hd.trans hdd.symm) h₁ h₂ (q := fullShare) (fs := PA m c) rfl
    hsrcE'
    (by intro f g; rw [hdd, hlA]; exact rM_slot hl inb' _ f)
    (by
      intro fd
      rw [hdd]
      unfold Land
      rw [hlA]
      exact Entails.of_eq (rM_land hl inb' _ fd _ _ ((pM_read hl inb (PA m c)).trans
        (funext fun x => hsent _))))) $$ [HS Hp]
  · isplitl [HS] <;> iassumption
  iintro HS
  iapply Hk
  isplitl [HS] <;> iassumption

/-- Layer 0: the partial products for the device `t + 1` places on, sent there. -/
theorem send_rs0 {r t : ℕ} (ht : t < 7) {j : ℕ} {inb : j + 1 ≤ 8} (hj : j = (c.val + (t + 1)) % 8)
    {d : Dev nD} (hd : d.val = (c.val + (t + 1)) % 8) {inb' : t + 1 ≤ 7} {sS sem : DmaSem sig}
    (h₁ : sS = dS (8 + t)) (h₂ : sem = dS (50 + t)) {hsc hsrc hdst hsem} :
    iprop(St m K c t r ∗ pR fullShare c.val 0 (t + 1) 8 c (PA m c))
      ⊢ iprop((iprop(St m K c (t + 1) r ∗ pR fullShare c.val 0 (t + 1 + 1) 8 c (PA m c)) -∗ Wp c (k ⟨⟩) Q)
          -∗ Wp c (.op (.enqueueDma (pM 0 j (by decide) inb) (.remote (Dev.tc d : Thread nD τ) (rM 0 t (by decide) inb') (.dma sS) hsc) (.dma sem) hsrc hdst hsem) k) Q) := by
  have hsent : ∀ x, ld4 (PA m c) 0 j 1 (by decide) inb x = ld4 (RA m (sh c (t + 1))) 0 t 1 (by decide) ht x := by
    have hjs : j = (sh c (t + 1)).val := hj
    subst hjs
    exact fun x => (congrFun (sent_rs0 m c ht) x).symm
  exact send_rs m K c (n := t) (l := 0) (by decide) (by omega) ht inb (around c.isLt (show t + 1 < 8 by omega) hj) (src_rs0 m c ht) (dst_rs0 c ht) (by omega)
    (by intro f g; exact landAt_rs0 _ ht f g) hsent (Fin.ext hd) h₁ h₂

/-- Layer 0's partial products, at the offset the kernel computes. -/
theorem send_rs0_at {r t : ℕ} (ht : t < 7) {off : Fin 4 → ℕ} (hoff : off = ![0, (c.val + t + 1) % 8, 0, 0]) {inb}
    {d : Dev nD} (hd : d.val = (c.val + (t + 1)) % 8) {sS sem : DmaSem sig}
    (h₁ : sS = dS (8 + t)) (h₂ : sem = dS (50 + t)) {hsc hsrc hdst hsem} :
    iprop(St m K c t r ∗ pR fullShare c.val 0 (t + 1) 8 c (PA m c))
      ⊢ iprop((iprop(St m K c (t + 1) r ∗ pR fullShare c.val 0 (t + 1 + 1) 8 c (PA m c)) -∗ Wp c (k ⟨⟩) Q)
          -∗ Wp c (.op (.enqueueDma (((Memref.whole cc0_scratch3 : Memref sig .tc .vmem S3x8x64x256 .bf16).slice
              (Rect.unit (s := S3x8x64x256) off S1x1x64x256.size inb) (fun _ => rfl)).squeeze S1x64x256 squeezes_S1x1x64x256_S1x64x256)
            (.remote (Dev.tc d : Thread nD τ) (rM 0 t (by decide) ht) (.dma sS) hsc) (.dma sem) hsrc hdst hsem) k) Q) := by
  subst hoff
  exact send_rs0 m K c ht (j := (c.val + t + 1) % 8) (inb := Nat.mod_lt _ (by decide)) rfl hd h₁ h₂

/-- Layer 1's partial products, sent back to the device `t + 1` places before. -/
theorem send_rs1 {r t hi : ℕ} (ht : t < 7) (h8 : t + 1 < hi)
    {d : Dev nD} (hd : d.val = (c.val + (7 - t)) % 8) {sS sem : DmaSem sig}
    (h₁ : sS = dS (8 + (14 + t))) (h₂ : sem = dS (50 + (14 + t))) {hsc hsrc hdst hsem} :
    iprop(St m K c (14 + t) r ∗ pR fullShare 0 1 (t + 1) hi c (PA m c))
      ⊢ iprop((iprop(St m K c (14 + t + 1) r ∗ pR fullShare 0 1 (t + 1 + 1) hi c (PA m c)) -∗ Wp c (k ⟨⟩) Q)
          -∗ Wp c (.op (.enqueueDma (pM 1 (t + 1) (by decide) (Nat.succ_le_succ ht)) (.remote (Dev.tc d : Thread nD τ) (rM 1 t (by decide) ht) (.dma sS) hsc) (.dma sem) hsrc hdst hsem) k) Q) :=
  send_rs m K c (n := 14 + t) (l := 1) (by decide) h8 ht (Nat.succ_le_succ ht) (by omega) (src_rs1 m c ht) (dst_rs1 c ht) (by omega)
    (fun f g => landAt_rs1 _ ht f g) (fun x => (congrFun (sent_rs1 m c ht) x).symm) (Fin.ext hd) h₁ h₂

/-- Layer 2's partial products, sent back to the device `t + 1` places before. -/
theorem send_rs2 {r t hi : ℕ} (ht : t < 7) (h8 : t + 1 < hi)
    {d : Dev nD} (hd : d.val = (c.val + (7 - t)) % 8) {sS sem : DmaSem sig}
    (h₁ : sS = dS (8 + (28 + t))) (h₂ : sem = dS (50 + (28 + t))) {hsc hsrc hdst hsem} :
    iprop(St m K c (28 + t) r ∗ pR fullShare 0 2 (t + 1) hi c (PA m c))
      ⊢ iprop((iprop(St m K c (28 + t + 1) r ∗ pR fullShare 0 2 (t + 1 + 1) hi c (PA m c)) -∗ Wp c (k ⟨⟩) Q)
          -∗ Wp c (.op (.enqueueDma (pM 2 (t + 1) (by decide) (Nat.succ_le_succ ht)) (.remote (Dev.tc d : Thread nD τ) (rM 2 t (by decide) ht) (.dma sS) hsc) (.dma sem) hsrc hdst hsem) k) Q) :=
  send_rs m K c (n := 28 + t) (l := 2) (by decide) h8 ht (Nat.succ_le_succ ht) (by omega) (src_rs2 m c ht) (dst_rs2 c ht) (by omega)
    (fun f g => landAt_rs2 _ ht f g) (fun x => (congrFun (sent_rs2 m c ht) x).symm) (Fin.ext hd) h₁ h₂

/-- The two all-gather phases: the device's own activations, sent to the device `j` places on. -/
theorem send_ag {r l n j : ℕ} (hl : l < 2) (h1 : 1 ≤ j) (h8 : j < 8)
    (hsrcE : Src m n c = xR (Transfers.shareTokN fullShare (j - 1)) 0 l 0 1 c (XA m c)) (hdd : dst n c = sh c j) (hn : n < 35)
    (hlA : ∀ (f : S3x7x64x256.Idx → Elt F .bf16) (g : S2x8x64x256.Idx → Elt F .bf16), landAt n (sh c j) f g = xR fullShare 0 l j (j + 1) (sh c j) g)
    (hsent : ld4 (XA m (sh c j)) l j 1 hl (by omega) = ld4 (XA m c) l 0 1 hl (by decide))
    {d : Dev nD} (hd : d.val = (c.val + j) % 8) {inb : j + 1 ≤ 8} {inb' : 0 + 1 ≤ 8} {sS sem : DmaSem sig}
    (h₁ : sS = dS (8 + n)) (h₂ : sem = dS (50 + n)) {hsc hsrc hdst hsem} :
    iprop(St m K c n r ∗ xR (Transfers.shareDrop fullShare (j - 1)) 0 l 0 1 c (XA m c))
      ⊢ iprop((iprop(St m K c (n + 1) r ∗ xR (Transfers.shareDrop fullShare j) 0 l 0 1 c (XA m c)) -∗ Wp c (k ⟨⟩) Q)
          -∗ Wp c (.op (.enqueueDma (xM l 0 hl inb') (.remote (Dev.tc d : Thread nD τ) (xM l j hl inb) (.dma sS) hsc) (.dma sem) hsrc hdst hsem) k) Q) := by
  rw [xR_share fullShare (j - 1) c (XA m c), Nat.sub_add_cancel h1]
  rw [← hsrcE]
  iintro ⟨HS, Hrest, Hp⟩ Hk
  have hsrcE' := hsrcE.trans (xM_pts c (Transfers.shareTokN fullShare (j - 1)) (z := 0) (lo := 0) hl inb' (by omega) (XA m c)).symm
  have hde : d = sh c j := Fin.ext hd
  iapply (step_send m K c (s := n) (r := r) hn (d := d) (src := xM l 0 hl inb') (dm := xM l j hl inb) (hde.trans hdd.symm) h₁ h₂ (q := Transfers.shareTokN fullShare (j - 1)) (fs := XA m c) rfl
    hsrcE'
    (by intro f g; rw [hdd, hlA]; exact xM_slot hl inb _ g)
    (by
      intro fd
      rw [hdd]
      unfold Land
      rw [hlA]
      exact Entails.of_eq (xM_land hl inb _ fd _ _ ((xM_read hl inb' (XA m c)).trans
        (funext fun x => (congrFun hsent _).symm))))) $$ [HS Hp]
  · isplitl [HS] <;> iassumption
  iintro HS
  iapply Hk
  isplitl [HS] <;> iassumption

/-- Layer 1's input, sent to the device `t + 1` places on. -/
theorem send_ag0 {r t : ℕ} (ht : t < 7)
    {d : Dev nD} (hd : d.val = (c.val + (t + 1)) % 8) {sS sem : DmaSem sig}
    (h₁ : sS = dS (8 + (7 + t))) (h₂ : sem = dS (50 + (7 + t))) {hsc hsrc hdst hsem} :
    iprop(St m K c (7 + t) r ∗ xR (Transfers.shareDrop fullShare t) 0 0 0 1 c (XA m c))
      ⊢ iprop((iprop(St m K c (7 + t + 1) r ∗ xR (Transfers.shareDrop fullShare (t + 1)) 0 0 0 1 c (XA m c)) -∗ Wp c (k ⟨⟩) Q)
          -∗ Wp c (.op (.enqueueDma (xM 0 0 (by decide) (by decide)) (.remote (Dev.tc d : Thread nD τ) (xM 0 (t + 1) (by decide) (Nat.succ_le_succ ht)) (.dma sS) hsc) (.dma sem) hsrc hdst hsem) k) Q) :=
  send_ag m K c (n := 7 + t) (l := 0) (j := t + 1) (by decide) (by omega) (by omega) (src_ag0 m c ht) (dst_ag0 c ht) (by omega)
    (fun f g => landAt_ag0 _ ht f g) (sent_ag0 m c ht) hd h₁ h₂

/-- Layer 2's input, sent to the device `t + 1` places on. -/
theorem send_ag1 {r t : ℕ} (ht : t < 7)
    {d : Dev nD} (hd : d.val = (c.val + (t + 1)) % 8) {sS sem : DmaSem sig}
    (h₁ : sS = dS (8 + (21 + t))) (h₂ : sem = dS (50 + (21 + t))) {hsc hsrc hdst hsem} :
    iprop(St m K c (21 + t) r ∗ xR (Transfers.shareDrop fullShare t) 0 1 0 1 c (XA m c))
      ⊢ iprop((iprop(St m K c (21 + t + 1) r ∗ xR (Transfers.shareDrop fullShare (t + 1)) 0 1 0 1 c (XA m c)) -∗ Wp c (k ⟨⟩) Q)
          -∗ Wp c (.op (.enqueueDma (xM 1 0 (by decide) (by decide)) (.remote (Dev.tc d : Thread nD τ) (xM 1 (t + 1) (by decide) (Nat.succ_le_succ ht)) (.dma sS) hsc) (.dma sem) hsrc hdst hsem) k) Q) :=
  send_ag m K c (n := 21 + t) (l := 1) (j := t + 1) (by decide) (by omega) (by omega) (src_ag1 m c ht) (dst_ag1 c ht) (by omega)
    (fun f g => landAt_ag1 _ ht f g) (sent_ag1 m c ht) hd h₁ h₂

/-! ## Receiving -/

section Recv
variable {s t : ℕ} {src : Memref sig .tc .vmem S1x64x256 .bf16} {sem : DmaSem sig}
  {hsrc : src.view.WordExact}

/-- A received block of partial products joins the ones before it. -/
theorem recv_r {l : ℕ} (hl : l < 3) (ht : t < 7) (hs : 14 * l + 7 ≤ s) (h₂ : sem = dS (50 + (14 * l + t))) {hdst} :
    iprop(St m K c s (14 * l + t) ∗ rR fullShare 0 l 0 t c (RA m c))
      ⊢ iprop((iprop(St m K c s (14 * l + t + 1) ∗ rR fullShare 0 l 0 (t + 1) c (RA m c)) -∗ Wp c (k ⟨⟩) Q)
          -∗ Wp c (.op (.waitDma2 sem src (rM l t hl ht) hsrc hdst) k) Q) := by
  have hl' : Land m (14 * l + t) c = rR fullShare 0 l t (t + 1) c (RA m c) := by
    unfold Land
    obtain rfl | rfl | rfl : l = 0 ∨ l = 1 ∨ l = 2 := by omega
    · simp only [Nat.mul_zero, Nat.zero_add]; exact landAt_rs0 c ht _ _
    · exact landAt_rs1 c ht _ _
    · exact landAt_rs2 c ht _ _
  rw [rR_cut (q := fullShare) (lo := 0) (hi := t + 1) t c (RA m c) (Nat.zero_le _) (Nat.le_succ _), ← hl']
  iintro ⟨HS, Hr⟩ Hk
  iapply (step_recv m K c (s := s) (r := 14 * l + t) (by omega) (by omega) h₂ (src := src) (dm := rM l t hl ht) (hsrc := hsrc) (hdst := hdst) rfl) $$ HS
  iintro ⟨HS, Hl⟩
  iapply Hk
  isplitl [HS]; · iexact HS
  isplitl [Hr] <;> iassumption

/-- A received block of activations joins the ones before it. -/
theorem recv_x {l : ℕ} (hl : l < 2) (h1 : 1 ≤ t) (ht : t < 8) (hs : 14 * l + 14 ≤ s) (h₂ : sem = dS (50 + (14 * l + 6 + t))) {hdst} :
    iprop(St m K c s (14 * l + 6 + t) ∗ xR fullShare 0 l 1 t c (XA m c))
      ⊢ iprop((iprop(St m K c s (14 * l + 6 + t + 1) ∗ xR fullShare 0 l 1 (t + 1) c (XA m c)) -∗ Wp c (k ⟨⟩) Q)
          -∗ Wp c (.op (.waitDma2 sem src (xM l t hl ht) hsrc hdst) k) Q) := by
  have hl' : Land m (14 * l + 6 + t) c = xR fullShare 0 l t (t + 1) c (XA m c) := by
    unfold Land
    obtain ⟨u, rfl⟩ : ∃ u, t = u + 1 := ⟨t - 1, by omega⟩
    obtain rfl | rfl : l = 0 ∨ l = 1 := by omega
    · rw [show 14 * 0 + 6 + (u + 1) = 7 + u by omega]; exact landAt_ag0 c (by omega) _ _
    · rw [show 14 * 1 + 6 + (u + 1) = 21 + u by omega]; exact landAt_ag1 c (by omega) _ _
  rw [xR_cut (q := fullShare) (lo := 1) (hi := t + 1) t c (XA m c) h1 (Nat.le_succ _), ← hl']
  iintro ⟨HS, Hr⟩ Hk
  iapply (step_recv m K c (s := s) (r := 14 * l + 6 + t) (by omega) (by omega) h₂ (src := src) (dm := xM l t hl ht) (hsrc := hsrc) (hdst := hdst) rfl) $$ HS
  iintro ⟨HS, Hl⟩
  iapply Hk
  isplitl [HS]; · iexact HS
  isplitl [Hr] <;> iassumption

/-! ## Waiting for the sources -/

end Recv
end Moves

/-- The order in which the kernel waits for its sources: the partial products of the three layers, then the two inputs. -/
def ord (w : ℕ) : ℕ := if w < 7 then w else if w < 14 then w + 7 else if w < 21 then w + 14 else if w < 28 then w - 14 else w - 7
theorem ord_lt {w : ℕ} (h : w < 35) : ord w < 35 := by unfold ord; split_ifs <;> omega
theorem ord_image : (Finset.Ico 0 35).image ord = Finset.Ico 0 35 := by decide
theorem ord_inj : Set.InjOn ord (Finset.Ico 0 35 : Finset ℕ) := by
  intro a ha b hb h
  have ha' := Finset.mem_Ico.mp (Finset.mem_coe.mp ha)
  have hb' := Finset.mem_Ico.mp (Finset.mem_coe.mp hb)
  unfold ord at h; split_ifs at h <;> omega
theorem big_ord (Φ : ℕ → sProp 𝕄) : (bigSep (Finset.Ico 0 35) fun w => Φ (ord w)) = bigSep (Finset.Ico 0 35) Φ := by
  conv_rhs => rw [← ord_image]
  exact (bigSep_image_of_injOn ord_inj Φ).symm

/-- The state at the end, `w` sources waited for. -/
def Sw (c : Dev nD) (w : ℕ) : sProp 𝕄 :=
  iprop(Recs m K ∗ (∃ W, owes (c : Thread nD τ) 0 W)
    ∗ (bigSep (Finset.Ico w 35) fun v => Sent (ord v) c)
    ∗ (bigSep (Finset.Ico 0 w) fun v => iprop(semVal (sendCell (ord v) c) 0 ∗ Src m (ord v) c)))

theorem st_sw (c : Dev nD) : St m K c 35 35 ⊢ iprop(Sw m K c 0 ∗ bigSep (Finset.Ico 0 35) fun n => semVal (recvCell n c) 0) := by
  unfold St Sw
  rw [Orem_last, Finset.Ico_self, Finset.Ico_self, bigSep_empty, bigSep_empty, bigSep_empty, big_ord (F := F) fun n => Sent n c]
  iintro ⟨#HR, Ho, -, Hs, -, Hv⟩
  isplitr [Hv]
  · isplitr; · iexact HR
    isplitl [Ho]; · iexact Ho
    isplitl [Hs]; · iexact Hs
    iempintro
  iexact Hv

theorem sw_end (c : Dev nD) : Sw m K c 35 ⊢ iprop((∃ W, owes (c : Thread nD τ) 0 W)
      ∗ (bigSep (Finset.Ico 0 35) fun n => semVal (sendCell n c) 0) ∗ bigSep (Finset.Ico 0 35) fun n => Src m n c) := by
  unfold Sw
  rw [big_ord (F := F) fun n => iprop(semVal (sendCell n c) 0 ∗ Src m n c), bigSep_sep']
  iintro ⟨-, Ho, -, Hs⟩
  isplitl [Ho]; · iexact Ho
  iexact Hs

section Back
variable (c : Dev nD) {α : Type} {Q : α → sProp (MT nD τ sig Unit (Elt F) ℕ UU ℕ)} {k : PUnit → Prog (TpuEff nD τ sig (Elt F) Λ₀ .tc) α}

/-- The `w`-th wait for a source. -/
theorem step_sent {w : ℕ} (hw : w < 35) {src dm : Memref sig .tc .vmem S1x64x256 .bf16} {sem : DmaSem sig} (hs : sem = dS (8 + ord w))
    {hsrc : src.view.WordExact} {hdst : dm.view.WordExact} (hN : dm.view.dmaCredit = N) :
    Sw m K c w ⊢ iprop((Sw m K c (w + 1) -∗ Wp c (k ⟨⟩) Q)
          -∗ Wp c (.op (.waitDma2 sem src dm hsrc hdst) k) Q) := by
  subst hs
  have hn := ord_lt hw
  unfold Sw
  rw [bigSep_Ico_succ_bot hw, bigSep_Ico_succ_top (Nat.zero_le w)]
  unfold Sent
  iintro ⟨#HR, ⟨%W, Ho⟩, ⟨⟨Hc, Ha⟩, H1⟩, H2⟩ Hk
  iapply (Rounds.wp_wait_rest_token 𝒱₀ ER (Rd m) (c : Thread nD τ) none (κ := K (c, Fin.ofNat 92 (8 + ord w)))
      (wpE_waitDma2_eq 𝒱₀ (c : Thread nD τ) none Set.univ) (Set.mem_univ _) () (O := 0) (W := W) (R := 0) (m := 0) (T := ∅)
      ((congrArg (0 + ·) hN).trans ((Nat.zero_add N).trans (by rw [expect_d m c (by omega) (by unfold used; omega), if_neg (by omega)])))) $$ [Hc Ho Ha]
  · isplitr; · iapply (inv_d m K c (by omega) (by omega)); iexact HR
    isplitl [Hc]; · rw [hN]; iexact Hc
    isplitl [Ho]; · iexact Ho
    isplitr; · rw [MayWait_zero]; iempintro
    iexact Ha
  iintro ⟨Ho, Ha, -, Hp⟩
  ihave Hp := (Entails.of_eq ((rest_d m c (v := 8 + ord w) (by omega) (by unfold used; omega)).trans (payload_send m c hn))) $$ Hp
  imod (Rounds.cell_close ER (Rd m) (Set.mem_univ (K (c, Fin.ofNat 92 (8 + ord w)))) (fun h => h) (R := 0 + 1) (duties_later m (sendCell (ord w) c))) $$ [Ha] with Hz
  · isplitr; · iapply (inv_d m K c (by omega) (by omega)); iexact HR
    iexact Ha
  iapply Hk
  isplitr; · iexact HR
  isplitl [Ho]; · iexists _; iexact Ho
  isplitl [H1]; · iexact H1
  isplitl [Hz Hp]
  · isplitl [Hz] <;> iassumption
  iexact H2

end Back

end Cert.TpMlp

end
-- ==== Proof.Pieces.lean ====
/-
# The pieces of the body: set-up

The kernel's body is a chain of pieces, each run at the call's own operands. This module names those operands once and
states what each stored block of partial products holds.
-/
module

public import proofs.«01_k».proof.Proof.Moves

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of the body at the call's operands. -/
abbrev On {β : Sort*} (f : ∀ (arg0 : Memref sig .tc .hbm S512x256 .f32) (harg0 : arg0.IsWhole) (arg1 : Memref sig .tc .hbm S256x512 .f32) (harg1 : arg1.IsWhole) (arg2 : Memref sig .tc .hbm S512x256 .f32) (harg2 : arg2.IsWhole) (arg3 : Memref sig .tc .hbm S256x512 .f32) (harg3 : arg3.IsWhole) (arg4 : Memref sig .tc .hbm S512x256 .f32) (harg4 : arg4.IsWhole) (arg5 : Memref sig .tc .hbm S256x512 .f32) (harg5 : arg5.IsWhole) (arg6 : Memref sig .tc .hbm S512x256 .f32) (harg6 : arg6.IsWhole) (arg7 : Memref sig .tc .vmem S64x256 .f32) (harg7 : arg7.IsWhole) (arg8 : Memref sig .tc .vmem S512x256 .f32) (harg8 : arg8.IsWhole) (arg9 : Memref sig .tc .vmem S3x256x512 .f32) (harg9 : arg9.IsWhole) (arg10 : Memref sig .tc .vmem S3x512x256 .f32) (harg10 : arg10.IsWhole) (arg11 : Memref sig .tc .vmem S3x8x64x256 .bf16) (harg11 : arg11.IsWhole) (arg12 : Memref sig .tc .vmem S3x7x64x256 .bf16) (harg12 : arg12.IsWhole) (arg13 : Memref sig .tc .vmem S2x8x64x256 .bf16) (harg13 : arg13.IsWhole) (arg14 : DmaSems sig S7) (arg15 : DmaSems sig S3x2x7) (arg16 : DmaSems sig S3x2x7), β) : β :=
  f (Memref.whole main_arg0) (Memref.isWhole_whole _) (Memref.whole main_arg1) (Memref.isWhole_whole _) (Memref.whole main_arg4) (Memref.isWhole_whole _) (Memref.whole main_arg2) (Memref.isWhole_whole _) (Memref.whole main_arg5) (Memref.isWhole_whole _) (Memref.whole main_arg3) (Memref.isWhole_whole _) (Memref.whole main_arg6) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8

variable (m : (ℓ : Loc nD τ sig) → Buf (Elt F) ℓ) (c : Dev nD)

/-- One turn more around the eight devices is the same device. -/
theorem wrap {x a t : ℕ} (h : x = (a + (t + 8)) % 8) : x = (a + t) % 8 := by omega

/-- A finished piece. -/
theorem Wp_ret {α : Type} (a : α) (Q : α → sProp (MT nD τ sig Unit (Elt F) ℕ UU ℕ)) : Q a ⊢ Wp c (Prog.ret a) Q := by
  unfold Wp
  rw [wp_ret]
  exact fupd_intro

/-- The device's own block of layer `l + 1`'s input, `t` of its readers' shares given away. -/
abbrev Xo (l t : ℕ) : sProp 𝕄 := xR (Transfers.shareDrop fullShare t) 0 l 0 1 c (XA m c)
/-- The blocks `1 … hi - 1` of layer `l + 1`'s input. -/
abbrev Xg (l hi : ℕ) : sProp 𝕄 := xR fullShare 0 l 1 hi c (XA m c)
/-- The first `hi` received blocks of layer `l`. -/
abbrev Rg (l hi : ℕ) : sProp 𝕄 := rR fullShare 0 l 0 hi c (RA m c)
/-- The blocks `lo … hi - 1` of layer `l`'s partial products. -/
abbrev Pg (l lo hi : ℕ) : sProp 𝕄 := pR fullShare 0 l lo hi c (PA m c)

/-! ## What each stored block holds -/

omit [FloatOps F] in
/-- The first coordinate of a one-row rectangle is 0. -/
theorem one_row {w : ℕ} {e : EltTy} (g : (⟨4, ![1, w, 64, 256]⟩ : Shape).Idx → Elt F e) (i : (⟨4, ![1, w, 64, 256]⟩ : Shape).Idx) (j : Fin w)
    (hj : j.val = (i 1).val) : g (ix4 (0 : Fin 1) j (i 2) (i 3)) = g i :=
  congrArg g (funext fun a => match a with
    | 0 => Fin.ext (show 0 = (i 0).val by have h : (i 0).val < 1 := (i 0).isLt; omega)
    | 1 => Fin.ext hj
    | 2 => rfl
    | 3 => rfl)

/-- Layer 0's eight blocks of partial products. -/
theorem stored_p0 : ld4 (PA m c) 0 0 8 (by decide) (by decide)
    = k0_pay1 (xA m c) (wi m 0 (by decide) c) (wo m 0 (by decide) c) := by
  funext i
  have h8 : (i 1).val < 8 := (i 1).isLt
  show P0 m c (ix4 (0 : Fin 3) ⟨0 + (i 1).val, by omega⟩ (i 2) (i 3)) = _
  exact one_row (w := 8) (F := F) (e := .bf16) (k0_pay1 (xA m c) (wi m 0 (by decide) c) (wo m 0 (by decide) c)) i
    ⟨0 + (i 1).val, by omega⟩ (Nat.zero_add (i 1).val)

/-- Layer 0's result, the own block. -/
theorem stored_x0 : ld4 (XA m c) 0 0 1 (by decide) (by decide) = A0 m c := by
  funext i
  have h1 : 0 + (i 1).val = 0 := by have h : (i 1).val < 1 := (i 1).isLt; omega
  show A0 m (sh c (8 - (0 + (i 1).val))) (ix4 (0 : Fin 1) (0 : Fin 1) (i 2) (i 3)) = _
  rw [h1, Nat.sub_zero, sh_eight]
  exact one_row (A0 m c) i 0 (show 0 = (i 1).val by have h : (i 1).val < 1 := (i 1).isLt; omega)
/-- Layer 1's result, the own block. -/
theorem stored_x1 : ld4 (XA m c) 1 0 1 (by decide) (by decide) = A1 m c := by
  funext i
  have h1 : 0 + (i 1).val = 0 := by have h : (i 1).val < 1 := (i 1).isLt; omega
  show A1 m (sh c (8 - (0 + (i 1).val))) (ix4 (0 : Fin 1) (0 : Fin 1) (i 2) (i 3)) = _
  rw [h1, Nat.sub_zero, sh_eight]
  exact one_row (A1 m c) i 0 (show 0 = (i 1).val by have h : (i 1).val < 1 := (i 1).isLt; omega)

/-! Layer 1's groups of blocks. -/
theorem stored_p1_0 : ld4 (PA m c) 1 0 1 (by decide) (by decide)
    = k0_pay9 (k0_pay8 (ld4 (XA m c) 0 0 1 (by decide) (by decide)) (wi m 1 (by decide) c) (wo m 1 (by decide) c)) :=
  (show ld4 (P1 m c) 1 0 1 (by decide) (by decide) = _ from ld4_grp_self _ _ _ _ _ (by decide) (by decide))
theorem stored_p1_1 : ld4 (PA m c) 1 1 2 (by decide) (by decide)
    = k0_pay10 (k0_pay5 (wi m 1 (by decide) c)) (k0_pay6 (wo m 1 (by decide) c)) (ld4 (XA m c) 0 1 2 (by decide) (by decide)) :=
  (show ld4 (P1 m c) 1 1 2 (by decide) (by decide) = _ from (ld4_grp_ne _ _ _ _ _ _ _ (by decide) (by decide) (by decide)).trans (ld4_grp_self _ _ _ _ _ (by decide) (by decide)))
theorem stored_p1_3 : ld4 (PA m c) 1 3 2 (by decide) (by decide)
    = k0_pay12 (k0_pay11 (k0_pay5 (wi m 1 (by decide) c)) (k0_pay6 (wo m 1 (by decide) c)) (ld4 (XA m c) 0 3 2 (by decide) (by decide))) :=
  (show ld4 (P1 m c) 1 3 2 (by decide) (by decide) = _ from (ld4_grp_ne _ _ _ _ _ _ _ (by decide) (by decide) (by decide)).trans ((ld4_grp_ne _ _ _ _ _ _ _ (by decide) (by decide) (by decide)).trans (ld4_grp_self _ _ _ _ _ (by decide) (by decide))))
theorem stored_p1_5 : ld4 (PA m c) 1 5 2 (by decide) (by decide)
    = k0_pay13 (k0_pay5 (wi m 1 (by decide) c)) (k0_pay6 (wo m 1 (by decide) c)) (ld4 (XA m c) 0 5 2 (by decide) (by decide)) :=
  (show ld4 (P1 m c) 1 5 2 (by decide) (by decide) = _ from (ld4_grp_ne _ _ _ _ _ _ _ (by decide) (by decide) (by decide)).trans ((ld4_grp_ne _ _ _ _ _ _ _ (by decide) (by decide) (by decide)).trans ((ld4_grp_ne _ _ _ _ _ _ _ (by decide) (by decide) (by decide)).trans (ld4_grp_self _ _ _ _ _ (by decide) (by decide)))))
theorem stored_p1_7 : ld4 (PA m c) 1 7 1 (by decide) (by decide)
    = k0_pay14 (k0_pay5 (wi m 1 (by decide) c)) (k0_pay6 (wo m 1 (by decide) c)) (ld4 (XA m c) 0 7 1 (by decide) (by decide)) :=
  (show ld4 (P1 m c) 1 7 1 (by decide) (by decide) = _ from (ld4_grp_ne _ _ _ _ _ _ _ (by decide) (by decide) (by decide)).trans ((ld4_grp_ne _ _ _ _ _ _ _ (by decide) (by decide) (by decide)).trans ((ld4_grp_ne _ _ _ _ _ _ _ (by decide) (by decide) (by decide)).trans ((ld4_grp_ne _ _ _ _ _ _ _ (by decide) (by decide) (by decide)).trans (ld4_grp_self _ _ _ _ _ (by decide) (by decide))))))

/-! Layer 2's groups of blocks. -/
theorem stored_p2_0 : ld4 (PA m c) 2 0 1 (by decide) (by decide)
    = k0_pay21 (k0_pay17 (ld4 (XA m c) 1 0 1 (by decide) (by decide))) (k0_pay18 (wi m 2 (by decide) c)) (wo m 2 (by decide) c) :=
  (show ld4 (P2 m c) 2 0 1 (by decide) (by decide) = _ from ld4_grp_self _ _ _ _ _ (by decide) (by decide))
theorem stored_p2_1 : ld4 (PA m c) 2 1 2 (by decide) (by decide)
    = k0_pay22 (k0_pay18 (wi m 2 (by decide) c)) (k0_pay19 (wo m 2 (by decide) c)) (ld4 (XA m c) 1 1 2 (by decide) (by decide)) :=
  (show ld4 (P2 m c) 2 1 2 (by decide) (by decide) = _ from (ld4_grp_ne _ _ _ _ _ _ _ (by decide) (by decide) (by decide)).trans (ld4_grp_self _ _ _ _ _ (by decide) (by decide)))
theorem stored_p2_3 : ld4 (PA m c) 2 3 2 (by decide) (by decide)
    = k0_pay23 (k0_pay18 (wi m 2 (by decide) c)) (k0_pay19 (wo m 2 (by decide) c)) (ld4 (XA m c) 1 3 2 (by decide) (by decide)) :=
  (show ld4 (P2 m c) 2 3 2 (by decide) (by decide) = _ from (ld4_grp_ne _ _ _ _ _ _ _ (by decide) (by decide) (by decide)).trans ((ld4_grp_ne _ _ _ _ _ _ _ (by decide) (by decide) (by decide)).trans (ld4_grp_self _ _ _ _ _ (by decide) (by decide))))
theorem stored_p2_5 : ld4 (PA m c) 2 5 2 (by decide) (by decide)
    = k0_pay24 (k0_pay18 (wi m 2 (by decide) c)) (k0_pay19 (wo m 2 (by decide) c)) (ld4 (XA m c) 1 5 2 (by decide) (by decide)) :=
  (show ld4 (P2 m c) 2 5 2 (by decide) (by decide) = _ from (ld4_grp_ne _ _ _ _ _ _ _ (by decide) (by decide) (by decide)).trans ((ld4_grp_ne _ _ _ _ _ _ _ (by decide) (by decide) (by decide)).trans ((ld4_grp_ne _ _ _ _ _ _ _ (by decide) (by decide) (by decide)).trans (ld4_grp_self _ _ _ _ _ (by decide) (by decide)))))
theorem stored_p2_7 : ld4 (PA m c) 2 7 1 (by decide) (by decide)
    = k0_pay25 (k0_pay18 (wi m 2 (by decide) c)) (k0_pay19 (wo m 2 (by decide) c)) (ld4 (XA m c) 1 7 1 (by decide) (by decide)) :=
  (show ld4 (P2 m c) 2 7 1 (by decide) (by decide) = _ from (ld4_grp_ne _ _ _ _ _ _ _ (by decide) (by decide) (by decide)).trans ((ld4_grp_ne _ _ _ _ _ _ _ (by decide) (by decide) (by decide)).trans ((ld4_grp_ne _ _ _ _ _ _ _ (by decide) (by decide) (by decide)).trans ((ld4_grp_ne _ _ _ _ _ _ _ (by decide) (by decide) (by decide)).trans (ld4_grp_self _ _ _ _ _ (by decide) (by decide))))))

end Cert.TpMlp

end
-- ==== Proof.Loads.lean ====
/-
# The local copies and the output block

Each device starts by copying its own arguments into its on-chip buffers. This module states those copies and the
waits for them over the buffers they fill, and the loads and stores of the two buffers accessed whole.
-/
module

public import proofs.«01_k».proof.Proof.Pieces

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 92 → ℕ) (c : Dev nD)

/-- The argument that local copy `i` reads, at its launch contents. -/
def ArgPt (i : ℕ) (c : Dev nD) : sProp 𝕄 :=
  match i with
  | 0 => ((c : Thread nD τ).loc main_arg0) ↦{fullShare} m _
  | 1 => ((c : Thread nD τ).loc main_arg1) ↦{fullShare} m _
  | 2 => ((c : Thread nD τ).loc main_arg4) ↦{fullShare} m _
  | 3 => ((c : Thread nD τ).loc main_arg2) ↦{fullShare} m _
  | 4 => ((c : Thread nD τ).loc main_arg5) ↦{fullShare} m _
  | 5 => ((c : Thread nD τ).loc main_arg3) ↦{fullShare} m _
  | _ => ((c : Thread nD τ).loc main_arg6) ↦{fullShare} m _

/-- What stays of local copy `i` once it has been waited for, apart from the block it filled. -/
def Kept (i : ℕ) (c : Dev nD) : sProp 𝕄 := iprop(semVal (loadCell i c) 0 ∗ ArgPt m i c)

/-- Device `c`'s copy of `x` at contents `f`. -/
def inR (c : Dev nD) (f : S512x256.Idx → Elt F .f32) : sProp 𝕄 := ((c : Thread nD τ).loc cc0_scratch0) ↦{fullShare} f
/-- Device `c`'s output block at contents `f`. -/
def outR (c : Dev nD) (f : S64x256.Idx → Elt F .f32) : sProp 𝕄 := ((c : Thread nD τ).loc cc0_stg0_0) ↦{fullShare} f

theorem argPt_x : ArgPt m 0 c = (((c : Thread nD τ).loc main_arg0) ↦{fullShare} m _) := rfl
theorem loadPay_x : LoadPay m 0 c = iprop(ArgPt m 0 c ∗ inR c (xA m c)) := rfl
theorem loadPay_wi {l : ℕ} (hl : l < 3) : LoadPay m (1 + 2 * l) c = iprop(ArgPt m (1 + 2 * l) c ∗ wiR l c (WI m c)) := by
  obtain rfl | rfl | rfl : l = 0 ∨ l = 1 ∨ l = 2 := by omega
  all_goals rfl
theorem loadPay_wo {l : ℕ} (hl : l < 3) : LoadPay m (2 + 2 * l) c = iprop(ArgPt m (2 + 2 * l) c ∗ woR l c (WO m c)) := by
  obtain rfl | rfl | rfl : l = 0 ∨ l = 1 ∨ l = 2 := by omega
  all_goals rfl

section Steps
variable {α : Type} {Q : α → sProp (MT nD τ sig Unit (Elt F) ℕ UU ℕ)} {k : PUnit → Prog (TpuEff nD τ sig (Elt F) Λ₀ .tc) α}

/-- The copy of `x`. -/
theorem copy_x {b : ℕ} {sem : DmaSem sig} (hs : sem = dS (1 + 0)) {hsrc hdst hsem} {f} :
    iprop(Bs m K c b ∗ LI 0 c ∗ ArgPt m 0 c ∗ inR c f)
      ⊢ iprop((iprop(Bs m K c b ∗ LT 0 c) -∗ Wp c (k ⟨⟩) Q)
          -∗ Wp c (.op (.enqueueDma (Memref.whole main_arg0 : Memref sig .tc .hbm S512x256 .f32)
            (.here (Memref.whole cc0_scratch0 : Memref sig .tc .vmem S512x256 .f32)) (.dma sem) hsrc hdst hsem) k) Q) := by
  have h := step_copy (Q := Q) (k := k) m K c (i := 0) (by decide) (src := (Memref.whole main_arg0 : Memref sig .tc .hbm S512x256 .f32))
    (dm := (Memref.whole cc0_scratch0 : Memref sig .tc .vmem S512x256 .f32)) hs (hsrc := hsrc) (hdst := hdst) (hsem := hsem)
    (fs := m ((c : Thread nD τ).loc main_arg0)) (fd := f) rfl
    (by
      rw [loadPay_x, argPt_x, View.set_whole, View.set_whole]
      iintro ⟨H1, H2⟩
      isplitl [H2]; · iexact H2
      unfold inR
      iapply (Entails.of_eq (congrArg (fun g => (((c : Thread nD τ).loc cc0_scratch0) ↦{fullShare} g : sProp 𝕄))
        (View.write_whole_univ (Val := Elt F) cc0_scratch0 f _))) $$ H1)
    (b := b)
  rw [View.set_whole, View.set_whole] at h
  exact h

/-- The copy of the first weight of layer `l`. -/
theorem copy_wi {b l : ℕ} (hl : l < 3) {src : Memref sig .tc .hbm S256x512 .f32} {g : Buf (Elt F) (src.view.loc (c : Thread nD τ))}
    (hsrcE : (src.view.loc (c : Thread nD τ) ↦[src.view.set]{fullShare} g : sProp 𝕄) = ArgPt m (1 + 2 * l) c)
    (hread : src.view.read (Elt F) g = winA m ⟨l, hl⟩ c)
    {sem : DmaSem sig} (hs : sem = dS (1 + (1 + 2 * l))) {hsrc hdst hsem} {f} :
    iprop(Bs m K c b ∗ LI (1 + 2 * l) c ∗ ArgPt m (1 + 2 * l) c ∗ wiR l c f)
      ⊢ iprop((iprop(Bs m K c b ∗ LT (1 + 2 * l) c) -∗ Wp c (k ⟨⟩) Q)
          -∗ Wp c (.op (.enqueueDma src (.here (wiM l hl)) (.dma sem) hsrc hdst hsem) k) Q) := by
  rw [← hsrcE, ← wiM_pts c hl f]
  refine step_copy m K c (i := 1 + 2 * l) (by omega) (src := src) (dm := wiM l hl) hs (fs := g) rfl ?_
  rw [loadPay_wi m c hl, ← hsrcE, ← wiM_pts c hl (WI m c), write_read_pts fullShare (wiM l hl).view f (WI m c) _ ((wiM_read c m hl).trans hread.symm)]
  iintro ⟨H1, H2⟩
  isplitl [H2] <;> iassumption

/-- The copy of the second weight of layer `l`. -/
theorem copy_wo {b l : ℕ} (hl : l < 3) {src : Memref sig .tc .hbm S512x256 .f32} {g : Buf (Elt F) (src.view.loc (c : Thread nD τ))}
    (hsrcE : (src.view.loc (c : Thread nD τ) ↦[src.view.set]{fullShare} g : sProp 𝕄) = ArgPt m (2 + 2 * l) c)
    (hread : src.view.read (Elt F) g = woutA m ⟨l, hl⟩ c)
    {sem : DmaSem sig} (hs : sem = dS (1 + (2 + 2 * l))) {hsrc hdst hsem} {f} :
    iprop(Bs m K c b ∗ LI (2 + 2 * l) c ∗ ArgPt m (2 + 2 * l) c ∗ woR l c f)
      ⊢ iprop((iprop(Bs m K c b ∗ LT (2 + 2 * l) c) -∗ Wp c (k ⟨⟩) Q)
          -∗ Wp c (.op (.enqueueDma src (.here (woM l hl)) (.dma sem) hsrc hdst hsem) k) Q) := by
  rw [← hsrcE, ← woM_pts c hl f]
  refine step_copy m K c (i := 2 + 2 * l) (by omega) (src := src) (dm := woM l hl) hs (fs := g) rfl ?_
  rw [loadPay_wo m c hl, ← hsrcE, ← woM_pts c hl (WO m c), write_read_pts fullShare (woM l hl).view f (WO m c) _ ((woM_read c m hl).trans hread.symm)]
  iintro ⟨H1, H2⟩
  isplitl [H2] <;> iassumption

section Wait
variable {s r : ℕ} {sem : DmaSem sig}

/-- The wait for the copy of `x`. -/
theorem wait_x (hs : sem = dS (1 + 0)) {src : Memref sig .tc .hbm S512x256 .f32} {hsrc hdst} :
    iprop(St m K c s r ∗ LT 0 c)
      ⊢ iprop((iprop(St m K c s r ∗ Kept m 0 c ∗ inR c (xA m c)) -∗ Wp c (k ⟨⟩) Q)
          -∗ Wp c (.op (.waitDma2 sem src (Memref.whole cc0_scratch0 : Memref sig .tc .vmem S512x256 .f32) hsrc hdst) k) Q) := by
  iintro H Hk
  iapply (step_load m K c (i := 0) (by decide) hs (src := src) (dm := (Memref.whole cc0_scratch0 : Memref sig .tc .vmem S512x256 .f32)) (hsrc := hsrc) (hdst := hdst) rfl) $$ H
  rw [loadPay_x]
  iintro ⟨HS, Hv, Ha, Hi⟩
  iapply Hk
  unfold Kept
  iframe
/-- The wait for the first weight of layer `l`. -/
theorem wait_wi {l : ℕ} (hl : l < 3) (hs : sem = dS (1 + (1 + 2 * l))) {src : Memref sig .tc .hbm S256x512 .f32} {hsrc hdst} :
    iprop(St m K c s r ∗ LT (1 + 2 * l) c)
      ⊢ iprop((iprop(St m K c s r ∗ Kept m (1 + 2 * l) c ∗ wiR l c (WI m c)) -∗ Wp c (k ⟨⟩) Q)
          -∗ Wp c (.op (.waitDma2 sem src (wiM l hl) hsrc hdst) k) Q) := by
  iintro H Hk
  iapply (step_load m K c (i := 1 + 2 * l) (by omega) hs (src := src) (dm := (wiM l hl)) (hsrc := hsrc) (hdst := hdst) rfl) $$ H
  rw [loadPay_wi m c hl]
  iintro ⟨HS, Hv, Ha, Hi⟩
  iapply Hk
  unfold Kept
  iframe
/-- The wait for the second weight of layer `l`. -/
theorem wait_wo {l : ℕ} (hl : l < 3) (hs : sem = dS (1 + (2 + 2 * l))) {src : Memref sig .tc .hbm S512x256 .f32} {hsrc hdst} :
    iprop(St m K c s r ∗ LT (2 + 2 * l) c)
      ⊢ iprop((iprop(St m K c s r ∗ Kept m (2 + 2 * l) c ∗ woR l c (WO m c)) -∗ Wp c (k ⟨⟩) Q)
          -∗ Wp c (.op (.waitDma2 sem src (woM l hl) hsrc hdst) k) Q) := by
  iintro H Hk
  iapply (step_load m K c (i := 2 + 2 * l) (by omega) hs (src := src) (dm := (woM l hl)) (hsrc := hsrc) (hdst := hdst) rfl) $$ H
  rw [loadPay_wo m c hl]
  iintro ⟨HS, Hv, Ha, Hi⟩
  iapply Hk
  unfold Kept
  iframe
end Wait
end Steps

section Whole
variable {α : Type} {Q : α → sProp (MT nD τ sig Unit (Elt F) ℕ UU ℕ)}

/-- The load of `x`. -/
theorem load_in (inb) {hld} {f : S512x256.Idx → Elt F .f32} {k} :
    inR c f ⊢ iprop((inR c f -∗ Wp c (k f) Q)
      -∗ Wp c (.op (.load (Memref.whole cc0_scratch0 : Memref sig .tc .vmem S512x256 .f32)
          (Rect.unit (s := S512x256) ![0, 0] S512x256.size inb).toLoadRect hld) k) Q) := by
  have hr : (Memref.whole cc0_scratch0 : Memref sig .tc .vmem S512x256 .f32).view.readAt (Elt F)
      (Rect.unit (s := S512x256) ![0, 0] S512x256.size inb).toLoadRect f = f := by
    funext x
    refine congrArg f (funext fun a => ?_)
    match a with
    | 0 => exact Fin.ext (show 0 + 1 * (x 0).val = (x 0).val by omega)
    | 1 => exact Fin.ext (show 0 + 1 * (x 1).val = (x 1).val by omega)
  conv in k f => rw [← hr]
  exact wp_load 𝒱₀ (c : Thread nD τ) none Set.univ (m := Memref.whole cc0_scratch0) (fun i _ => Finset.mem_univ i)

/-- The load of the output block, whose value is not used. -/
theorem load_out (inb) {hld} {f : S64x256.Idx → Elt F .f32} {k} :
    outR c f ⊢ iprop((∀ v, outR c f -∗ Wp c (k v) Q)
      -∗ Wp c (.op (.load (Memref.whole cc0_stg0_0 : Memref sig .tc .vmem S64x256 .f32)
          (Rect.unit (s := S64x256) ![0, 0] S64x256.size inb).toLoadRect hld) k) Q) := by
  iintro H Hk
  unfold outR
  iapply (wp_load 𝒱₀ (c : Thread nD τ) none Set.univ (m := Memref.whole cc0_stg0_0) (fun i _ => Finset.mem_univ i)) $$ H
  iintro H
  iapply Hk
  iexact H

/-- The store of the output block. -/
theorem store_out (inb) {hx hm} {f g : S64x256.Idx → Elt F .f32} {k} :
    outR c f ⊢ iprop((outR c g -∗ Wp c (k ⟨⟩) Q)
      -∗ Wp c (.op (.store (Memref.whole cc0_stg0_0 : Memref sig .tc .vmem S64x256 .f32)
          (Rect.unit (s := S64x256) ![0, 0] S64x256.size inb) g Finset.univ hx hm) k) Q) := by
  have hs : ((Memref.whole cc0_stg0_0 : Memref sig .tc .vmem S64x256 .f32).access
      (Rect.unit (s := S64x256) ![0, 0] S64x256.size inb)).set = Finset.univ := by
    refine (View.set_slice_whole _ _).trans (Finset.eq_univ_iff_forall.mpr fun i => Rect.mem_set_unit.mpr fun a => ?_)
    match a with
    | 0 => exact ⟨Nat.zero_le _, lt_of_lt_of_eq (i 0).isLt (Nat.zero_add 64).symm⟩
    | 1 => exact ⟨Nat.zero_le _, lt_of_lt_of_eq (i 1).isLt (Nat.zero_add 256).symm⟩
  have hw := write_read_pts (F := F) (q := fullShare) (c := c) ((Memref.whole cc0_stg0_0 : Memref sig .tc .vmem S64x256 .f32).access
      (Rect.unit (s := S64x256) ![0, 0] S64x256.size inb)) f g g (by
    funext x
    refine congrArg g (funext fun a => ?_)
    match a with
    | 0 => exact Fin.ext (show 0 + 1 * (x 0).val = (x 0).val by omega)
    | 1 => exact Fin.ext (show 0 + 1 * (x 1).val = (x 1).val by omega))
  rw [hs] at hw
  refine (wp_store 𝒱₀ (c : Thread nD τ) none Set.univ (m := Memref.whole cc0_stg0_0)
    (r := Rect.unit (s := S64x256) ![0, 0] S64x256.size inb) (w := g) (Mk := Finset.univ) (f := f) (hx := hx) (hm := hm) (k := k)
    (Finset.subset_univ _)).trans (wand_mono_left (wand_mono_left (Entails.of_eq hw)))
end Whole

end Cert.TpMlp

end
-- ==== Proof.Buffers.lean ====
/-
# The buffers at the start and at the end of the body
-/
module

public import proofs.«01_k».proof.Proof.Pieces
public import proofs.«01_k».proof.Proof.Loads

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Conjunctions over consecutive numbers -/

omit [FloatOps F] in
theorem sep_swap (P Q : sProp (MT nD τ sig Unit (Elt F) ℕ UU ℕ)) : iprop(P ∗ Q) = iprop(Q ∗ P) :=
  have h (P Q : sProp (MT nD τ sig Unit (Elt F) ℕ UU ℕ)) : iprop(P ∗ Q) ⊢ iprop(Q ∗ P) := by iintro ⟨A, B⟩; iframe
  (h P Q).antisymm (h Q P)
omit [FloatOps F] in
theorem sep_regroup (P Q R : sProp (MT nD τ sig Unit (Elt F) ℕ UU ℕ)) : iprop((P ∗ Q) ∗ R) = iprop(P ∗ Q ∗ R) :=
  (show iprop((P ∗ Q) ∗ R) ⊢ iprop(P ∗ Q ∗ R) by iintro ⟨⟨A, B⟩, C⟩; iframe).antisymm
    (show iprop(P ∗ Q ∗ R) ⊢ iprop((P ∗ Q) ∗ R) by iintro ⟨A, B, C⟩; iframe)
omit [FloatOps F] in
theorem sep_nothing (P : sProp (MT nD τ sig Unit (Elt F) ℕ UU ℕ)) : iprop(P ∗ emp) = P :=
  (show iprop(P ∗ emp) ⊢ P by iintro ⟨A, B⟩; iexact A).antisymm (show P ⊢ iprop(P ∗ emp) by iintro A; isplitl; · iexact A
                                                                                            iempintro)
omit [FloatOps F] in
theorem bigSep_Ico_cut {a b d : ℕ} (h : a ≤ b) (h' : b ≤ d) (Φ : ℕ → sProp (MT nD τ sig Unit (Elt F) ℕ UU ℕ)) :
    bigSep (Finset.Ico a d) Φ = iprop(bigSep (Finset.Ico a b) Φ ∗ bigSep (Finset.Ico b d) Φ) := by
  rw [← Finset.Ico_union_Ico_eq_Ico h h', bigSep_union (Finset.Ico_disjoint_Ico_consecutive a b d)]
  rfl

omit [FloatOps F] in
/-- A conjunction cut by the values of a function. -/
theorem bigSep_by (s J : Finset ℕ) (g : ℕ → ℕ) (Φ : ℕ → sProp (MT nD τ sig Unit (Elt F) ℕ UU ℕ)) :
    bigSep (s.filter fun n => g n ∈ J) Φ = bigSep J fun j => bigSep (s.filter fun n => g n = j) Φ := by
  induction J using Finset.induction_on with
  | empty =>
    rw [bigSep_empty, Finset.filter_false_of_mem (fun n _ => Finset.notMem_empty _), bigSep_empty]
  | insert j J hj ih =>
    rw [bigSep_insert hj, ← ih, ← bigSep_union (Finset.disjoint_filter.mpr fun n _ (h : g n = j) h' => hj (h ▸ h'))]
    congr 1; ext n
    simp only [Finset.mem_filter, Finset.mem_union, Finset.mem_insert]; tauto

omit [FloatOps F] in
/-- A family of ranges that splits at any point is the conjunction of its unit steps. -/
theorem ranges (R : ℕ → ℕ → sProp (MT nD τ sig Unit (Elt F) ℕ UU ℕ)) (hcut : ∀ a b d, a ≤ b → b ≤ d → R a d = iprop(R a b ∗ R b d))
    (hnil : ∀ a, R a a = iprop(emp)) (a k : ℕ) : R a (a + k) = bigSep (Finset.Ico 0 k) fun n => R (a + n) (a + n + 1) := by
  induction k with
  | zero => rw [Nat.add_zero, hnil, Finset.Ico_self, bigSep_empty]; rfl
  | succ k ih => rw [hcut a (a + k) (a + (k + 1)) (by omega) (by omega), ih, bigSep_Ico_succ_top (Nat.zero_le k), sep_swap]; rfl

omit [FloatOps F] in
theorem pR_steps (q z l) (f : S3x8x64x256.Idx → Elt F .bf16) (a k : ℕ) :
    pR q z l a (a + k) c f = bigSep (Finset.Ico 0 k) fun n => pR q z l (a + n) (a + n + 1) c f :=
  ranges (fun x y => pR q z l x y c f) (fun _ _ _ h h' => pR_cut q _ c f h h') (fun _ => pR_nil) a k
omit [FloatOps F] in
theorem rR_steps (q z l) (f : S3x7x64x256.Idx → Elt F .bf16) (a k : ℕ) :
    rR q z l a (a + k) c f = bigSep (Finset.Ico 0 k) fun n => rR q z l (a + n) (a + n + 1) c f :=
  ranges (fun x y => rR q z l x y c f) (fun _ _ _ h h' => rR_cut q _ c f h h') (fun _ => rR_nil) a k
omit [FloatOps F] in
theorem xR_steps (q z l) (f : S2x8x64x256.Idx → Elt F .bf16) (a k : ℕ) :
    xR q z l a (a + k) c f = bigSep (Finset.Ico 0 k) fun n => xR q z l (a + n) (a + n + 1) c f :=
  ranges (fun x y => xR q z l x y c f) (fun _ _ _ h h' => xR_cut q _ c f h h') (fun _ => xR_nil) a k
omit [FloatOps F] in
/-- The readers' shares of a block and the rest of it. -/
theorem xR_shares (q : PosShare TreeShare) {z l lo hi} (f : S2x8x64x256.Idx → Elt F .bf16) (k : ℕ) :
    xR q z l lo hi c f = iprop(xR (Transfers.shareDrop q k) z l lo hi c f ∗ bigSep (Finset.Ico 0 k) fun n => xR (Transfers.shareTokN q n) z l lo hi c f) := by
  induction k with
  | zero => rw [Finset.Ico_self, bigSep_empty]; exact (sep_nothing _).symm
  | succ k ih =>
    rw [ih, xR_share q k c f, bigSep_Ico_succ_top (Nat.zero_le k), sep_regroup]

omit [FloatOps F] in
/-- The 35 transfers, phase by phase. -/
theorem phases (Φ : ℕ → sProp (MT nD τ sig Unit (Elt F) ℕ UU ℕ)) : bigSep (Finset.Ico 0 35) Φ
    = iprop((bigSep (Finset.Ico 0 7) fun k => Φ k) ∗ (bigSep (Finset.Ico 0 7) fun k => Φ (7 + k)) ∗ (bigSep (Finset.Ico 0 7) fun k => Φ (14 + k))
        ∗ (bigSep (Finset.Ico 0 7) fun k => Φ (21 + k)) ∗ (bigSep (Finset.Ico 0 7) fun k => Φ (28 + k))) := by
  have h (a : ℕ) : bigSep (Finset.Ico a (a + 7)) Φ = bigSep (Finset.Ico 0 7) fun k => Φ (a + k) := by
    rw [← bigSep_image_of_injOn (f := fun k => a + k) (fun x _ y _ h => by simpa using h) Φ]
    congr 1; ext n
    simp only [Finset.mem_image, Finset.mem_Ico]
    constructor
    · intro hn; exact ⟨n - a, by omega, by omega⟩
    · rintro ⟨k, hk, rfl⟩; omega
  rw [← h 7, ← h 14, ← h 21, ← h 28, bigSep_Ico_cut (b := 7) (d := 35) (by decide) (by decide), bigSep_Ico_cut (b := 14) (d := 35) (by decide) (by decide),
    bigSep_Ico_cut (b := 21) (d := 35) (by decide) (by decide), bigSep_Ico_cut (b := 28) (d := 35) (by decide) (by decide)]

/-! ## The buffers and their rows -/

omit [FloatOps F] in
/-- A whole region cut in two. -/
theorem whole_two {ℓ : Loc nD τ sig} {f : Buf (Elt F) ℓ} {I J : Finset (Idx ℓ)} (hu : ∀ i, i ∈ I ∨ i ∈ J) (h : ∀ i, i ∈ I → ¬ i ∈ J) :
    (ℓ ↦{fullShare} f : sProp 𝕄) = iprop((ℓ ↦[I]{fullShare} f) ∗ ℓ ↦[J]{fullShare} f) :=
  pts_cut (Finset.eq_univ_iff_forall.mpr fun i => Finset.mem_union.mpr (hu i)).symm (Finset.disjoint_left.mpr fun i hi => h i hi)
omit [FloatOps F] in
/-- A whole region cut in three. -/
theorem whole_three {ℓ : Loc nD τ sig} {f : Buf (Elt F) ℓ} {I J K : Finset (Idx ℓ)} (hu : ∀ i, i ∈ I ∨ i ∈ J ∨ i ∈ K)
    (h : ∀ i, i ∈ I → ¬ i ∈ J ∧ ¬ i ∈ K) (h' : ∀ i, i ∈ J → ¬ i ∈ K) :
    (ℓ ↦{fullShare} f : sProp 𝕄) = iprop((ℓ ↦[I]{fullShare} f) ∗ (ℓ ↦[J]{fullShare} f) ∗ ℓ ↦[K]{fullShare} f) := by
  rw [whole_two (I := I) (J := J ∪ K) (fun i => (hu i).imp id Finset.mem_union.mpr)
    (fun i hi hn => (Finset.mem_union.mp hn).elim (h i hi).1 (h i hi).2), pts_cut (I := J ∪ K) rfl (Finset.disjoint_left.mpr fun i hi => h' i hi)]

omit [FloatOps F] in
/-- The row of eight blocks does not depend on the block it is counted from. -/
theorem pR_row (q z z' l) (f : S3x8x64x256.Idx → Elt F .bf16) : pR q z l 0 8 c f = pR q z' l 0 8 c f := by
  unfold pR; congr 1; ext i; rw [mem_box4, mem_box4]; omega
omit [FloatOps F] in
/-- The buffer of partial products, row by row. -/
theorem pR_all (f : S3x8x64x256.Idx → Elt F .bf16) :
    ((pLoc c) ↦{fullShare} f : sProp 𝕄) = iprop(pR fullShare 0 0 0 8 c f ∗ pR fullShare 0 1 0 8 c f ∗ pR fullShare 0 2 0 8 c f) := by
  unfold pR
  exact whole_three (fun i => by have h0 : (i 0).val < 3 := (i 0).isLt; rw [mem_box4, mem_box4, mem_box4]; omega) (fun i h => by rw [mem_box4] at h ⊢; rw [mem_box4]; omega) (fun i h => by rw [mem_box4] at h ⊢; omega)
omit [FloatOps F] in
/-- The receive buffer, row by row. -/
theorem rR_all (f : S3x7x64x256.Idx → Elt F .bf16) :
    ((rLoc c) ↦{fullShare} f : sProp 𝕄) = iprop(rR fullShare 0 0 0 7 c f ∗ rR fullShare 0 1 0 7 c f ∗ rR fullShare 0 2 0 7 c f) := by
  unfold rR
  exact whole_three (fun i => by have h0 : (i 0).val < 3 := (i 0).isLt; have h1 : (i 1).val < 7 := (i 1).isLt; rw [mem_box4, mem_box4, mem_box4]; omega) (fun i h => by rw [mem_box4] at h ⊢; rw [mem_box4]; omega) (fun i h => by rw [mem_box4] at h ⊢; omega)
omit [FloatOps F] in
/-- The activation buffer, row by row. -/
theorem xR_all (f : S2x8x64x256.Idx → Elt F .bf16) :
    ((xLoc c) ↦{fullShare} f : sProp 𝕄) = iprop(xR fullShare 0 0 0 8 c f ∗ xR fullShare 0 1 0 8 c f) := by
  unfold xR
  exact whole_two (fun i => by have h0 : (i 0).val < 2 := (i 0).isLt; rw [mem_box4, mem_box4]; omega) (fun i h => by rw [mem_box4] at h ⊢; omega)
omit [FloatOps F] in
/-- The buffer of first weights, layer by layer. -/
theorem wiR_all (f : S3x256x512.Idx → Elt F .f32) :
    (((c : Thread nD τ).loc cc0_scratch1) ↦{fullShare} f : sProp 𝕄) = iprop(wiR 0 c f ∗ wiR 1 c f ∗ wiR 2 c f) := by
  unfold wiR
  exact whole_three (fun i => by have h0 : (i 0).val < 3 := (i 0).isLt; rw [mem_box3, mem_box3, mem_box3]; omega) (fun i h => by rw [mem_box3] at h ⊢; rw [mem_box3]; omega) (fun i h => by rw [mem_box3] at h ⊢; omega)
omit [FloatOps F] in
/-- The buffer of second weights, layer by layer. -/
theorem woR_all (f : S3x512x256.Idx → Elt F .f32) :
    (((c : Thread nD τ).loc cc0_scratch2) ↦{fullShare} f : sProp 𝕄) = iprop(woR 0 c f ∗ woR 1 c f ∗ woR 2 c f) := by
  unfold woR
  exact whole_three (fun i => by have h0 : (i 0).val < 3 := (i 0).isLt; rw [mem_box3, mem_box3, mem_box3]; omega) (fun i h => by rw [mem_box3] at h ⊢; rw [mem_box3]; omega) (fun i h => by rw [mem_box3] at h ⊢; omega)
omit [FloatOps F] in
/-- A later row of partial products, in the groups the kernel fills. -/
theorem p_groups (l) (f : S3x8x64x256.Idx → Elt F .bf16) : pR fullShare 0 l 0 8 c f
    = iprop(pR fullShare 0 l 0 1 c f ∗ pR fullShare 0 l 1 3 c f ∗ pR fullShare 0 l 3 5 c f ∗ pR fullShare 0 l 5 7 c f ∗ pR fullShare 0 l 7 8 c f) := by
  rw [pR_cut fullShare 1 c f (lo := 0) (hi := 8) (by decide) (by decide), pR_cut fullShare 3 c f (lo := 1) (hi := 8) (by decide) (by decide),
    pR_cut fullShare 5 c f (lo := 3) (hi := 8) (by decide) (by decide), pR_cut fullShare 7 c f (lo := 5) (hi := 8) (by decide) (by decide)]

/-! ## What the others may fill -/

omit [FloatOps F] in
/-- A device's landing blocks are what it tells the seven others through their barrier cells. -/
theorem slots_bars : (bigSep (Finset.Ico 0 35) fun n => Slot (F := F) n c) ⊢ bigSep (Finset.Ico 0 7) fun k => BarPay (F := F) k (sh c (k + 1)) := by
  have e : (Finset.Ico 0 35).filter (fun n => 7 - off n ∈ Finset.Ico 0 7) = Finset.Ico 0 35 :=
    Finset.filter_true_of_mem fun n _ => Finset.mem_Ico.mpr ⟨Nat.zero_le _, by have := off_pos n; omega⟩
  have hb := bigSep_by (Finset.Ico 0 35) (Finset.Ico 0 7) (fun n => 7 - off n) (fun n => Slot (F := F) n c)
  rw [e] at hb
  refine (Entails.of_eq hb).trans (bigSep_mono fun k hk => ?_)
  have hk' := (Finset.mem_Ico.mp hk).2
  unfold BarPay
  have e' : (Finset.Ico 0 35).filter (fun n => 7 - off n = k) = (Finset.Ico 0 35).filter fun n => off n = 7 - k :=
    Finset.filter_congr fun n _ => by have := off_le n; omega
  rw [e']
  refine bigSep_mono fun n hn => ?_
  have hn' := (Finset.mem_filter.mp hn).2
  unfold dst
  rw [sh_back c (show k + 1 + off n = 8 by omega)]
  exact Entails.refl _

omit [FloatOps F] in
/-- The receive buffer and the other devices' part of the activation buffer are the landing blocks. -/
theorem make_slots (f : S3x7x64x256.Idx → Elt F .bf16) (g : S2x8x64x256.Idx → Elt F .bf16) :
    iprop(((rLoc c) ↦{fullShare} f) ∗ ((xLoc c) ↦{fullShare} g))
      ⊢ iprop((bigSep (Finset.Ico 0 35) fun n => Slot (F := F) n c) ∗ xR fullShare 0 0 0 1 c g ∗ xR fullShare 0 1 0 1 c g) := by
  have hr (l n) (hs : ∀ k, k < 7 → landAt (n + k) c f g = rR fullShare 0 l k (k + 1) c f) :
      rR fullShare 0 l 0 7 c f ⊢ bigSep (Finset.Ico 0 7) fun k => Slot (F := F) (n + k) c := by
    rw [show rR fullShare 0 l 0 7 c f = _ from rR_steps c fullShare 0 l f 0 7]
    refine bigSep_mono fun k hk => ?_
    rw [Nat.zero_add, ← hs k (Finset.mem_Ico.mp hk).2]
    change landAt (n + k) c f g ⊢ Slot (F := F) (n + k) c
    unfold Slot; iintro H; iexists f; iexists g; iexact H
  have hx (l n) (hs : ∀ k, k < 7 → landAt (n + k) c f g = xR fullShare 0 l (k + 1) (k + 1 + 1) c g) :
      xR fullShare 0 l 1 8 c g ⊢ bigSep (Finset.Ico 0 7) fun k => Slot (F := F) (n + k) c := by
    rw [show xR fullShare 0 l 1 8 c g = _ from xR_steps c fullShare 0 l g 1 7]
    refine bigSep_mono fun k hk => ?_
    rw [Nat.add_comm 1 k, ← hs k (Finset.mem_Ico.mp hk).2]
    change landAt (n + k) c f g ⊢ Slot (F := F) (n + k) c
    unfold Slot; iintro H; iexists f; iexists g; iexact H
  rw [rR_all, xR_all, phases, xR_cut fullShare 1 c g (l := 0) (lo := 0) (hi := 8) (by decide) (by decide), xR_cut fullShare 1 c g (l := 1) (lo := 0) (hi := 8) (by decide) (by decide)]
  iintro ⟨⟨H0, H1, H2⟩, ⟨X0, X0'⟩, X1, X1'⟩
  isplitr [X0 X1]
  · isplitl [H0]
    · ihave H := (hr 0 0 fun k hk => (by rw [Nat.zero_add]; exact landAt_rs0 c hk f g)) $$ H0
      simp only [Nat.zero_add]; iexact H
    isplitl [X0']; · iapply (hx 0 7 fun k hk => landAt_ag0 c hk f g); iexact X0'
    isplitl [H1]; · iapply (hr 1 14 fun k hk => landAt_rs1 c hk f g); iexact H1
    isplitl [X1']; · iapply (hx 1 21 fun k hk => landAt_ag1 c hk f g); iexact X1'
    iapply (hr 2 28 fun k hk => landAt_rs2 c hk f g); iexact H2
  isplitl [X0] <;> iassumption

/-! ## The buffers put together again -/

/-- Everything sent, given back. -/
theorem srcs_back : (bigSep (Finset.Ico 0 35) fun n => Src m n c)
    ⊢ iprop(pR fullShare c.val 0 1 8 c (PA m c) ∗ (bigSep (Finset.Ico 0 7) fun k => xR (Transfers.shareTokN fullShare k) 0 0 0 1 c (XA m c))
        ∗ pR fullShare 0 1 1 8 c (PA m c) ∗ (bigSep (Finset.Ico 0 7) fun k => xR (Transfers.shareTokN fullShare k) 0 1 0 1 c (XA m c))
        ∗ pR fullShare 0 2 1 8 c (PA m c)) := by
  rw [phases, show pR fullShare c.val 0 1 8 c (PA m c) = _ from pR_steps c fullShare c.val 0 (PA m c) 1 7,
    show pR fullShare 0 1 1 8 c (PA m c) = _ from pR_steps c fullShare 0 1 (PA m c) 1 7,
    show pR fullShare 0 2 1 8 c (PA m c) = _ from pR_steps c fullShare 0 2 (PA m c) 1 7]
  have e {Φ Ψ : ℕ → sProp (MT nD τ sig Unit (Elt F) ℕ UU ℕ)} (h : ∀ k, k < 7 → Φ k = Ψ k) : bigSep (Finset.Ico 0 7) Φ = bigSep (Finset.Ico 0 7) Ψ :=
    bigSep_congr fun k hk => h k (Finset.mem_Ico.mp hk).2
  rw [e fun k hk => src_rs0 m c hk, e fun k hk => src_ag0 m c hk, e fun k hk => src_rs1 m c hk, e fun k hk => src_ag1 m c hk, e fun k hk => src_rs2 m c hk]
  simp only [Nat.add_comm 1]
  exact Entails.refl _

/-- The buffer of partial products whole again. -/
theorem p_back : iprop(pR fullShare c.val 0 1 8 c (PA m c) ∗ pR fullShare 0 1 1 8 c (PA m c) ∗ pR fullShare 0 2 1 8 c (PA m c)
      ∗ pR fullShare c.val 0 0 1 c (PA m c) ∗ Pg m c 1 0 1 ∗ Pg m c 2 0 1) ⊢ (pLoc c) ↦{fullShare} (PA m c) := by
  rw [pR_all, pR_row c fullShare 0 c.val 0, pR_cut fullShare 1 c _ (z := c.val) (l := 0) (lo := 0) (hi := 8) (by decide) (by decide),
    pR_cut fullShare 1 c _ (l := 1) (lo := 0) (hi := 8) (by decide) (by decide), pR_cut fullShare 1 c _ (l := 2) (lo := 0) (hi := 8) (by decide) (by decide)]
  iintro ⟨H0, H1, H2, I0, I1, I2⟩
  iframe

/-- The activation buffer whole again. -/
theorem x_back : iprop((bigSep (Finset.Ico 0 7) fun k => xR (Transfers.shareTokN fullShare k) 0 0 0 1 c (XA m c))
      ∗ (bigSep (Finset.Ico 0 7) fun k => xR (Transfers.shareTokN fullShare k) 0 1 0 1 c (XA m c)) ∗ Xo m c 0 7 ∗ Xo m c 1 7 ∗ Xg m c 0 8 ∗ Xg m c 1 8)
    ⊢ (xLoc c) ↦{fullShare} (XA m c) := by
  rw [xR_all, xR_cut fullShare 1 c _ (l := 0) (lo := 0) (hi := 8) (by decide) (by decide), xR_cut fullShare 1 c _ (l := 1) (lo := 0) (hi := 8) (by decide) (by decide),
    xR_shares c fullShare (l := 0) (lo := 0) (hi := 1) (XA m c) 7, xR_shares c fullShare (l := 1) (lo := 0) (hi := 1) (XA m c) 7]
  iintro ⟨H0, H1, I0, I1, G0, G1⟩
  iframe

end Cert.TpMlp

end
-- ==== Proof.PartsA.lean ====
/-
# The body, first part: the copies in, the barrier and layer 0's partial products

Each theorem runs one piece of the body: from the resources it takes, at any continuation that takes the ones it leaves.
-/
module

public import proofs.«01_k».proof.Proof.Pieces
public import proofs.«01_k».proof.Proof.Loads

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 92 → ℕ) (c : Dev nD)

section Start
variable {α : Type} {Q : α → sProp (MT nD τ sig Unit (Elt F) ℕ UU ℕ)}

theorem part1 {Q : (Σ' (_ : Dev nD), BitVec 32) → sProp (MT nD τ sig Unit (Elt F) ℕ UU ℕ)} {f g₀ h₀ g₁ h₁ g₂} :
    iprop(Bs m K c 0 ∗ (LI 0 c ∗ ArgPt m 0 c ∗ inR c f) ∗ (LI 1 c ∗ ArgPt m 1 c ∗ wiR 0 c g₀) ∗ (LI 2 c ∗ ArgPt m 2 c ∗ woR 0 c h₀)
        ∗ (LI 3 c ∗ ArgPt m 3 c ∗ wiR 1 c g₁) ∗ (LI 4 c ∗ ArgPt m 4 c ∗ woR 1 c h₁) ∗ (LI 5 c ∗ ArgPt m 5 c ∗ wiR 2 c g₂))
      ⊢ iprop((∀ v, iprop(Bs m K c 0 ∗ LT 0 c ∗ LT 1 c ∗ LT 2 c ∗ LT 3 c ∗ LT 4 c ∗ LT 5 c) -∗ Q ⟨c, v⟩)
        -∗ Wp c (On (k0_part1 (F := F))) Q) := by
  rw [k0_part1_eq_skeleton]
  unfold On k0_part1_skel
  simp only [Prog.lift, Prog.bind_op, Prog.bind_ret, Prog.pure_eq_ret, wp_deviceId]
  iintro ⟨HB, H0, H1, H2, H3, H4, H5⟩ Hk
  iapply (copy_x m K c rfl) $$ [HB H0]
  · isplitl [HB] <;> iassumption
  iintro ⟨HB, T0⟩
  iapply (copy_wi m K c (l := 0) (by decide) (src := Memref.whole main_arg1) (g := m ((c : Thread nD τ).loc main_arg1)) (by rw [View.set_whole]; rfl) rfl rfl) $$ [HB H1]
  · isplitl [HB] <;> iassumption
  iintro ⟨HB, T1⟩
  iapply (copy_wo m K c (l := 0) (by decide) (src := Memref.whole main_arg4) (g := m ((c : Thread nD τ).loc main_arg4)) (by rw [View.set_whole]; rfl) rfl rfl) $$ [HB H2]
  · isplitl [HB] <;> iassumption
  iintro ⟨HB, T2⟩
  iapply (copy_wi m K c (l := 1) (by decide) (src := Memref.whole main_arg2) (g := m ((c : Thread nD τ).loc main_arg2)) (by rw [View.set_whole]; rfl) rfl rfl) $$ [HB H3]
  · isplitl [HB] <;> iassumption
  iintro ⟨HB, T3⟩
  iapply (copy_wo m K c (l := 1) (by decide) (src := Memref.whole main_arg5) (g := m ((c : Thread nD τ).loc main_arg5)) (by rw [View.set_whole]; rfl) rfl rfl) $$ [HB H4]
  · isplitl [HB] <;> iassumption
  iintro ⟨HB, T4⟩
  iapply (copy_wi m K c (l := 2) (by decide) (src := Memref.whole main_arg3) (g := m ((c : Thread nD τ).loc main_arg3)) (by rw [View.set_whole]; rfl) rfl rfl) $$ [HB H5]
  · isplitl [HB] <;> iassumption
  iintro ⟨HB, T5⟩
  iapply Wp_ret
  iapply Hk
  iframe

theorem part2 {Q : (Σ' (_ : Sems sig S_), BitVec 32) → sProp (MT nD τ sig Unit (Elt F) ℕ UU ℕ)} {h₂} (v2) :
    iprop(Bs m K c 0 ∗ (LI 6 c ∗ ArgPt m 6 c ∗ woR 2 c h₂))
      ⊢ iprop((∀ v, iprop(Bs m K c 4 ∗ LT 6 c) -∗ Q ⟨SemArray.scalar (sig.barrier 0 rfl), v⟩)
        -∗ Wp c (On (k0_part2 (F := F)) c v2) Q) := by
  rw [k0_part2_eq_skeleton]
  unfold On k0_part2_skel
  simp only [semSignalWord, Prog.lift, Prog.bind_op, Prog.bind_ret, Prog.pure_eq_ret]
  iintro ⟨HB, H6⟩ Hk
  iapply (copy_wo m K c (l := 2) (by decide) (src := Memref.whole main_arg6) (g := m ((c : Thread nD τ).loc main_arg6)) (by rw [View.set_whole]; rfl) rfl rfl) $$ [HB H6]
  · isplitl [HB] <;> iassumption
  iintro ⟨HB, T6⟩
  iapply (step_signal m K c (b := 0) (by decide) (d := ⟨k0_dev1 c, k0_dev1_lt c⟩) (Fin.ext (wrap (k0_dev1_eq c))) rfl rfl) $$ HB
  iintro HB
  iapply (step_signal m K c (b := 1) (by decide) (d := ⟨k0_dev2 c, k0_dev2_lt c⟩) (Fin.ext (wrap (k0_dev2_eq c))) rfl rfl) $$ HB
  iintro HB
  iapply (step_signal m K c (b := 2) (by decide) (d := ⟨k0_dev3 c, k0_dev3_lt c⟩) (Fin.ext (wrap (k0_dev3_eq c))) rfl rfl) $$ HB
  iintro HB
  iapply (step_signal m K c (b := 3) (by decide) (d := ⟨k0_dev4 c, k0_dev4_lt c⟩) (Fin.ext (wrap (k0_dev4_eq c))) rfl rfl) $$ HB
  iintro HB
  iapply Wp_ret
  iapply Hk
  iframe

theorem part3 {Q : Vec F S512x256 .f32 → sProp (MT nD τ sig Unit (Elt F) ℕ UU ℕ)} (v2 v52) :
    iprop(Bs m K c 4 ∗ (LT 0 c ∗ LT 1 c ∗ LT 2 c) ∗ cred (tallyAt (barCell c) () 7) ∗ atPos ER (barCell c) 0 ∅ 0
        ∗ (bigSep (Finset.Ico 0 35) fun n => Tok n c) ∗ (bigSep (Finset.Ico 0 35) fun n => Due n c))
      ⊢ iprop((iprop(St m K c 0 0 ∗ semVal (barCell c) 0 ∗ Kept m 0 c ∗ inR c (xA m c) ∗ Kept m 1 c ∗ wiR 0 c (WI m c)
          ∗ Kept m 2 c ∗ woR 0 c (WO m c)) -∗ Q (xA m c))
        -∗ Wp c (On (k0_part3 (F := F)) c v2 (SemArray.scalar (sig.barrier 0 rfl)) v52) Q) := by
  rw [k0_part3_eq_skeleton]
  unfold On k0_part3_skel
  simp only [semSignalWord, semWaitWord, Prog.lift, Prog.bind_op, Prog.bind_ret, Prog.pure_eq_ret]
  iintro ⟨HB, ⟨T0, T1, T2⟩, Hc, Ha, Ht, Hd⟩ Hk
  iapply (step_signal m K c (b := 4) (by decide) (d := ⟨k0_dev5 c, k0_dev5_lt c⟩) (Fin.ext (wrap (k0_dev5_eq c))) rfl rfl) $$ HB
  iintro HB
  iapply (step_signal m K c (b := 5) (by decide) (d := ⟨k0_dev6 c, k0_dev6_lt c⟩) (Fin.ext (wrap (k0_dev6_eq c))) rfl rfl) $$ HB
  iintro HB
  iapply (step_signal m K c (b := 6) (by decide) (d := ⟨k0_dev7 c, k0_dev7_lt c⟩) (Fin.ext (wrap (k0_dev7_eq c))) rfl rfl) $$ HB
  iintro HB
  iapply (step_barrier m K c rfl rfl) $$ [HB Hc Ha Ht Hd]
  · iframe
  iintro ⟨HS, Hb⟩
  iapply (wait_x m K c rfl) $$ [HS T0]
  · iframe
  iintro ⟨HS, K0, Hx⟩
  iapply (load_in c) $$ Hx
  iintro Hx
  iapply (wait_wi m K c (l := 0) (by decide) rfl) $$ [HS T1]
  · iframe
  iintro ⟨HS, K1, Hw⟩
  iapply (wait_wo m K c (l := 0) (by decide) rfl) $$ [HS T2]
  · iframe
  iintro ⟨HS, K2, Hw'⟩
  iapply Wp_ret
  iapply Hk
  iframe

theorem part4 {Q : PUnit → sProp (MT nD τ sig Unit (Elt F) ℕ UU ℕ)} {f} (v2) :
    iprop(wiR 0 c (WI m c) ∗ woR 0 c (WO m c) ∗ pR fullShare 0 0 0 8 c f)
      ⊢ iprop((∀ v, iprop(wiR 0 c (WI m c) ∗ woR 0 c (WO m c) ∗ pR fullShare 0 0 0 8 c (PA m c)) -∗ Q v)
        -∗ Wp c (On (k0_part4 (F := F)) v2 (xA m c)) Q) := by
  rw [k0_part4_eq_skeleton]
  unfold On k0_part4_skel
  simp only [Prog.lift, Prog.bind_op, Prog.bind_ret, Prog.pure_eq_ret]
  iintro ⟨Hw, Hw', Hp⟩ Hk
  iapply (load_wi c (l := 0) (by decide)) $$ Hw
  iintro Hw
  iapply (load_wo c (l := 0) (by decide)) $$ Hw'
  iintro Hw'
  iapply (load_p c (l := 0) (j := 0) (w := 8) (by decide) (by decide) (by omega) rfl) $$ Hp
  iintro Hp
  iapply (store_p c (l := 0) (j := 0) (w := 8) (by decide) (by decide) (by omega) _ f (PA m c) (stored_p0 m c)) $$ Hp
  iintro Hp
  iapply Wp_ret
  iapply Hk
  iframe

theorem part5 {Q : BitVec 32 → sProp (MT nD τ sig Unit (Elt F) ℕ UU ℕ)} {r} (v2) :
    iprop(St m K c 0 r ∗ pR fullShare c.val 0 1 8 c (PA m c))
      ⊢ iprop((∀ v, iprop(St m K c 2 r ∗ pR fullShare c.val 0 3 8 c (PA m c)) -∗ Q v) -∗ Wp c (On (k0_part5 (F := F)) c v2) Q) := by
  rw [k0_part5_eq_skeleton]
  unfold On k0_part5_skel
  simp only [Prog.lift, Prog.bind_op, Prog.bind_ret, Prog.pure_eq_ret]
  iintro H Hk
  iapply (send_rs0_at m K c (t := 0) (by decide) (k0_off1_eq c 0) (d := ⟨k0_dev8 c, k0_dev8_lt c⟩) (wrap (k0_dev8_eq c)) rfl rfl) $$ H
  iintro H
  iapply (send_rs0_at m K c (t := 1) (by decide) (k0_off1_eq c 1) (d := ⟨k0_dev9 c, k0_dev9_lt c⟩) (wrap (k0_dev9_eq c)) rfl rfl) $$ H
  iintro H
  iapply Wp_ret
  iapply Hk
  iexact H

theorem part6 {Q : BitVec 32 → sProp (MT nD τ sig Unit (Elt F) ℕ UU ℕ)} {r} (v2 v128) :
    iprop(St m K c 2 r ∗ pR fullShare c.val 0 3 8 c (PA m c))
      ⊢ iprop((∀ v, iprop(St m K c 4 r ∗ pR fullShare c.val 0 5 8 c (PA m c)) -∗ Q v) -∗ Wp c (On (k0_part6 (F := F)) c v2 v128) Q) := by
  rw [k0_part6_eq_skeleton]
  unfold On k0_part6_skel
  simp only [Prog.lift, Prog.bind_op, Prog.bind_ret, Prog.pure_eq_ret]
  iintro H Hk
  iapply (send_rs0_at m K c (t := 2) (by decide) (k0_off1_eq c 2) (d := ⟨k0_dev10 c, k0_dev10_lt c⟩) (wrap (k0_dev10_eq c)) rfl rfl) $$ H
  iintro H
  iapply (send_rs0_at m K c (t := 3) (by decide) (k0_off1_eq c 3) (d := ⟨k0_dev11 c, k0_dev11_lt c⟩) (wrap (k0_dev11_eq c)) rfl rfl) $$ H
  iintro H
  iapply Wp_ret
  iapply Hk
  iexact H

theorem part7 {Q : PUnit → sProp (MT nD τ sig Unit (Elt F) ℕ UU ℕ)} {r} (v2 v156) :
    iprop(St m K c 4 r ∗ pR fullShare c.val 0 5 8 c (PA m c))
      ⊢ iprop((∀ v, iprop(St m K c 5 r ∗ pR fullShare c.val 0 6 8 c (PA m c)) -∗ Q v) -∗ Wp c (On (k0_part7 (F := F)) c v2 v156) Q) := by
  rw [k0_part7_eq_skeleton]
  unfold On k0_part7_skel
  simp only [Prog.lift, Prog.bind_op, Prog.bind_ret, Prog.pure_eq_ret]
  iintro H Hk
  iapply (send_rs0_at m K c (t := 4) (by decide) (k0_off1_eq c 4) (d := ⟨k0_dev12 c, k0_dev12_lt c⟩) (wrap (k0_dev12_eq c)) rfl rfl) $$ H
  iintro H
  iapply Wp_ret
  iapply Hk
  iexact H

theorem part8 {Q : (Σ' (_ : FVec F S64x256 .f32), BitVec 32) → sProp (MT nD τ sig Unit (Elt F) ℕ UU ℕ)} {r} (v2) :
    iprop(St m K c 5 r ∗ pR fullShare c.val 0 6 8 c (PA m c) ∗ pR fullShare c.val 0 0 1 c (PA m c))
      ⊢ iprop((∀ v, iprop(St m K c 7 r ∗ pR fullShare c.val 0 0 1 c (PA m c)) -∗ Q ⟨k0_pay2 (ld4 (PA m c) 0 c.val 1 (by decide) c.isLt), v⟩)
        -∗ Wp c (On (k0_part8 (F := F)) c v2) Q) := by
  have hc : c.val < 8 := c.isLt
  rw [k0_part8_eq_skeleton]
  unfold On k0_part8_skel
  simp only [Prog.lift, Prog.bind_op, Prog.bind_ret, Prog.pure_eq_ret]
  iintro ⟨HS, Hp, Ho⟩ Hk
  iapply (send_rs0_at m K c (t := 5) (by decide) (k0_off1_eq c 5) (d := ⟨k0_dev13 c, k0_dev13_lt c⟩) (wrap (k0_dev13_eq c)) rfl rfl) $$ [HS Hp]
  · iframe
  iintro H
  iapply (send_rs0_at m K c (t := 6) (by decide) (k0_off1_eq c 6) (d := ⟨k0_dev14 c, k0_dev14_lt c⟩) (wrap (k0_dev14_eq c)) rfl rfl) $$ H
  iintro ⟨HS, _⟩
  iapply (load_p c (l := 0) (j := c.val) (w := 1) (z := c.val) (lo := 0) (hi := 1) (by decide) c.isLt (by omega) (k0_off2_eq c)) $$ Ho
  iintro Ho
  iapply Wp_ret
  iapply Hk
  iframe
end Start

end Cert.TpMlp

end
-- ==== Proof.PartsB.lean ====
/-
# The body, second part: layer 0's reduction and the gathering of its result
-/
module

public import proofs.«01_k».proof.Proof.Pieces
public import proofs.«01_k».proof.Proof.Loads

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 92 → ℕ) (c : Dev nD)

variable {Q₀ : PUnit → sProp (MT nD τ sig Unit (Elt F) ℕ UU ℕ)} {Qw : BitVec 32 → sProp (MT nD τ sig Unit (Elt F) ℕ UU ℕ)}

theorem part9 (v2 v204) : iprop(St m K c 7 0 ∗ Rg m c 0 0)
    ⊢ iprop((∀ v, iprop(St m K c 7 2 ∗ Rg m c 0 2) -∗ Qw v) -∗ Wp c (On (k0_part9 (F := F)) v2 v204) Qw) := by
  rw [k0_part9_eq_skeleton]
  unfold On k0_part9_skel
  simp only [Prog.lift, Prog.bind_op, Prog.bind_ret, Prog.pure_eq_ret]
  iintro H Hk
  iapply (recv_r m K c (l := 0) (t := 0) (by decide) (by decide) (by decide) rfl) $$ H
  iintro H
  iapply (recv_r m K c (l := 0) (t := 1) (by decide) (by decide) (by decide) rfl) $$ H
  iintro H
  iapply Wp_ret
  iapply Hk
  iexact H

theorem part10 (v2 v225) : iprop(St m K c 7 2 ∗ Rg m c 0 2)
    ⊢ iprop((∀ v, iprop(St m K c 7 4 ∗ Rg m c 0 4) -∗ Q₀ v) -∗ Wp c (On (k0_part10 (F := F)) v2 v225) Q₀) := by
  rw [k0_part10_eq_skeleton]
  unfold On k0_part10_skel
  simp only [Prog.lift, Prog.bind_op, Prog.bind_ret, Prog.pure_eq_ret]
  iintro H Hk
  iapply (recv_r m K c (l := 0) (t := 2) (by decide) (by decide) (by decide) rfl) $$ H
  iintro H
  iapply (recv_r m K c (l := 0) (t := 3) (by decide) (by decide) (by decide) rfl) $$ H
  iintro H
  iapply Wp_ret
  iapply Hk
  iexact H

theorem part11 (v2) : iprop(St m K c 7 4 ∗ Rg m c 0 4)
    ⊢ iprop((∀ v, iprop(St m K c 7 6 ∗ Rg m c 0 6) -∗ Q₀ v) -∗ Wp c (On (k0_part11 (F := F)) v2) Q₀) := by
  rw [k0_part11_eq_skeleton]
  unfold On k0_part11_skel
  simp only [Prog.lift, Prog.bind_op, Prog.bind_ret, Prog.pure_eq_ret]
  iintro H Hk
  iapply (recv_r m K c (l := 0) (t := 4) (by decide) (by decide) (by decide) rfl) $$ H
  iintro H
  iapply (recv_r m K c (l := 0) (t := 5) (by decide) (by decide) (by decide) rfl) $$ H
  iintro H
  iapply Wp_ret
  iapply Hk
  iexact H

theorem part12 {Q : FVec F S64x256 .f32 → sProp (MT nD τ sig Unit (Elt F) ℕ UU ℕ)} (v202) : iprop(St m K c 7 6 ∗ Rg m c 0 6)
    ⊢ iprop((iprop(St m K c 7 7 ∗ Rg m c 0 7) -∗ Q (k0_pay3 v202 (ld4 (RA m c) 0 0 1 (by decide) (by decide)) (ld4 (RA m c) 0 1 1 (by decide) (by decide))
        (ld4 (RA m c) 0 2 1 (by decide) (by decide)) (ld4 (RA m c) 0 3 1 (by decide) (by decide)) (ld4 (RA m c) 0 4 1 (by decide) (by decide))
        (ld4 (RA m c) 0 5 1 (by decide) (by decide)))) -∗ Wp c (On (k0_part12 (F := F)) v202) Q) := by
  rw [k0_part12_eq_skeleton]
  unfold On k0_part12_skel
  simp only [Prog.lift, Prog.bind_op, Prog.bind_ret, Prog.pure_eq_ret]
  iintro H Hk
  iapply (recv_r m K c (l := 0) (t := 6) (by decide) (by decide) (by decide) rfl) $$ H
  iintro ⟨HS, Hr⟩
  iapply (load_r c (l := 0) (j := 0) (w := 1) (by decide) (by decide) (by omega)) $$ Hr
  iintro Hr
  iapply (load_r c (l := 0) (j := 1) (w := 1) (by decide) (by decide) (by omega)) $$ Hr
  iintro Hr
  iapply (load_r c (l := 0) (j := 2) (w := 1) (by decide) (by decide) (by omega)) $$ Hr
  iintro Hr
  iapply (load_r c (l := 0) (j := 3) (w := 1) (by decide) (by decide) (by omega)) $$ Hr
  iintro Hr
  iapply (load_r c (l := 0) (j := 4) (w := 1) (by decide) (by decide) (by omega)) $$ Hr
  iintro Hr
  iapply (load_r c (l := 0) (j := 5) (w := 1) (by decide) (by decide) (by omega)) $$ Hr
  iintro Hr
  iapply Wp_ret
  iapply Hk
  iframe

/-- Layer 0's result from the seven received blocks. -/
abbrev red0 : FVec F S64x256 .f32 :=
  k0_pay3 (k0_pay2 (ld4 (PA m c) 0 c.val 1 (by decide) c.isLt)) (ld4 (RA m c) 0 0 1 (by decide) (by decide)) (ld4 (RA m c) 0 1 1 (by decide) (by decide))
    (ld4 (RA m c) 0 2 1 (by decide) (by decide)) (ld4 (RA m c) 0 3 1 (by decide) (by decide)) (ld4 (RA m c) 0 4 1 (by decide) (by decide))
    (ld4 (RA m c) 0 5 1 (by decide) (by decide))

theorem part13 {f : S2x8x64x256.Idx → Elt F .bf16} (v2) : iprop(St m K c 7 7 ∗ Rg m c 0 7 ∗ xR fullShare 0 0 0 1 c f)
    ⊢ iprop((∀ v, iprop(St m K c 8 7 ∗ Rg m c 0 7 ∗ Xo m c 0 1) -∗ Qw v) -∗ Wp c (On (k0_part13 (F := F)) c v2 (red0 m c)) Qw) := by
  rw [k0_part13_eq_skeleton]
  unfold On k0_part13_skel
  simp only [Prog.lift, Prog.bind_op, Prog.bind_ret, Prog.pure_eq_ret]
  iintro ⟨HS, Hr, Hx⟩ Hk
  iapply (load_r c (l := 0) (j := 6) (w := 1) (by decide) (by decide) (by omega)) $$ Hr
  iintro Hr
  iapply (load_x c (l := 0) (j := 0) (w := 1) (by decide) (by decide) (by omega)) $$ Hx
  iintro Hx
  iapply (store_x c (l := 0) (j := 0) (w := 1) (by decide) (by decide) (by omega) _ f (XA m c) (stored_x0 m c)) $$ Hx
  iintro Hx
  iapply (send_ag0 m K c (t := 0) (by decide) (d := ⟨k0_dev15 c, k0_dev15_lt c⟩) (wrap (k0_dev15_eq c)) rfl rfl) $$ [HS Hx]
  · isplitl [HS]; · iexact HS
    iexact Hx
  iintro ⟨HS, Hx⟩
  iapply Wp_ret
  iapply Hk
  iframe

theorem part14 {Q : (Σ' (_ : BitVec 32), BitVec 32) → sProp (MT nD τ sig Unit (Elt F) ℕ UU ℕ)} (v2 v320) : iprop(St m K c 8 7 ∗ Xo m c 0 1)
    ⊢ iprop((∀ v, iprop(St m K c 10 7 ∗ Xo m c 0 3) -∗ Q v) -∗ Wp c (On (k0_part14 (F := F)) c v2 v320) Q) := by
  rw [k0_part14_eq_skeleton]
  unfold On k0_part14_skel
  simp only [Prog.lift, Prog.bind_op, Prog.bind_ret, Prog.pure_eq_ret]
  iintro H Hk
  iapply (send_ag0 m K c (t := 1) (by decide) (d := ⟨k0_dev16 c, k0_dev16_lt c⟩) (wrap (k0_dev16_eq c)) rfl rfl) $$ H
  iintro H
  iapply (send_ag0 m K c (t := 2) (by decide) (d := ⟨k0_dev17 c, k0_dev17_lt c⟩) (wrap (k0_dev17_eq c)) rfl rfl) $$ H
  iintro H
  iapply Wp_ret
  iapply Hk
  iexact H

theorem part15 (v2 v345 c') : iprop(St m K c 10 7 ∗ Xo m c 0 3)
    ⊢ iprop((∀ v, iprop(St m K c 11 7 ∗ Xo m c 0 4) -∗ Q₀ v) -∗ Wp c (On (k0_part15 (F := F)) c v2 v345 c') Q₀) := by
  rw [k0_part15_eq_skeleton]
  unfold On k0_part15_skel
  simp only [Prog.lift, Prog.bind_op, Prog.bind_ret, Prog.pure_eq_ret]
  iintro H Hk
  iapply (send_ag0 m K c (t := 3) (by decide) (d := ⟨k0_dev18 c, k0_dev18_lt c⟩) (wrap (k0_dev18_eq c)) rfl rfl) $$ H
  iintro H
  iapply Wp_ret
  iapply Hk
  iexact H

theorem part16 (v2) : iprop(St m K c 11 7 ∗ Xo m c 0 4)
    ⊢ iprop((∀ v, iprop(St m K c 13 7 ∗ Xo m c 0 6) -∗ Q₀ v) -∗ Wp c (On (k0_part16 (F := F)) c v2) Q₀) := by
  rw [k0_part16_eq_skeleton]
  unfold On k0_part16_skel
  simp only [Prog.lift, Prog.bind_op, Prog.bind_ret, Prog.pure_eq_ret]
  iintro H Hk
  iapply (send_ag0 m K c (t := 4) (by decide) (d := ⟨k0_dev19 c, k0_dev19_lt c⟩) (wrap (k0_dev19_eq c)) rfl rfl) $$ H
  iintro H
  iapply (send_ag0 m K c (t := 5) (by decide) (d := ⟨k0_dev20 c, k0_dev20_lt c⟩) (wrap (k0_dev20_eq c)) rfl rfl) $$ H
  iintro H
  iapply Wp_ret
  iapply Hk
  iexact H

theorem part17 {Q : (Σ' (_ : FVec F S256x512 .bf16) (_ : FVec F S512x256 .bf16) (_ : FVec F S64x256 .f32), FVec F S1x64x256 .bf16) → sProp (MT nD τ sig Unit (Elt F) ℕ UU ℕ)}
    {f : S3x8x64x256.Idx → Elt F .bf16} :
    iprop(St m K c 13 7 ∗ Xo m c 0 6 ∗ LT 3 c ∗ LT 4 c ∗ pR fullShare 0 1 0 1 c f)
    ⊢ iprop((iprop(St m K c 14 7 ∗ Xo m c 0 7 ∗ Kept m 3 c ∗ wiR 1 c (WI m c) ∗ Kept m 4 c ∗ woR 1 c (WO m c) ∗ pR fullShare 0 1 0 1 c f)
        -∗ Q ⟨k0_pay5 (wi m 1 (by decide) c), k0_pay6 (wo m 1 (by decide) c),
            k0_pay7 (ld4 (XA m c) 0 0 1 (by decide) (by decide)) (wi m 1 (by decide) c) (wo m 1 (by decide) c),
            k0_pay8 (ld4 (XA m c) 0 0 1 (by decide) (by decide)) (wi m 1 (by decide) c) (wo m 1 (by decide) c)⟩)
      -∗ Wp c (On (k0_part17 (F := F)) c) Q) := by
  rw [k0_part17_eq_skeleton]
  unfold On k0_part17_skel
  simp only [Prog.lift, Prog.bind_op, Prog.bind_ret, Prog.pure_eq_ret]
  iintro ⟨HS, Hx, T3, T4, Hp⟩ Hk
  iapply (send_ag0 m K c (t := 6) (by decide) (d := ⟨k0_dev21 c, k0_dev21_lt c⟩) (wrap (k0_dev21_eq c)) rfl rfl) $$ [HS Hx]
  · isplitl [HS] <;> iassumption
  iintro ⟨HS, Hx⟩
  iapply (load_x c (l := 0) (j := 0) (w := 1) (by decide) (by decide) (by omega)) $$ Hx
  iintro Hx
  iapply (wait_wi m K c (l := 1) (by decide) rfl) $$ [HS T3]
  · isplitl [HS] <;> iassumption
  iintro ⟨HS, K3, Hw⟩
  iapply (wait_wo m K c (l := 1) (by decide) rfl) $$ [HS T4]
  · isplitl [HS] <;> iassumption
  iintro ⟨HS, K4, Hw'⟩
  iapply (load_wi c (l := 1) (by decide)) $$ Hw
  iintro Hw
  iapply (load_wo c (l := 1) (by decide)) $$ Hw'
  iintro Hw'
  iapply (load_p c (l := 1) (j := 0) (w := 1) (by decide) (by decide) (by omega) rfl) $$ Hp
  iintro Hp
  iapply Wp_ret
  iapply Hk
  iframe

end Cert.TpMlp

end
-- ==== Proof.PartsC.lean ====
/-
# The body, third part: layer 1
-/
module

public import proofs.«01_k».proof.Proof.Pieces
public import proofs.«01_k».proof.Proof.Loads

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 92 → ℕ) (c : Dev nD)

variable {Q₀ : PUnit → sProp (MT nD τ sig Unit (Elt F) ℕ UU ℕ)} {Qw : BitVec 32 → sProp (MT nD τ sig Unit (Elt F) ℕ UU ℕ)}
  {Qp : (Σ' (_ : BitVec 32), BitVec 32) → sProp (MT nD τ sig Unit (Elt F) ℕ UU ℕ)} {f : S3x8x64x256.Idx → Elt F .bf16}

theorem part18 (v2) : iprop(St m K c 14 7 ∗ pR fullShare 0 1 0 1 c f ∗ Xg m c 0 1)
    ⊢ iprop((∀ v, iprop(St m K c 14 8 ∗ Pg m c 1 0 1 ∗ Xg m c 0 2) -∗ Q₀ v)
      -∗ Wp c (On (k0_part18 (F := F)) v2 (k0_pay8 (ld4 (XA m c) 0 0 1 (by decide) (by decide)) (wi m 1 (by decide) c) (wo m 1 (by decide) c))) Q₀) := by
  rw [k0_part18_eq_skeleton]
  unfold On k0_part18_skel
  simp only [Prog.lift, Prog.bind_op, Prog.bind_ret, Prog.pure_eq_ret]
  iintro ⟨HS, Hp, Hx⟩ Hk
  iapply (store_p c (l := 1) (j := 0) (w := 1) (by decide) (by decide) (by omega) _ f (PA m c) (stored_p1_0 m c)) $$ Hp
  iintro Hp
  iapply (recv_x m K c (s := 14) (l := 0) (t := 1) (by decide) (by decide) (by decide) (by decide) rfl) $$ [HS Hx]
  · isplitl [HS] <;> iassumption
  iintro ⟨HS, Hx⟩
  iapply Wp_ret
  iapply Hk
  iframe

theorem part19 (v2) : iprop(St m K c 14 8 ∗ Xg m c 0 2 ∗ pR fullShare 0 1 1 3 c f)
    ⊢ iprop((∀ v, iprop(St m K c 14 9 ∗ Xg m c 0 3 ∗ Pg m c 1 1 3) -∗ Q₀ v)
      -∗ Wp c (On (k0_part19 (F := F)) v2 (k0_pay5 (wi m 1 (by decide) c)) (k0_pay6 (wo m 1 (by decide) c))) Q₀) := by
  rw [k0_part19_eq_skeleton]
  unfold On k0_part19_skel
  simp only [Prog.lift, Prog.bind_op, Prog.bind_ret, Prog.pure_eq_ret]
  iintro ⟨HS, Hx, Hp⟩ Hk
  iapply (recv_x m K c (s := 14) (l := 0) (t := 2) (by decide) (by decide) (by decide) (by decide) rfl) $$ [HS Hx]
  · isplitl [HS] <;> iassumption
  iintro ⟨HS, Hx⟩
  iapply (load_x c (l := 0) (j := 1) (w := 2) (by decide) (by decide) (by omega)) $$ Hx
  iintro Hx
  iapply (load_p c (l := 1) (j := 1) (w := 2) (by decide) (by decide) (by omega) rfl) $$ Hp
  iintro Hp
  iapply (store_p c (l := 1) (j := 1) (w := 2) (by decide) (by decide) (by omega) _ f (PA m c) (stored_p1_1 m c)) $$ Hp
  iintro Hp
  iapply Wp_ret
  iapply Hk
  iframe

theorem part20 (v2) : iprop(St m K c 14 9 ∗ Pg m c 1 1 3)
    ⊢ iprop((∀ v, St m K c 16 9 -∗ Q₀ v) -∗ Wp c (On (k0_part20 (F := F)) c v2) Q₀) := by
  rw [k0_part20_eq_skeleton]
  unfold On k0_part20_skel
  simp only [Prog.lift, Prog.bind_op, Prog.bind_ret, Prog.pure_eq_ret]
  iintro H Hk
  iapply (send_rs1 m K c (t := 0) (by decide) (by decide) (d := ⟨k0_dev22 c, k0_dev22_lt c⟩) (k0_dev22_eq c) rfl rfl) $$ H
  iintro H
  iapply (send_rs1 m K c (t := 1) (by decide) (by decide) (d := ⟨k0_dev23 c, k0_dev23_lt c⟩) (k0_dev23_eq c) rfl rfl) $$ H
  iintro ⟨HS, _⟩
  iapply Wp_ret
  iapply Hk
  iexact HS

theorem part21 {Q : FVec F S2x64x256 .bf16 → sProp (MT nD τ sig Unit (Elt F) ℕ UU ℕ)} (v2) :
    iprop(St m K c 16 9 ∗ Xg m c 0 3 ∗ pR fullShare 0 1 3 5 c f)
    ⊢ iprop((iprop(St m K c 16 11 ∗ Xg m c 0 5 ∗ pR fullShare 0 1 3 5 c f)
        -∗ Q (k0_pay11 (k0_pay5 (wi m 1 (by decide) c)) (k0_pay6 (wo m 1 (by decide) c)) (ld4 (XA m c) 0 3 2 (by decide) (by decide))))
      -∗ Wp c (On (k0_part21 (F := F)) v2 (k0_pay5 (wi m 1 (by decide) c)) (k0_pay6 (wo m 1 (by decide) c))) Q) := by
  rw [k0_part21_eq_skeleton]
  unfold On k0_part21_skel
  simp only [Prog.lift, Prog.bind_op, Prog.bind_ret, Prog.pure_eq_ret]
  iintro ⟨HS, Hx, Hp⟩ Hk
  iapply (recv_x m K c (s := 16) (l := 0) (t := 3) (by decide) (by decide) (by decide) (by decide) rfl) $$ [HS Hx]
  · isplitl [HS] <;> iassumption
  iintro H
  iapply (recv_x m K c (l := 0) (t := 4) (by decide) (by decide) (by decide) (by decide) rfl) $$ H
  iintro ⟨HS, Hx⟩
  iapply (load_x c (l := 0) (j := 3) (w := 2) (by decide) (by decide) (by omega)) $$ Hx
  iintro Hx
  iapply (load_p c (l := 1) (j := 3) (w := 2) (by decide) (by decide) (by omega) rfl) $$ Hp
  iintro Hp
  iapply Wp_ret
  iapply Hk
  iframe

theorem part22 (v2) : iprop(St m K c 16 11 ∗ pR fullShare 0 1 3 5 c f)
    ⊢ iprop((∀ v, iprop(St m K c 17 11 ∗ Pg m c 1 4 5) -∗ Q₀ v)
      -∗ Wp c (On (k0_part22 (F := F)) c v2 (k0_pay11 (k0_pay5 (wi m 1 (by decide) c)) (k0_pay6 (wo m 1 (by decide) c)) (ld4 (XA m c) 0 3 2 (by decide) (by decide)))) Q₀) := by
  rw [k0_part22_eq_skeleton]
  unfold On k0_part22_skel
  simp only [Prog.lift, Prog.bind_op, Prog.bind_ret, Prog.pure_eq_ret]
  iintro ⟨HS, Hp⟩ Hk
  iapply (store_p c (l := 1) (j := 3) (w := 2) (by decide) (by decide) (by omega) _ f (PA m c) (stored_p1_3 m c)) $$ Hp
  iintro Hp
  iapply (send_rs1 m K c (hi := 5) (t := 2) (by decide) (by decide) (d := ⟨k0_dev24 c, k0_dev24_lt c⟩) (k0_dev24_eq c) rfl rfl) $$ [HS Hp]
  · isplitl [HS] <;> iassumption
  iintro H
  iapply Wp_ret
  iapply Hk
  iexact H

theorem part23 (v2) : iprop(St m K c 17 11 ∗ Pg m c 1 4 5 ∗ Xg m c 0 5)
    ⊢ iprop((∀ v, iprop(St m K c 18 12 ∗ Xg m c 0 6) -∗ Q₀ v) -∗ Wp c (On (k0_part23 (F := F)) c v2) Q₀) := by
  rw [k0_part23_eq_skeleton]
  unfold On k0_part23_skel
  simp only [Prog.lift, Prog.bind_op, Prog.bind_ret, Prog.pure_eq_ret]
  iintro ⟨HS, Hp, Hx⟩ Hk
  iapply (send_rs1 m K c (hi := 5) (t := 3) (by decide) (by decide) (d := ⟨k0_dev25 c, k0_dev25_lt c⟩) (k0_dev25_eq c) rfl rfl) $$ [HS Hp]
  · isplitl [HS] <;> iassumption
  iintro ⟨HS, _⟩
  iapply (recv_x m K c (s := 18) (l := 0) (t := 5) (by decide) (by decide) (by decide) (by decide) rfl) $$ [HS Hx]
  · isplitl [HS] <;> iassumption
  iintro H
  iapply Wp_ret
  iapply Hk
  iexact H

theorem part24 (v2) : iprop(St m K c 18 12 ∗ Xg m c 0 6 ∗ pR fullShare 0 1 5 7 c f)
    ⊢ iprop((∀ v, iprop(St m K c 18 13 ∗ Xg m c 0 7 ∗ Pg m c 1 5 7) -∗ Q₀ v)
      -∗ Wp c (On (k0_part24 (F := F)) v2 (k0_pay5 (wi m 1 (by decide) c)) (k0_pay6 (wo m 1 (by decide) c))) Q₀) := by
  rw [k0_part24_eq_skeleton]
  unfold On k0_part24_skel
  simp only [Prog.lift, Prog.bind_op, Prog.bind_ret, Prog.pure_eq_ret]
  iintro ⟨HS, Hx, Hp⟩ Hk
  iapply (recv_x m K c (s := 18) (l := 0) (t := 6) (by decide) (by decide) (by decide) (by decide) rfl) $$ [HS Hx]
  · isplitl [HS] <;> iassumption
  iintro ⟨HS, Hx⟩
  iapply (load_x c (l := 0) (j := 5) (w := 2) (by decide) (by decide) (by omega)) $$ Hx
  iintro Hx
  iapply (load_p c (l := 1) (j := 5) (w := 2) (by decide) (by decide) (by omega) rfl) $$ Hp
  iintro Hp
  iapply (store_p c (l := 1) (j := 5) (w := 2) (by decide) (by decide) (by omega) _ f (PA m c) (stored_p1_5 m c)) $$ Hp
  iintro Hp
  iapply Wp_ret
  iapply Hk
  iframe

theorem part25 (v2) : iprop(St m K c 18 13 ∗ Pg m c 1 5 7)
    ⊢ iprop((∀ v, St m K c 20 13 -∗ Q₀ v) -∗ Wp c (On (k0_part25 (F := F)) c v2) Q₀) := by
  rw [k0_part25_eq_skeleton]
  unfold On k0_part25_skel
  simp only [Prog.lift, Prog.bind_op, Prog.bind_ret, Prog.pure_eq_ret]
  iintro H Hk
  iapply (send_rs1 m K c (t := 4) (by decide) (by decide) (d := ⟨k0_dev26 c, k0_dev26_lt c⟩) (k0_dev26_eq c) rfl rfl) $$ H
  iintro H
  iapply (send_rs1 m K c (t := 5) (by decide) (by decide) (d := ⟨k0_dev27 c, k0_dev27_lt c⟩) (k0_dev27_eq c) rfl rfl) $$ H
  iintro ⟨HS, _⟩
  iapply Wp_ret
  iapply Hk
  iexact HS

theorem part26 (v2) : iprop(St m K c 20 13 ∗ Xg m c 0 7 ∗ pR fullShare 0 1 7 8 c f)
    ⊢ iprop((∀ v, iprop(St m K c 20 14 ∗ Xg m c 0 8 ∗ Pg m c 1 7 8) -∗ Q₀ v)
      -∗ Wp c (On (k0_part26 (F := F)) v2 (k0_pay5 (wi m 1 (by decide) c)) (k0_pay6 (wo m 1 (by decide) c))) Q₀) := by
  rw [k0_part26_eq_skeleton]
  unfold On k0_part26_skel
  simp only [Prog.lift, Prog.bind_op, Prog.bind_ret, Prog.pure_eq_ret]
  iintro ⟨HS, Hx, Hp⟩ Hk
  iapply (recv_x m K c (s := 20) (l := 0) (t := 7) (by decide) (by decide) (by decide) (by decide) rfl) $$ [HS Hx]
  · isplitl [HS] <;> iassumption
  iintro ⟨HS, Hx⟩
  iapply (load_x c (l := 0) (j := 7) (w := 1) (by decide) (by decide) (by omega)) $$ Hx
  iintro Hx
  iapply (load_p c (l := 1) (j := 7) (w := 1) (by decide) (by decide) (by omega) rfl) $$ Hp
  iintro Hp
  iapply (store_p c (l := 1) (j := 7) (w := 1) (by decide) (by decide) (by omega) _ f (PA m c) (stored_p1_7 m c)) $$ Hp
  iintro Hp
  iapply Wp_ret
  iapply Hk
  iframe

theorem part27 (v2) : iprop(St m K c 20 14 ∗ Pg m c 1 7 8 ∗ Rg m c 1 0)
    ⊢ iprop((∀ v, iprop(St m K c 21 15 ∗ Rg m c 1 1) -∗ Q₀ v) -∗ Wp c (On (k0_part27 (F := F)) c v2) Q₀) := by
  rw [k0_part27_eq_skeleton]
  unfold On k0_part27_skel
  simp only [Prog.lift, Prog.bind_op, Prog.bind_ret, Prog.pure_eq_ret]
  iintro ⟨HS, Hp, Hr⟩ Hk
  iapply (send_rs1 m K c (hi := 8) (t := 6) (by decide) (by decide) (d := ⟨k0_dev28 c, k0_dev28_lt c⟩) (k0_dev28_eq c) rfl rfl) $$ [HS Hp]
  · isplitl [HS] <;> iassumption
  iintro ⟨HS, _⟩
  iapply (recv_r m K c (s := 21) (l := 1) (t := 0) (by decide) (by decide) (by decide) rfl) $$ [HS Hr]
  · isplitl [HS] <;> iassumption
  iintro H
  iapply Wp_ret
  iapply Hk
  iexact H

theorem part28 (v2) : iprop(St m K c 21 15 ∗ Rg m c 1 1)
    ⊢ iprop((∀ v, iprop(St m K c 21 17 ∗ Rg m c 1 3) -∗ Q₀ v) -∗ Wp c (On (k0_part28 (F := F)) v2) Q₀) := by
  rw [k0_part28_eq_skeleton]
  unfold On k0_part28_skel
  simp only [Prog.lift, Prog.bind_op, Prog.bind_ret, Prog.pure_eq_ret]
  iintro H Hk
  iapply (recv_r m K c (l := 1) (t := 1) (by decide) (by decide) (by decide) rfl) $$ H
  iintro H
  iapply (recv_r m K c (l := 1) (t := 2) (by decide) (by decide) (by decide) rfl) $$ H
  iintro H
  iapply Wp_ret
  iapply Hk
  iexact H

theorem part29 (v2) : iprop(St m K c 21 17 ∗ Rg m c 1 3)
    ⊢ iprop((∀ v, iprop(St m K c 21 19 ∗ Rg m c 1 5) -∗ Q₀ v) -∗ Wp c (On (k0_part29 (F := F)) v2) Q₀) := by
  rw [k0_part29_eq_skeleton]
  unfold On k0_part29_skel
  simp only [Prog.lift, Prog.bind_op, Prog.bind_ret, Prog.pure_eq_ret]
  iintro H Hk
  iapply (recv_r m K c (l := 1) (t := 3) (by decide) (by decide) (by decide) rfl) $$ H
  iintro H
  iapply (recv_r m K c (l := 1) (t := 4) (by decide) (by decide) (by decide) rfl) $$ H
  iintro H
  iapply Wp_ret
  iapply Hk
  iexact H

theorem part30 {Q : FVec F S64x256 .f32 → sProp (MT nD τ sig Unit (Elt F) ℕ UU ℕ)} (v2 v417) : iprop(St m K c 21 19 ∗ Rg m c 1 5)
    ⊢ iprop((iprop(St m K c 21 21 ∗ Rg m c 1 7) -∗ Q (k0_pay15 v417 (ld4 (RA m c) 1 0 1 (by decide) (by decide)) (ld4 (RA m c) 1 1 1 (by decide) (by decide))
        (ld4 (RA m c) 1 2 1 (by decide) (by decide)))) -∗ Wp c (On (k0_part30 (F := F)) v2 v417) Q) := by
  rw [k0_part30_eq_skeleton]
  unfold On k0_part30_skel
  simp only [Prog.lift, Prog.bind_op, Prog.bind_ret, Prog.pure_eq_ret]
  iintro H Hk
  iapply (recv_r m K c (l := 1) (t := 5) (by decide) (by decide) (by decide) rfl) $$ H
  iintro H
  iapply (recv_r m K c (l := 1) (t := 6) (by decide) (by decide) (by decide) rfl) $$ H
  iintro ⟨HS, Hr⟩
  iapply (load_r c (l := 1) (j := 0) (w := 1) (by decide) (by decide) (by omega)) $$ Hr
  iintro Hr
  iapply (load_r c (l := 1) (j := 1) (w := 1) (by decide) (by decide) (by omega)) $$ Hr
  iintro Hr
  iapply (load_r c (l := 1) (j := 2) (w := 1) (by decide) (by decide) (by omega)) $$ Hr
  iintro Hr
  iapply Wp_ret
  iapply Hk
  iframe

/-- The first part of layer 1's sum: the own partial product and three received blocks. -/
abbrev red1 : FVec F S64x256 .f32 :=
  k0_pay15 (k0_pay7 (ld4 (XA m c) 0 0 1 (by decide) (by decide)) (wi m 1 (by decide) c) (wo m 1 (by decide) c)) (ld4 (RA m c) 1 0 1 (by decide) (by decide))
    (ld4 (RA m c) 1 1 1 (by decide) (by decide)) (ld4 (RA m c) 1 2 1 (by decide) (by decide))

theorem part31 {g : S2x8x64x256.Idx → Elt F .bf16} (v2) : iprop(Rg m c 1 7 ∗ xR fullShare 0 1 0 1 c g)
    ⊢ iprop((∀ v, iprop(Rg m c 1 7 ∗ Xo m c 1 0) -∗ Q₀ v) -∗ Wp c (On (k0_part31 (F := F)) v2 (red1 m c)) Q₀) := by
  rw [k0_part31_eq_skeleton]
  unfold On k0_part31_skel
  simp only [Prog.lift, Prog.bind_op, Prog.bind_ret, Prog.pure_eq_ret]
  iintro ⟨Hr, Hx⟩ Hk
  iapply (load_r c (l := 1) (j := 3) (w := 1) (by decide) (by decide) (by omega)) $$ Hr
  iintro Hr
  iapply (load_r c (l := 1) (j := 4) (w := 1) (by decide) (by decide) (by omega)) $$ Hr
  iintro Hr
  iapply (load_r c (l := 1) (j := 5) (w := 1) (by decide) (by decide) (by omega)) $$ Hr
  iintro Hr
  iapply (load_r c (l := 1) (j := 6) (w := 1) (by decide) (by decide) (by omega)) $$ Hr
  iintro Hr
  iapply (load_x c (l := 1) (j := 0) (w := 1) (by decide) (by decide) (by omega)) $$ Hx
  iintro Hx
  iapply (store_x c (l := 1) (j := 0) (w := 1) (by decide) (by decide) (by omega) _ g (XA m c) (stored_x1 m c)) $$ Hx
  iintro Hx
  iapply Wp_ret
  iapply Hk
  isplitl [Hr]; · iexact Hr
  iexact Hx

end Cert.TpMlp

end
-- ==== Proof.PartsD.lean ====
/-
# The body, fourth part: layer 2
-/
module

public import proofs.«01_k».proof.Proof.Pieces
public import proofs.«01_k».proof.Proof.Loads

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 92 → ℕ) (c : Dev nD)

variable {Q₀ : PUnit → sProp (MT nD τ sig Unit (Elt F) ℕ UU ℕ)} {Qw : BitVec 32 → sProp (MT nD τ sig Unit (Elt F) ℕ UU ℕ)}
  {Qp : (Σ' (_ : BitVec 32), BitVec 32) → sProp (MT nD τ sig Unit (Elt F) ℕ UU ℕ)} {f : S3x8x64x256.Idx → Elt F .bf16}
theorem part32 (v2) : iprop(St m K c 21 21 ∗ Xo m c 1 0)
    ⊢ iprop((∀ v, iprop(St m K c 23 21 ∗ Xo m c 1 2) -∗ Qw v)
      -∗ Wp c (On (k0_part32 (F := F)) c v2) Qw) := by
  rw [k0_part32_eq_skeleton]
  unfold On k0_part32_skel
  simp only [Prog.lift, Prog.bind_op, Prog.bind_ret, Prog.pure_eq_ret]
  iintro H Hk
  iapply (send_ag1 m K c (t := 0) (by decide) (d := ⟨k0_dev29 c, k0_dev29_lt c⟩) (wrap (k0_dev29_eq c)) rfl rfl) $$ H
  iintro H
  iapply (send_ag1 m K c (t := 1) (by decide) (d := ⟨k0_dev30 c, k0_dev30_lt c⟩) (wrap (k0_dev30_eq c)) rfl rfl) $$ H
  iintro H
  iapply Wp_ret
  iapply Hk
  iexact H

theorem part33 (v2 w) : iprop(St m K c 23 21 ∗ Xo m c 1 2)
    ⊢ iprop((∀ v, iprop(St m K c 25 21 ∗ Xo m c 1 4) -∗ Qw v)
      -∗ Wp c (On (k0_part33 (F := F)) c v2 w) Qw) := by
  rw [k0_part33_eq_skeleton]
  unfold On k0_part33_skel
  simp only [Prog.lift, Prog.bind_op, Prog.bind_ret, Prog.pure_eq_ret]
  iintro H Hk
  iapply (send_ag1 m K c (t := 2) (by decide) (d := ⟨k0_dev31 c, k0_dev31_lt c⟩) (wrap (k0_dev31_eq c)) rfl rfl) $$ H
  iintro H
  iapply (send_ag1 m K c (t := 3) (by decide) (d := ⟨k0_dev32 c, k0_dev32_lt c⟩) (wrap (k0_dev32_eq c)) rfl rfl) $$ H
  iintro H
  iapply Wp_ret
  iapply Hk
  iexact H

theorem part34 (v2 w) : iprop(St m K c 25 21 ∗ Xo m c 1 4)
    ⊢ iprop((∀ v, iprop(St m K c 27 21 ∗ Xo m c 1 6) -∗ Qw v)
      -∗ Wp c (On (k0_part34 (F := F)) c v2 w) Qw) := by
  rw [k0_part34_eq_skeleton]
  unfold On k0_part34_skel
  simp only [Prog.lift, Prog.bind_op, Prog.bind_ret, Prog.pure_eq_ret]
  iintro H Hk
  iapply (send_ag1 m K c (t := 4) (by decide) (d := ⟨k0_dev33 c, k0_dev33_lt c⟩) (wrap (k0_dev33_eq c)) rfl rfl) $$ H
  iintro H
  iapply (send_ag1 m K c (t := 5) (by decide) (d := ⟨k0_dev34 c, k0_dev34_lt c⟩) (wrap (k0_dev34_eq c)) rfl rfl) $$ H
  iintro H
  iapply Wp_ret
  iapply Hk
  iexact H

theorem part35 {Q : (Σ' (_ : FVec F S64x256 .bf16), FVec F S256x512 .bf16) → sProp (MT nD τ sig Unit (Elt F) ℕ UU ℕ)} (w) : iprop(St m K c 27 21 ∗ Xo m c 1 6 ∗ LT 5 c ∗ LT 6 c)
    ⊢ iprop((iprop(St m K c 28 21 ∗ Xo m c 1 7 ∗ Kept m 5 c ∗ wiR 2 c (WI m c) ∗ Kept m 6 c ∗ woR 2 c (WO m c)) -∗ Q ⟨(k0_pay17 (ld4 (XA m c) 1 0 1 (by decide) (by decide))), (k0_pay18 (wi m 2 (by decide) c))⟩)
      -∗ Wp c (On (k0_part35 (F := F)) c w) Q) := by
  rw [k0_part35_eq_skeleton]
  unfold On k0_part35_skel
  simp only [Prog.lift, Prog.bind_op, Prog.bind_ret, Prog.pure_eq_ret]
  iintro ⟨HS, Hx, T5, T6⟩ Hk
  iapply (send_ag1 m K c (t := 6) (by decide) (d := ⟨k0_dev35 c, k0_dev35_lt c⟩) (wrap (k0_dev35_eq c)) rfl rfl) $$ [HS Hx]
  · isplitl [HS] <;> iassumption
  iintro ⟨HS, Hx⟩
  iapply (load_x c (l := 1) (j := 0) (w := 1) (by decide) (by decide) (by omega)) $$ Hx
  iintro Hx
  iapply (wait_wi m K c (l := 2) (by decide) rfl) $$ [HS T5]
  · isplitl [HS] <;> iassumption
  iintro ⟨HS, K5, Hw⟩
  iapply (wait_wo m K c (l := 2) (by decide) rfl) $$ [HS T6]
  · isplitl [HS] <;> iassumption
  iintro ⟨HS, K6, Hw'⟩
  iapply (load_wi c (l := 2) (by decide)) $$ Hw
  iintro Hw
  iapply Wp_ret
  iapply Hk
  iframe

theorem part36 {Q : (Σ' (_ : FVec F S512x256 .bf16) (_ : FVec F S64x256 .f32) (_ : BitVec 32), BitVec 32) → sProp (MT nD τ sig Unit (Elt F) ℕ UU ℕ)} (v2) : iprop(St m K c 28 21 ∗ woR 2 c (WO m c) ∗ pR fullShare 0 2 0 1 c f ∗ Xg m c 1 1)
    ⊢ iprop((∀ v w, iprop(St m K c 28 22 ∗ woR 2 c (WO m c) ∗ Pg m c 2 0 1 ∗ Xg m c 1 2) -∗ Q ⟨(k0_pay19 (wo m 2 (by decide) c)), k0_pay20 (k0_pay17 (ld4 (XA m c) 1 0 1 (by decide) (by decide))) (k0_pay18 (wi m 2 (by decide) c)) (wo m 2 (by decide) c), v, w⟩)
      -∗ Wp c (On (k0_part36 (F := F)) v2 (k0_pay17 (ld4 (XA m c) 1 0 1 (by decide) (by decide))) (k0_pay18 (wi m 2 (by decide) c))) Q) := by
  rw [k0_part36_eq_skeleton]
  unfold On k0_part36_skel
  simp only [Prog.lift, Prog.bind_op, Prog.bind_ret, Prog.pure_eq_ret]
  iintro ⟨HS, Hw, Hp, Hx⟩ Hk
  iapply (load_wo c (l := 2) (by decide)) $$ Hw
  iintro Hw
  iapply (load_p c (l := 2) (j := 0) (w := 1) (by decide) (by decide) (by omega) rfl) $$ Hp
  iintro Hp
  iapply (store_p c (l := 2) (j := 0) (w := 1) (by decide) (by decide) (by omega) _ f (PA m c) (stored_p2_0 m c)) $$ Hp
  iintro Hp
  iapply (recv_x m K c (s := 28) (l := 1) (t := 1) (by decide) (by decide) (by decide) (by decide) rfl) $$ [HS Hx]
  · isplitl [HS] <;> iassumption
  iintro ⟨HS, Hx⟩
  iapply Wp_ret
  iapply Hk
  iframe

theorem part37 (v2 w w') : iprop(St m K c 28 22 ∗ Xg m c 1 2 ∗ pR fullShare 0 2 1 3 c f)
    ⊢ iprop((∀ v, iprop(St m K c 28 23 ∗ Xg m c 1 3 ∗ Pg m c 2 1 3) -∗ Qw v)
      -∗ Wp c (On (k0_part37 (F := F)) v2 (k0_pay18 (wi m 2 (by decide) c)) (k0_pay19 (wo m 2 (by decide) c)) w w') Qw) := by
  rw [k0_part37_eq_skeleton]
  unfold On k0_part37_skel
  simp only [Prog.lift, Prog.bind_op, Prog.bind_ret, Prog.pure_eq_ret]
  iintro ⟨HS, Hx, Hp⟩ Hk
  iapply (recv_x m K c (s := 28) (l := 1) (t := 2) (by decide) (by decide) (by decide) (by decide) rfl) $$ [HS Hx]
  · isplitl [HS] <;> iassumption
  iintro ⟨HS, Hx⟩
  iapply (load_x c (l := 1) (j := 1) (w := 2) (by decide) (by decide) (by omega)) $$ Hx
  iintro Hx
  iapply (load_p c (l := 2) (j := 1) (w := 2) (by decide) (by decide) (by omega) rfl) $$ Hp
  iintro Hp
  iapply (store_p c (l := 2) (j := 1) (w := 2) (by decide) (by decide) (by omega) _ f (PA m c) (stored_p2_1 m c)) $$ Hp
  iintro Hp
  iapply Wp_ret
  iapply Hk
  iframe

theorem part38 (v2 w) : iprop(St m K c 28 23 ∗ Pg m c 2 1 3)
    ⊢ iprop((∀ v, iprop(St m K c 30 23) -∗ Qp v)
      -∗ Wp c (On (k0_part38 (F := F)) c v2 w) Qp) := by
  rw [k0_part38_eq_skeleton]
  unfold On k0_part38_skel
  simp only [Prog.lift, Prog.bind_op, Prog.bind_ret, Prog.pure_eq_ret]
  iintro H Hk
  iapply (send_rs2 m K c (t := 0) (by decide) (by decide) (d := ⟨k0_dev36 c, k0_dev36_lt c⟩) (k0_dev36_eq c) rfl rfl) $$ H
  iintro H
  iapply (send_rs2 m K c (t := 1) (by decide) (by decide) (d := ⟨k0_dev37 c, k0_dev37_lt c⟩) (k0_dev37_eq c) rfl rfl) $$ H
  iintro ⟨HS, _⟩
  iapply Wp_ret
  iapply Hk
  iexact HS

theorem part39 (v2 w w') : iprop(St m K c 30 23 ∗ Xg m c 1 3)
    ⊢ iprop((∀ v, iprop(St m K c 30 25 ∗ Xg m c 1 5) -∗ Q₀ v)
      -∗ Wp c (On (k0_part39 (F := F)) v2 w w') Q₀) := by
  rw [k0_part39_eq_skeleton]
  unfold On k0_part39_skel
  simp only [Prog.lift, Prog.bind_op, Prog.bind_ret, Prog.pure_eq_ret]
  iintro H Hk
  iapply (recv_x m K c (l := 1) (t := 3) (by decide) (by decide) (by decide) (by decide) rfl) $$ H
  iintro H
  iapply (recv_x m K c (l := 1) (t := 4) (by decide) (by decide) (by decide) (by decide) rfl) $$ H
  iintro H
  iapply Wp_ret
  iapply Hk
  iexact H

theorem part40 (v2) : iprop(St m K c 30 25 ∗ Xg m c 1 5 ∗ pR fullShare 0 2 3 5 c f)
    ⊢ iprop((∀ v, iprop(St m K c 31 25 ∗ Xg m c 1 5 ∗ Pg m c 2 4 5) -∗ Qp v)
      -∗ Wp c (On (k0_part40 (F := F)) c v2 (k0_pay18 (wi m 2 (by decide) c)) (k0_pay19 (wo m 2 (by decide) c))) Qp) := by
  rw [k0_part40_eq_skeleton]
  unfold On k0_part40_skel
  simp only [Prog.lift, Prog.bind_op, Prog.bind_ret, Prog.pure_eq_ret]
  iintro ⟨HS, Hx, Hp⟩ Hk
  iapply (load_x c (l := 1) (j := 3) (w := 2) (by decide) (by decide) (by omega)) $$ Hx
  iintro Hx
  iapply (load_p c (l := 2) (j := 3) (w := 2) (by decide) (by decide) (by omega) rfl) $$ Hp
  iintro Hp
  iapply (store_p c (l := 2) (j := 3) (w := 2) (by decide) (by decide) (by omega) _ f (PA m c) (stored_p2_3 m c)) $$ Hp
  iintro Hp
  iapply (send_rs2 m K c (hi := 5) (t := 2) (by decide) (by decide) (d := ⟨k0_dev38 c, k0_dev38_lt c⟩) (k0_dev38_eq c) rfl rfl) $$ [HS Hp]
  · isplitl [HS] <;> iassumption
  iintro ⟨HS, Hp⟩
  iapply Wp_ret
  iapply Hk
  iframe

theorem part41 (v2 w w') : iprop(St m K c 31 25 ∗ Pg m c 2 4 5)
    ⊢ iprop((∀ v, iprop(St m K c 32 25) -∗ Q₀ v)
      -∗ Wp c (On (k0_part41 (F := F)) c v2 w w') Q₀) := by
  rw [k0_part41_eq_skeleton]
  unfold On k0_part41_skel
  simp only [Prog.lift, Prog.bind_op, Prog.bind_ret, Prog.pure_eq_ret]
  iintro H Hk
  iapply (send_rs2 m K c (t := 3) (by decide) (by decide) (d := ⟨k0_dev39 c, k0_dev39_lt c⟩) (k0_dev39_eq c) rfl rfl) $$ H
  iintro ⟨HS, _⟩
  iapply Wp_ret
  iapply Hk
  iexact HS

theorem part42 (v2) : iprop(St m K c 32 25 ∗ Xg m c 1 5 ∗ pR fullShare 0 2 5 7 c f)
    ⊢ iprop((∀ v, iprop(St m K c 32 27 ∗ Xg m c 1 7 ∗ Pg m c 2 5 7) -∗ Qp v)
      -∗ Wp c (On (k0_part42 (F := F)) v2 (k0_pay18 (wi m 2 (by decide) c)) (k0_pay19 (wo m 2 (by decide) c))) Qp) := by
  rw [k0_part42_eq_skeleton]
  unfold On k0_part42_skel
  simp only [Prog.lift, Prog.bind_op, Prog.bind_ret, Prog.pure_eq_ret]
  iintro ⟨HS, Hx, Hp⟩ Hk
  iapply (recv_x m K c (s := 32) (l := 1) (t := 5) (by decide) (by decide) (by decide) (by decide) rfl) $$ [HS Hx]
  · isplitl [HS] <;> iassumption
  iintro ⟨HS, Hx⟩
  iapply (recv_x m K c (s := 32) (l := 1) (t := 6) (by decide) (by decide) (by decide) (by decide) rfl) $$ [HS Hx]
  · isplitl [HS] <;> iassumption
  iintro ⟨HS, Hx⟩
  iapply (load_x c (l := 1) (j := 5) (w := 2) (by decide) (by decide) (by omega)) $$ Hx
  iintro Hx
  iapply (load_p c (l := 2) (j := 5) (w := 2) (by decide) (by decide) (by omega) rfl) $$ Hp
  iintro Hp
  iapply (store_p c (l := 2) (j := 5) (w := 2) (by decide) (by decide) (by omega) _ f (PA m c) (stored_p2_5 m c)) $$ Hp
  iintro Hp
  iapply Wp_ret
  iapply Hk
  iframe

theorem part43 (v2 w w') : iprop(St m K c 32 27 ∗ Pg m c 2 5 7)
    ⊢ iprop((∀ v, iprop(St m K c 33 27 ∗ Pg m c 2 6 7) -∗ Q₀ v)
      -∗ Wp c (On (k0_part43 (F := F)) c v2 w w') Q₀) := by
  rw [k0_part43_eq_skeleton]
  unfold On k0_part43_skel
  simp only [Prog.lift, Prog.bind_op, Prog.bind_ret, Prog.pure_eq_ret]
  iintro H Hk
  iapply (send_rs2 m K c (t := 4) (by decide) (by decide) (d := ⟨k0_dev40 c, k0_dev40_lt c⟩) (k0_dev40_eq c) rfl rfl) $$ H
  iintro H
  iapply Wp_ret
  iapply Hk
  iexact H

theorem part44 (v2) : iprop(St m K c 33 27 ∗ Pg m c 2 6 7 ∗ Xg m c 1 7 ∗ pR fullShare 0 2 7 8 c f)
    ⊢ iprop((∀ v, iprop(St m K c 34 28 ∗ Xg m c 1 8 ∗ Pg m c 2 7 8) -∗ Qw v)
      -∗ Wp c (On (k0_part44 (F := F)) c v2 (k0_pay18 (wi m 2 (by decide) c)) (k0_pay19 (wo m 2 (by decide) c))) Qw) := by
  rw [k0_part44_eq_skeleton]
  unfold On k0_part44_skel
  simp only [Prog.lift, Prog.bind_op, Prog.bind_ret, Prog.pure_eq_ret]
  iintro ⟨HS, Hp', Hx, Hp⟩ Hk
  iapply (send_rs2 m K c (hi := 7) (t := 5) (by decide) (by decide) (d := ⟨k0_dev41 c, k0_dev41_lt c⟩) (k0_dev41_eq c) rfl rfl) $$ [HS Hp']
  · isplitl [HS] <;> iassumption
  iintro ⟨HS, _⟩
  iapply (recv_x m K c (s := 34) (l := 1) (t := 7) (by decide) (by decide) (by decide) (by decide) rfl) $$ [HS Hx]
  · isplitl [HS] <;> iassumption
  iintro ⟨HS, Hx⟩
  iapply (load_x c (l := 1) (j := 7) (w := 1) (by decide) (by decide) (by omega)) $$ Hx
  iintro Hx
  iapply (load_p c (l := 2) (j := 7) (w := 1) (by decide) (by decide) (by omega) rfl) $$ Hp
  iintro Hp
  iapply (store_p c (l := 2) (j := 7) (w := 1) (by decide) (by decide) (by omega) _ f (PA m c) (stored_p2_7 m c)) $$ Hp
  iintro Hp
  iapply Wp_ret
  iapply Hk
  iframe

theorem part45 (v2 w) : iprop(St m K c 34 28 ∗ Pg m c 2 7 8)
    ⊢ iprop((∀ v, iprop(St m K c 35 28) -∗ Q₀ v)
      -∗ Wp c (On (k0_part45 (F := F)) c v2 w) Q₀) := by
  rw [k0_part45_eq_skeleton]
  unfold On k0_part45_skel
  simp only [Prog.lift, Prog.bind_op, Prog.bind_ret, Prog.pure_eq_ret]
  iintro H Hk
  iapply (send_rs2 m K c (t := 6) (by decide) (by decide) (d := ⟨k0_dev42 c, k0_dev42_lt c⟩) (k0_dev42_eq c) rfl rfl) $$ H
  iintro ⟨HS, _⟩
  iapply Wp_ret
  iapply Hk
  iexact HS

theorem part46 (v2) : iprop(St m K c 35 28 ∗ Rg m c 2 0)
    ⊢ iprop((∀ v, iprop(St m K c 35 31 ∗ Rg m c 2 3) -∗ Qw v)
      -∗ Wp c (On (k0_part46 (F := F)) v2) Qw) := by
  rw [k0_part46_eq_skeleton]
  unfold On k0_part46_skel
  simp only [Prog.lift, Prog.bind_op, Prog.bind_ret, Prog.pure_eq_ret]
  iintro H Hk
  iapply (recv_r m K c (l := 2) (t := 0) (by decide) (by decide) (by decide) rfl) $$ H
  iintro H
  iapply (recv_r m K c (l := 2) (t := 1) (by decide) (by decide) (by decide) rfl) $$ H
  iintro H
  iapply (recv_r m K c (l := 2) (t := 2) (by decide) (by decide) (by decide) rfl) $$ H
  iintro H
  iapply Wp_ret
  iapply Hk
  iexact H

theorem part47 (v2 w) : iprop(St m K c 35 31 ∗ Rg m c 2 3)
    ⊢ iprop((∀ v, iprop(St m K c 35 33 ∗ Rg m c 2 5) -∗ Qp v)
      -∗ Wp c (On (k0_part47 (F := F)) v2 w) Qp) := by
  rw [k0_part47_eq_skeleton]
  unfold On k0_part47_skel
  simp only [Prog.lift, Prog.bind_op, Prog.bind_ret, Prog.pure_eq_ret]
  iintro H Hk
  iapply (recv_r m K c (l := 2) (t := 3) (by decide) (by decide) (by decide) rfl) $$ H
  iintro H
  iapply (recv_r m K c (l := 2) (t := 4) (by decide) (by decide) (by decide) rfl) $$ H
  iintro H
  iapply Wp_ret
  iapply Hk
  iexact H

theorem part48 {Q : Vec F S1x1x64x256 .bf16 → sProp (MT nD τ sig Unit (Elt F) ℕ UU ℕ)} (v2 w w') : iprop(St m K c 35 33 ∗ Rg m c 2 5)
    ⊢ iprop((iprop(St m K c 35 35 ∗ Rg m c 2 7) -∗ Q (ld4 (RA m c) 2 0 1 (by decide) (by decide)))
      -∗ Wp c (On (k0_part48 (F := F)) v2 w w') Q) := by
  rw [k0_part48_eq_skeleton]
  unfold On k0_part48_skel
  simp only [Prog.lift, Prog.bind_op, Prog.bind_ret, Prog.pure_eq_ret]
  iintro H Hk
  iapply (recv_r m K c (l := 2) (t := 5) (by decide) (by decide) (by decide) rfl) $$ H
  iintro H
  iapply (recv_r m K c (l := 2) (t := 6) (by decide) (by decide) (by decide) rfl) $$ H
  iintro ⟨HS, Hr⟩
  iapply (load_r c (l := 2) (j := 0) (w := 1) (by decide) (by decide) (by omega)) $$ Hr
  iintro Hr
  iapply Wp_ret
  iapply Hk
  iframe

theorem part49 {g : S64x256.Idx → Elt F .f32} (v2) : iprop(Rg m c 2 7 ∗ outR c g)
    ⊢ iprop((∀ v, iprop(Rg m c 2 7 ∗ outR c (outV m c)) -∗ Q₀ v)
      -∗ Wp c (On (k0_part49 (F := F)) v2 (k0_pay20 (k0_pay17 (ld4 (XA m c) 1 0 1 (by decide) (by decide))) (k0_pay18 (wi m 2 (by decide) c)) (wo m 2 (by decide) c)) (ld4 (RA m c) 2 0 1 (by decide) (by decide))) Q₀) := by
  rw [k0_part49_eq_skeleton]
  unfold On k0_part49_skel
  simp only [Prog.lift, Prog.bind_op, Prog.bind_ret, Prog.pure_eq_ret]
  iintro ⟨Hr, Ho⟩ Hk
  iapply (load_r c (l := 2) (j := 1) (w := 1) (by decide) (by decide) (by omega)) $$ Hr
  iintro Hr
  iapply (load_r c (l := 2) (j := 2) (w := 1) (by decide) (by decide) (by omega)) $$ Hr
  iintro Hr
  iapply (load_r c (l := 2) (j := 3) (w := 1) (by decide) (by decide) (by omega)) $$ Hr
  iintro Hr
  iapply (load_r c (l := 2) (j := 4) (w := 1) (by decide) (by decide) (by omega)) $$ Hr
  iintro Hr
  iapply (load_r c (l := 2) (j := 5) (w := 1) (by decide) (by decide) (by omega)) $$ Hr
  iintro Hr
  iapply (load_r c (l := 2) (j := 6) (w := 1) (by decide) (by decide) (by omega)) $$ Hr
  iintro Hr
  iapply (load_out c) $$ Ho
  iintro %v Ho
  iapply (store_out c (f := g) (g := outV m c)) $$ Ho
  iintro Ho
  iapply Wp_ret
  iapply Hk
  iframe

end Cert.TpMlp

end
-- ==== Proof.PartsE.lean ====
/-
# The body, last part: the waits for what was sent
-/
module

public import proofs.«01_k».proof.Proof.Pieces
public import proofs.«01_k».proof.Proof.Loads

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 92 → ℕ) (c : Dev nD)

variable {Q₀ : PUnit → sProp (MT nD τ sig Unit (Elt F) ℕ UU ℕ)} {Qw : BitVec 32 → sProp (MT nD τ sig Unit (Elt F) ℕ UU ℕ)}
  {Qp : (Σ' (_ : BitVec 32), BitVec 32) → sProp (MT nD τ sig Unit (Elt F) ℕ UU ℕ)}

section
variable {β : Type} {Q : β → sProp (MT nD τ sig Unit (Elt F) ℕ UU ℕ)}

/-- A wait for a sent block of partial products. -/
theorem sent_p {l w : ℕ} (hw : w < 35) (hl : l < 3) {sem : DmaSem sig} {hsrc hdst k} (hs : sem = dS (8 + ord w)) :
    Sw m K c w ⊢ iprop((Sw m K c (w + 1) -∗ Wp c (k ⟨⟩) Q)
      -∗ Wp c (.op (.waitDma2 sem (rM l 0 hl (by decide)) (pM l 0 hl (by decide)) hsrc hdst) k) Q) :=
  step_sent m K c hw hs (src := rM l 0 hl (by decide)) (dm := pM l 0 hl (by decide)) rfl

/-- A wait for a sent block of activations. -/
theorem sent_x {l w : ℕ} (hw : w < 35) (hl : l < 2) {sem : DmaSem sig} {hsrc hdst k} (hs : sem = dS (8 + ord w)) :
    Sw m K c w ⊢ iprop((Sw m K c (w + 1) -∗ Wp c (k ⟨⟩) Q)
      -∗ Wp c (.op (.waitDma2 sem (xM l 0 hl (by decide)) (xM l 0 hl (by decide)) hsrc hdst) k) Q) :=
  step_sent m K c hw hs (src := xM l 0 hl (by decide)) (dm := xM l 0 hl (by decide)) rfl
end

theorem part50 (v2) : Sw m K c 0 ⊢ iprop((∀ v, Sw m K c 2 -∗ Q₀ v) -∗ Wp c (On (k0_part50 (F := F)) v2) Q₀) := by
  rw [k0_part50_eq_skeleton]
  unfold On k0_part50_skel
  simp only [Prog.lift, Prog.bind_op, Prog.bind_ret, Prog.pure_eq_ret]
  iintro H Hk
  iapply (sent_p m K c (l := 0) (w := 0) (by decide) (by decide) rfl) $$ H
  iintro H
  iapply (sent_p m K c (l := 0) (w := 1) (by decide) (by decide) rfl) $$ H
  iintro H
  iapply Wp_ret
  iapply Hk
  iexact H

theorem part51 (v2) : Sw m K c 2 ⊢ iprop((∀ v, Sw m K c 4 -∗ Q₀ v) -∗ Wp c (On (k0_part51 (F := F)) v2) Q₀) := by
  rw [k0_part51_eq_skeleton]
  unfold On k0_part51_skel
  simp only [Prog.lift, Prog.bind_op, Prog.bind_ret, Prog.pure_eq_ret]
  iintro H Hk
  iapply (sent_p m K c (l := 0) (w := 2) (by decide) (by decide) rfl) $$ H
  iintro H
  iapply (sent_p m K c (l := 0) (w := 3) (by decide) (by decide) rfl) $$ H
  iintro H
  iapply Wp_ret
  iapply Hk
  iexact H

theorem part52 (v2) : Sw m K c 4 ⊢ iprop((∀ v, Sw m K c 7 -∗ Qp v) -∗ Wp c (On (k0_part52 (F := F)) v2) Qp) := by
  rw [k0_part52_eq_skeleton]
  unfold On k0_part52_skel
  simp only [Prog.lift, Prog.bind_op, Prog.bind_ret, Prog.pure_eq_ret]
  iintro H Hk
  iapply (sent_p m K c (l := 0) (w := 4) (by decide) (by decide) rfl) $$ H
  iintro H
  iapply (sent_p m K c (l := 0) (w := 5) (by decide) (by decide) rfl) $$ H
  iintro H
  iapply (sent_p m K c (l := 0) (w := 6) (by decide) (by decide) rfl) $$ H
  iintro H
  iapply Wp_ret
  iapply Hk
  iexact H

theorem part53 (v2 w w') : Sw m K c 7 ⊢ iprop((∀ v, Sw m K c 9 -∗ Q₀ v) -∗ Wp c (On (k0_part53 (F := F)) v2 w w') Q₀) := by
  rw [k0_part53_eq_skeleton]
  unfold On k0_part53_skel
  simp only [Prog.lift, Prog.bind_op, Prog.bind_ret, Prog.pure_eq_ret]
  iintro H Hk
  iapply (sent_p m K c (l := 1) (w := 7) (by decide) (by decide) rfl) $$ H
  iintro H
  iapply (sent_p m K c (l := 1) (w := 8) (by decide) (by decide) rfl) $$ H
  iintro H
  iapply Wp_ret
  iapply Hk
  iexact H

theorem part54 (v2) : Sw m K c 9 ⊢ iprop((∀ v, Sw m K c 11 -∗ Q₀ v) -∗ Wp c (On (k0_part54 (F := F)) v2) Q₀) := by
  rw [k0_part54_eq_skeleton]
  unfold On k0_part54_skel
  simp only [Prog.lift, Prog.bind_op, Prog.bind_ret, Prog.pure_eq_ret]
  iintro H Hk
  iapply (sent_p m K c (l := 1) (w := 9) (by decide) (by decide) rfl) $$ H
  iintro H
  iapply (sent_p m K c (l := 1) (w := 10) (by decide) (by decide) rfl) $$ H
  iintro H
  iapply Wp_ret
  iapply Hk
  iexact H

theorem part55 (v2) : Sw m K c 11 ⊢ iprop((∀ v, Sw m K c 14 -∗ Qw v) -∗ Wp c (On (k0_part55 (F := F)) v2) Qw) := by
  rw [k0_part55_eq_skeleton]
  unfold On k0_part55_skel
  simp only [Prog.lift, Prog.bind_op, Prog.bind_ret, Prog.pure_eq_ret]
  iintro H Hk
  iapply (sent_p m K c (l := 1) (w := 11) (by decide) (by decide) rfl) $$ H
  iintro H
  iapply (sent_p m K c (l := 1) (w := 12) (by decide) (by decide) rfl) $$ H
  iintro H
  iapply (sent_p m K c (l := 1) (w := 13) (by decide) (by decide) rfl) $$ H
  iintro H
  iapply Wp_ret
  iapply Hk
  iexact H

theorem part56 (v2 w) : Sw m K c 14 ⊢ iprop((∀ v, Sw m K c 16 -∗ Q₀ v) -∗ Wp c (On (k0_part56 (F := F)) v2 w) Q₀) := by
  rw [k0_part56_eq_skeleton]
  unfold On k0_part56_skel
  simp only [Prog.lift, Prog.bind_op, Prog.bind_ret, Prog.pure_eq_ret]
  iintro H Hk
  iapply (sent_p m K c (l := 2) (w := 14) (by decide) (by decide) rfl) $$ H
  iintro H
  iapply (sent_p m K c (l := 2) (w := 15) (by decide) (by decide) rfl) $$ H
  iintro H
  iapply Wp_ret
  iapply Hk
  iexact H

theorem part57 (v2) : Sw m K c 16 ⊢ iprop((∀ v, Sw m K c 18 -∗ Q₀ v) -∗ Wp c (On (k0_part57 (F := F)) v2) Q₀) := by
  rw [k0_part57_eq_skeleton]
  unfold On k0_part57_skel
  simp only [Prog.lift, Prog.bind_op, Prog.bind_ret, Prog.pure_eq_ret]
  iintro H Hk
  iapply (sent_p m K c (l := 2) (w := 16) (by decide) (by decide) rfl) $$ H
  iintro H
  iapply (sent_p m K c (l := 2) (w := 17) (by decide) (by decide) rfl) $$ H
  iintro H
  iapply Wp_ret
  iapply Hk
  iexact H

theorem part58 (v2) : Sw m K c 18 ⊢ iprop((∀ v, Sw m K c 20 -∗ Q₀ v) -∗ Wp c (On (k0_part58 (F := F)) v2) Q₀) := by
  rw [k0_part58_eq_skeleton]
  unfold On k0_part58_skel
  simp only [Prog.lift, Prog.bind_op, Prog.bind_ret, Prog.pure_eq_ret]
  iintro H Hk
  iapply (sent_p m K c (l := 2) (w := 18) (by decide) (by decide) rfl) $$ H
  iintro H
  iapply (sent_p m K c (l := 2) (w := 19) (by decide) (by decide) rfl) $$ H
  iintro H
  iapply Wp_ret
  iapply Hk
  iexact H

theorem part59 (v2) : Sw m K c 20 ⊢ iprop((∀ v, Sw m K c 23 -∗ Q₀ v) -∗ Wp c (On (k0_part59 (F := F)) v2) Q₀) := by
  rw [k0_part59_eq_skeleton]
  unfold On k0_part59_skel
  simp only [Prog.lift, Prog.bind_op, Prog.bind_ret, Prog.pure_eq_ret]
  iintro H Hk
  iapply (sent_p m K c (l := 2) (w := 20) (by decide) (by decide) rfl) $$ H
  iintro H
  iapply (sent_x m K c (l := 0) (w := 21) (by decide) (by decide) rfl) $$ H
  iintro H
  iapply (sent_x m K c (l := 0) (w := 22) (by decide) (by decide) rfl) $$ H
  iintro H
  iapply Wp_ret
  iapply Hk
  iexact H

theorem part60 (v2) : Sw m K c 23 ⊢ iprop((∀ v, Sw m K c 25 -∗ Q₀ v) -∗ Wp c (On (k0_part60 (F := F)) v2) Q₀) := by
  rw [k0_part60_eq_skeleton]
  unfold On k0_part60_skel
  simp only [Prog.lift, Prog.bind_op, Prog.bind_ret, Prog.pure_eq_ret]
  iintro H Hk
  iapply (sent_x m K c (l := 0) (w := 23) (by decide) (by decide) rfl) $$ H
  iintro H
  iapply (sent_x m K c (l := 0) (w := 24) (by decide) (by decide) rfl) $$ H
  iintro H
  iapply Wp_ret
  iapply Hk
  iexact H

theorem part61 (v2) : Sw m K c 25 ⊢ iprop((∀ v, Sw m K c 27 -∗ Q₀ v) -∗ Wp c (On (k0_part61 (F := F)) v2) Q₀) := by
  rw [k0_part61_eq_skeleton]
  unfold On k0_part61_skel
  simp only [Prog.lift, Prog.bind_op, Prog.bind_ret, Prog.pure_eq_ret]
  iintro H Hk
  iapply (sent_x m K c (l := 0) (w := 25) (by decide) (by decide) rfl) $$ H
  iintro H
  iapply (sent_x m K c (l := 0) (w := 26) (by decide) (by decide) rfl) $$ H
  iintro H
  iapply Wp_ret
  iapply Hk
  iexact H

theorem part62 (v2) : Sw m K c 27 ⊢ iprop((∀ v, Sw m K c 30 -∗ Q₀ v) -∗ Wp c (On (k0_part62 (F := F)) v2) Q₀) := by
  rw [k0_part62_eq_skeleton]
  unfold On k0_part62_skel
  simp only [Prog.lift, Prog.bind_op, Prog.bind_ret, Prog.pure_eq_ret]
  iintro H Hk
  iapply (sent_x m K c (l := 0) (w := 27) (by decide) (by decide) rfl) $$ H
  iintro H
  iapply (sent_x m K c (l := 1) (w := 28) (by decide) (by decide) rfl) $$ H
  iintro H
  iapply (sent_x m K c (l := 1) (w := 29) (by decide) (by decide) rfl) $$ H
  iintro H
  iapply Wp_ret
  iapply Hk
  iexact H

theorem part63 (v2) : Sw m K c 30 ⊢ iprop((∀ v, Sw m K c 32 -∗ Q₀ v) -∗ Wp c (On (k0_part63 (F := F)) v2) Q₀) := by
  rw [k0_part63_eq_skeleton]
  unfold On k0_part63_skel
  simp only [Prog.lift, Prog.bind_op, Prog.bind_ret, Prog.pure_eq_ret]
  iintro H Hk
  iapply (sent_x m K c (l := 1) (w := 30) (by decide) (by decide) rfl) $$ H
  iintro H
  iapply (sent_x m K c (l := 1) (w := 31) (by decide) (by decide) rfl) $$ H
  iintro H
  iapply Wp_ret
  iapply Hk
  iexact H

theorem part64 (v2) : Sw m K c 32 ⊢ iprop((∀ v, Sw m K c 34 -∗ Q₀ v) -∗ Wp c (On (k0_part64 (F := F)) v2) Q₀) := by
  rw [k0_part64_eq_skeleton]
  unfold On k0_part64_skel
  simp only [Prog.lift, Prog.bind_op, Prog.bind_ret, Prog.pure_eq_ret]
  iintro H Hk
  iapply (sent_x m K c (l := 1) (w := 32) (by decide) (by decide) rfl) $$ H
  iintro H
  iapply (sent_x m K c (l := 1) (w := 33) (by decide) (by decide) rfl) $$ H
  iintro H
  iapply Wp_ret
  iapply Hk
  iexact H

end Cert.TpMlp

end
-- ==== Proof.Body.lean ====
/-
# The body on one device

The pieces in order.
-/
module

public import proofs.«01_k».proof.Proof.Pieces
public import proofs.«01_k».proof.Proof.Buffers
public import proofs.«01_k».proof.Proof.PartsA
public import proofs.«01_k».proof.Proof.PartsB
public import proofs.«01_k».proof.Proof.PartsC
public import proofs.«01_k».proof.Proof.PartsD
public import proofs.«01_k».proof.Proof.PartsE

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 92 → ℕ) (c : Dev nD)

/-- One piece, then the rest. -/
theorem Wp_bind {α β : Type} (p : Prog (TpuEff nD τ sig (Elt F) Λ₀ .tc) α) (k : α → Prog (TpuEff nD τ sig (Elt F) Λ₀ .tc) β)
    (Q : β → sProp (MT nD τ sig Unit (Elt F) ℕ UU ℕ)) : Wp c p (fun a => Wp c (k a) Q) ⊢ Wp c (p >>= k) Q := by
  unfold Wp; rw [wp_bind]

/-- What the body takes, `K` being the names of the cells' records. -/
def bodyIn (f : S512x256.Idx → Elt F .f32) (gi : S3x256x512.Idx → Elt F .f32) (go : S3x512x256.Idx → Elt F .f32) (fp : S3x8x64x256.Idx → Elt F .bf16)
    (fx : S2x8x64x256.Idx → Elt F .bf16) (fo : S64x256.Idx → Elt F .f32) : sProp 𝕄 :=
  iprop(Bs m K c 0 ∗ (LI 0 c ∗ ArgPt m 0 c ∗ inR c f) ∗ (LI 1 c ∗ ArgPt m 1 c ∗ wiR 0 c gi) ∗ (LI 2 c ∗ ArgPt m 2 c ∗ woR 0 c go)
      ∗ (LI 3 c ∗ ArgPt m 3 c ∗ wiR 1 c gi) ∗ (LI 4 c ∗ ArgPt m 4 c ∗ woR 1 c go) ∗ (LI 5 c ∗ ArgPt m 5 c ∗ wiR 2 c gi)
      ∗ (LI 6 c ∗ ArgPt m 6 c ∗ woR 2 c go)
      ∗ cred (tallyAt (barCell c) () 7) ∗ atPos ER (barCell c) 0 ∅ 0
      ∗ (bigSep (Finset.Ico 0 35) fun n => Tok n c) ∗ (bigSep (Finset.Ico 0 35) fun n => Due n c)
      ∗ pR fullShare 0 0 0 8 c fp
      ∗ (pR fullShare 0 1 0 1 c fp ∗ pR fullShare 0 1 1 3 c fp ∗ pR fullShare 0 1 3 5 c fp ∗ pR fullShare 0 1 5 7 c fp ∗ pR fullShare 0 1 7 8 c fp)
      ∗ (pR fullShare 0 2 0 1 c fp ∗ pR fullShare 0 2 1 3 c fp ∗ pR fullShare 0 2 3 5 c fp ∗ pR fullShare 0 2 5 7 c fp ∗ pR fullShare 0 2 7 8 c fp)
      ∗ (Rg m c 0 0 ∗ Rg m c 1 0 ∗ Rg m c 2 0) ∗ (Xg m c 0 1 ∗ Xg m c 1 1)
      ∗ (xR fullShare 0 0 0 1 c fx ∗ xR fullShare 0 1 0 1 c fx) ∗ outR c fo)

/-- What is left once the output is stored, `w` of the sent blocks given back. -/
def bodyMid (w : ℕ) : sProp 𝕄 :=
  iprop(Sw m K c w ∗ (bigSep (Finset.Ico 0 35) fun n => semVal (recvCell n c) 0) ∗ semVal (barCell c) 0
      ∗ (Kept m 0 c ∗ Kept m 1 c ∗ Kept m 2 c ∗ Kept m 3 c ∗ Kept m 4 c ∗ Kept m 5 c ∗ Kept m 6 c)
      ∗ inR c (xA m c) ∗ (wiR 0 c (WI m c) ∗ wiR 1 c (WI m c) ∗ wiR 2 c (WI m c)) ∗ (woR 0 c (WO m c) ∗ woR 1 c (WO m c) ∗ woR 2 c (WO m c))
      ∗ (pR fullShare c.val 0 0 1 c (PA m c) ∗ Pg m c 1 0 1 ∗ Pg m c 2 0 1) ∗ (Rg m c 0 7 ∗ Rg m c 1 7 ∗ Rg m c 2 7)
      ∗ (Xo m c 0 7 ∗ Xo m c 1 7 ∗ Xg m c 0 8 ∗ Xg m c 1 8) ∗ outR c (outV m c))

set_option maxHeartbeats 1000000 in
theorem body65 {f gi go fp fx fo} {Q : BitVec 32 → sProp (MT nD τ sig Unit (Elt F) ℕ UU ℕ)} :
    bodyIn m K c f gi go fp fx fo ⊢ iprop((∀ v, bodyMid m K c 25 -∗ Q v) -∗ Wp c (On (k0_part65 (F := F))) Q) := by
  rw [k0_part65_eq_skeleton]
  unfold On k0_part65_skel bodyIn
  iintro ⟨HB, I0, I1, I2, I3, I4, I5, I6, Hc, Ha, Ht, Hd, P0, ⟨P1a, P1b, P1c, P1d, P1e⟩, ⟨P2a, P2b, P2c, P2d, P2e⟩, ⟨R0, R1, R2⟩, ⟨G0, G1⟩, ⟨X0, X1⟩, Ho⟩ Hk
  iapply Wp_bind
  iapply (part1 m K c) $$ [HB I0 I1 I2 I3 I4 I5]
  · iframe
  iintro %v2 ⟨HB, T0, T1, T2, T3, T4, T5⟩
  iapply Wp_bind
  iapply (part2 m K c) $$ [HB I6]
  · iframe
  iintro %v52 ⟨HB, T6⟩
  iapply Wp_bind
  iapply (part3 m K c) $$ [HB T0 T1 T2 Hc Ha Ht Hd]
  · iframe
  iintro  ⟨HS, Hz, K0, Hin, K1, W0, K2, W0'⟩
  iapply Wp_bind
  iapply (part4 m c) $$ [W0 W0' P0]
  · iframe
  iintro %_ ⟨W0, W0', P0⟩
  ihave P0 := (Entails.of_eq ((pR_row c fullShare 0 c.val 0 (PA m c)).trans (pR_cut fullShare 1 c (PA m c) (z := c.val) (l := 0) (lo := 0) (hi := 8) (by decide) (by decide)))) $$ P0
  icases P0 with ⟨P0', P0⟩
  iapply Wp_bind
  iapply (part5 m K c) $$ [HS P0]
  · iframe
  iintro %_ ⟨HS, P0⟩
  iapply Wp_bind
  iapply (part6 m K c) $$ [HS P0]
  · iframe
  iintro %_ ⟨HS, P0⟩
  iapply Wp_bind
  iapply (part7 m K c) $$ [HS P0]
  · iframe
  iintro %_ ⟨HS, P0⟩
  iapply Wp_bind
  iapply (part8 m K c) $$ [HS P0 P0']
  · iframe
  iintro %_ ⟨HS, P0'⟩
  iapply Wp_bind
  iapply (part9 m K c) $$ [HS R0]
  · iframe
  iintro %_ ⟨HS, R0⟩
  iapply Wp_bind
  iapply (part10 m K c) $$ [HS R0]
  · iframe
  iintro %_ ⟨HS, R0⟩
  iapply Wp_bind
  iapply (part11 m K c) $$ [HS R0]
  · iframe
  iintro %_ ⟨HS, R0⟩
  iapply Wp_bind
  iapply (part12 m K c) $$ [HS R0]
  · iframe
  iintro  ⟨HS, R0⟩
  iapply Wp_bind
  iapply (part13 m K c) $$ [HS R0 X0]
  · isplitl [HS]; · iexact HS
    isplitl [R0] <;> iassumption
  iintro %_ ⟨HS, R0, X0⟩
  iapply Wp_bind
  iapply (part14 m K c) $$ [HS X0]
  · iframe
  iintro %_ ⟨HS, X0⟩
  iapply Wp_bind
  iapply (part15 m K c) $$ [HS X0]
  · iframe
  iintro %_ ⟨HS, X0⟩
  iapply Wp_bind
  iapply (part16 m K c) $$ [HS X0]
  · iframe
  iintro %_ ⟨HS, X0⟩
  iapply Wp_bind
  iapply (part17 m K c) $$ [HS X0 T3 T4 P1a]
  · iframe
  iintro  ⟨HS, X0, K3, W1, K4, W1', P1a⟩
  iapply Wp_bind
  iapply (part18 m K c) $$ [HS P1a G0]
  · iframe
  iintro %_ ⟨HS, P1a, G0⟩
  iapply Wp_bind
  iapply (part19 m K c) $$ [HS G0 P1b]
  · iframe
  iintro %_ ⟨HS, G0, P1b⟩
  iapply Wp_bind
  iapply (part20 m K c) $$ [HS P1b]
  · iframe
  iintro %_ HS
  iapply Wp_bind
  iapply (part21 m K c) $$ [HS G0 P1c]
  · iframe
  iintro  ⟨HS, G0, P1c⟩
  iapply Wp_bind
  iapply (part22 m K c) $$ [HS P1c]
  · iframe
  iintro %_ ⟨HS, P1c⟩
  iapply Wp_bind
  iapply (part23 m K c) $$ [HS P1c G0]
  · iframe
  iintro %_ ⟨HS, G0⟩
  iapply Wp_bind
  iapply (part24 m K c) $$ [HS G0 P1d]
  · iframe
  iintro %_ ⟨HS, G0, P1d⟩
  iapply Wp_bind
  iapply (part25 m K c) $$ [HS P1d]
  · iframe
  iintro %_ HS
  iapply Wp_bind
  iapply (part26 m K c) $$ [HS G0 P1e]
  · iframe
  iintro %_ ⟨HS, G0, P1e⟩
  iapply Wp_bind
  iapply (part27 m K c) $$ [HS P1e R1]
  · iframe
  iintro %_ ⟨HS, R1⟩
  iapply Wp_bind
  iapply (part28 m K c) $$ [HS R1]
  · iframe
  iintro %_ ⟨HS, R1⟩
  iapply Wp_bind
  iapply (part29 m K c) $$ [HS R1]
  · iframe
  iintro %_ ⟨HS, R1⟩
  iapply Wp_bind
  iapply (part30 m K c) $$ [HS R1]
  · iframe
  iintro  ⟨HS, R1⟩
  iapply Wp_bind
  iapply (part31 m c) $$ [R1 X1]
  · iframe
  iintro %_ ⟨R1, X1⟩
  iapply Wp_bind
  iapply (part32 m K c) $$ [HS X1]
  · iframe
  iintro %_ ⟨HS, X1⟩
  iapply Wp_bind
  iapply (part33 m K c) $$ [HS X1]
  · iframe
  iintro %_ ⟨HS, X1⟩
  iapply Wp_bind
  iapply (part34 m K c) $$ [HS X1]
  · iframe
  iintro %_ ⟨HS, X1⟩
  iapply Wp_bind
  iapply (part35 m K c) $$ [HS X1 T5 T6]
  · iframe
  iintro  ⟨HS, X1, K5, W2, K6, W2'⟩
  iapply Wp_bind
  iapply (part36 m K c) $$ [HS W2' P2a G1]
  · iframe
  iintro %_ %_ ⟨HS, W2', P2a, G1⟩
  iapply Wp_bind
  iapply (part37 m K c) $$ [HS G1 P2b]
  · iframe
  iintro %_ ⟨HS, G1, P2b⟩
  iapply Wp_bind
  iapply (part38 m K c) $$ [HS P2b]
  · iframe
  iintro %_ HS
  iapply Wp_bind
  iapply (part39 m K c) $$ [HS G1]
  · iframe
  iintro %_ ⟨HS, G1⟩
  iapply Wp_bind
  iapply (part40 m K c) $$ [HS G1 P2c]
  · iframe
  iintro %_ ⟨HS, G1, P2c⟩
  iapply Wp_bind
  iapply (part41 m K c) $$ [HS P2c]
  · iframe
  iintro %_ HS
  iapply Wp_bind
  iapply (part42 m K c) $$ [HS G1 P2d]
  · iframe
  iintro %_ ⟨HS, G1, P2d⟩
  iapply Wp_bind
  iapply (part43 m K c) $$ [HS P2d]
  · iframe
  iintro %_ ⟨HS, P2d⟩
  iapply Wp_bind
  iapply (part44 m K c) $$ [HS P2d G1 P2e]
  · iframe
  iintro %_ ⟨HS, G1, P2e⟩
  iapply Wp_bind
  iapply (part45 m K c) $$ [HS P2e]
  · iframe
  iintro %_ HS
  iapply Wp_bind
  iapply (part46 m K c) $$ [HS R2]
  · iframe
  iintro %_ ⟨HS, R2⟩
  iapply Wp_bind
  iapply (part47 m K c) $$ [HS R2]
  · iframe
  iintro %_ ⟨HS, R2⟩
  iapply Wp_bind
  iapply (part48 m K c) $$ [HS R2]
  · iframe
  iintro  ⟨HS, R2⟩
  iapply Wp_bind
  iapply (part49 m c) $$ [R2 Ho]
  · iframe
  iintro %_ ⟨R2, Ho⟩
  ihave HS := (st_sw m K c) $$ HS
  icases HS with ⟨HS, Hv⟩
  iapply Wp_bind
  iapply (part50 m K c) $$ HS
  iintro %_ HS
  iapply Wp_bind
  iapply (part51 m K c) $$ HS
  iintro %_ HS
  iapply Wp_bind
  iapply (part52 m K c) $$ HS
  iintro %_ HS
  iapply Wp_bind
  iapply (part53 m K c) $$ HS
  iintro %_ HS
  iapply Wp_bind
  iapply (part54 m K c) $$ HS
  iintro %_ HS
  iapply Wp_bind
  iapply (part55 m K c) $$ HS
  iintro %_ HS
  iapply Wp_bind
  iapply (part56 m K c) $$ HS
  iintro %_ HS
  iapply Wp_bind
  iapply (part57 m K c) $$ HS
  iintro %_ HS
  iapply Wp_bind
  iapply (part58 m K c) $$ HS
  iintro %_ HS
  iapply Wp_bind
  iapply (part59 m K c) $$ HS
  iintro %_ HS
  iapply Wp_bind
  iapply (part60 m K c) $$ HS
  iintro %_ HS
  rw [Prog.pure_eq_ret]
  iapply Wp_ret
  iapply Hk
  unfold bodyMid
  iframe

/-- The body from start to end. -/
theorem body_run {f gi go fp fx fo} {Q : PUnit → sProp (MT nD τ sig Unit (Elt F) ℕ UU ℕ)} :
    bodyIn m K c f gi go fp fx fo ⊢ iprop((bodyMid m K c 35 -∗ Q ⟨⟩) -∗ Wp c (On (cc0_body (F := F))) Q) := by
  rw [cc0_body_eq_skeleton]
  unfold On cc0_body_skel
  iintro H Hk
  iapply Wp_bind
  iapply (body65 m K c) $$ H
  iintro %v2 H
  unfold bodyMid
  icases H with ⟨HS, Hrest⟩
  iapply Wp_bind
  iapply (part61 m K c) $$ HS
  iintro %_ HS
  iapply Wp_bind
  iapply (part62 m K c) $$ HS
  iintro %_ HS
  iapply Wp_bind
  iapply (part63 m K c) $$ HS
  iintro %_ HS
  iapply Wp_bind
  iapply (part64 m K c) $$ HS
  iintro %_ HS
  iapply Wp_bind
  simp only [Prog.lift, Prog.pure_eq_ret]
  iapply (sent_x m K c (l := 1) (w := 34) (by decide) (by decide) rfl) $$ HS
  iintro HS
  iapply Wp_ret
  iapply Wp_ret
  iapply Hk
  isplitl [HS]; · iexact HS
  iexact Hrest

end Cert.TpMlp

end
-- ==== Proof.Ghost.lean ====
/-
# The cells at launch

Every device's cells are opened, each with its positions and the tokens of its duties; the tokens are then handed to
the devices that pay those duties, and the credit for what the others owe a device is collected.
-/
module

public import proofs.«01_k».proof.Proof.Buffers
public import proofs.«01_k».proof.Proof.Gen.KernelIdeal.Launch

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The cells by number -/

omit [FloatOps F] in
theorem bigSep_shift (a k : ℕ) (Φ : ℕ → sProp (MT nD τ sig Unit (Elt F) ℕ UU ℕ)) :
    bigSep (Finset.Ico a (a + k)) Φ = bigSep (Finset.Ico 0 k) fun i => Φ (a + i) := by
  rw [← bigSep_image_of_injOn (f := fun i => a + i) (fun x _ y _ h => by simpa using h) Φ]
  congr 1; ext n
  simp only [Finset.mem_image, Finset.mem_Ico]
  constructor
  · intro hn; exact ⟨n - a, by omega, by omega⟩
  · rintro ⟨k, hk, rfl⟩; omega

omit [FloatOps F] in
theorem bigSep_fin (n : ℕ) [NeZero n] (Φ : Fin n → sProp (MT nD τ sig Unit (Elt F) ℕ UU ℕ)) :
    bigSep Finset.univ Φ = bigSep (Finset.Ico 0 n) fun v => Φ (Fin.ofNat n v) := by
  rw [← bigSep_image_of_injOn (f := Fin.ofNat n) (s := Finset.Ico 0 n) (fun x hx y hy h => by
    have h1 := (Finset.mem_Ico.mp (Finset.mem_coe.mp hx)).2
    have h2 := (Finset.mem_Ico.mp (Finset.mem_coe.mp hy)).2
    have h3 : x % n = y % n := congrArg Fin.val h
    rwa [Nat.mod_eq_of_lt h1, Nat.mod_eq_of_lt h2] at h3) Φ]
  congr 1; ext i
  simp only [Finset.mem_image, Finset.mem_Ico, Finset.mem_univ, true_iff]
  exact ⟨i.val, ⟨Nat.zero_le _, i.isLt⟩, Fin.ext (Nat.mod_eq_of_lt i.isLt)⟩

/-- A family over the DMA cells of a device: local copies, send cells, receive cells, and those not in use. -/
def Parts (Φ : ℕ → sProp (MT nD τ sig Unit (Elt F) ℕ UU ℕ)) : sProp 𝕄 :=
  iprop((bigSep (Finset.Ico 0 7) fun i => Φ (1 + i)) ∗ (bigSep (Finset.Ico 0 35) fun n => Φ (8 + n))
    ∗ (bigSep (Finset.Ico 0 7) fun i => Φ (43 + i)) ∗ (bigSep (Finset.Ico 0 35) fun n => Φ (50 + n))
    ∗ bigSep (Finset.Ico 0 7) fun i => Φ (85 + i))

omit [FloatOps F] in
theorem parts_eq (Φ : ℕ → sProp (MT nD τ sig Unit (Elt F) ℕ UU ℕ)) : bigSep (Finset.Ico 1 92) Φ = Parts Φ := by
  unfold Parts
  rw [← bigSep_shift 1 7, ← bigSep_shift 8 35, ← bigSep_shift 43 7, ← bigSep_shift 50 35, ← bigSep_shift 85 7,
    bigSep_Ico_cut (b := 8) (d := 92) (by decide) (by decide), bigSep_Ico_cut (b := 43) (d := 92) (by decide) (by decide),
    bigSep_Ico_cut (b := 50) (d := 92) (by decide) (by decide), bigSep_Ico_cut (b := 85) (d := 92) (by decide) (by decide)]

omit [FloatOps F] in
/-- A family over all cells of a device. -/
theorem cells_eq (T : GSem nD τ sig → sProp (MT nD τ sig Unit (Elt F) ℕ UU ℕ)) :
    (bigSep Finset.univ fun i : Fin 92 => T (kc (c, i))) = iprop(T (barCell c) ∗ Parts fun v => T (dCell v c)) := by
  rw [bigSep_fin 92, bigSep_Ico_succ_bot (by decide), ← parts_eq]
  have e : bigSep (Finset.Ico (0 + 1) 92) (fun v => T (kc (c, Fin.ofNat 92 v))) = bigSep (Finset.Ico 1 92) fun v => T (dCell v c) :=
    bigSep_congr fun v hv => by
      have h := Finset.mem_Ico.mp hv
      rw [kc_d c (by omega) (by omega)]
  rw [e]; rfl

/-- The kernel's DMA semaphores. -/
def osem (i : Fin 91) : SemLoc sig := .dma (⟨i.val + 1, by omega⟩ : Fin 92)

omit [FloatOps F] in
theorem osem_eq (T : GSem nD τ sig → sProp (MT nD τ sig Unit (Elt F) ℕ UU ℕ)) :
    (bigSep Finset.univ fun i : Fin 91 => T ((c : Thread nD τ), osem i)) = Parts fun v => T (dCell v c) := by
  rw [bigSep_fin 91, ← parts_eq, show Finset.Ico 1 92 = Finset.Ico 1 (1 + 91) from rfl, bigSep_shift]
  refine bigSep_congr fun v hv => ?_
  have h := (Finset.mem_Ico.mp hv).2
  have e : osem (Fin.ofNat 91 v) = .dma (dS (1 + v)) := congrArg SemLoc.dma (Fin.ext (by
    show v % 91 + 1 = (1 + v) % 92
    omega))
  rw [e]

omit [FloatOps F] in
theorem ownSems_eq : (Pipeline.ownSems0 (Ix := Unit) (Name := ℕ) (U := UU) (Lvl := ℕ) (Val := Elt F) (τ := τ) osem c : sProp 𝕄)
    = Parts fun v => semVal (dCell v c) 0 := osem_eq c fun g => semVal g 0
omit [FloatOps F] in
theorem unscopedSems_eq : (unscopedSems0 (Ix := Unit) (Name := ℕ) (U := UU) (Lvl := ℕ) (Val := Elt F) (τ := τ) c : sProp 𝕄) = semVal (barCell c) 0 := by
  unfold unscopedSems0
  rw [bigSep_eq_bigSepL_of_eq [SemLoc.reg barS] (by decide) (by decide)]; rfl

theorem ownSemFacts : Pipeline.OwnSemFacts cfg0.spec osem where
  isScoped := by decide
  inj i j h := by
    have h1 : (⟨i.val + 1, by omega⟩ : Fin 92) = ⟨j.val + 1, by omega⟩ := SemLoc.dma.inj h
    exact Fin.ext (by have := congrArg Fin.val h1; simpa using this)
  disj k w s h := by
    have h1 : (⟨k.val + 1, by omega⟩ : Fin 92) = (cfg0.spec w).sem s := SemLoc.dma.inj h
    have h2 : ((cfg0.spec w).sem s).val = 0 := by fin_cases w; fin_cases s; rfl
    have := congrArg Fin.val h1
    rw [h2] at this
    exact absurd this (Nat.succ_ne_zero _)

/-! ## Opening the cells -/

theorem ksem_inj : Function.Injective ksem := fun i j h => by
  unfold ksem at h
  split at h <;> split at h
  · exact Fin.ext (by omega)
  · cases h
  · cases h
  · exact SemLoc.dma.inj h
theorem kc_inj : Function.Injective kc := fun a b h =>
  Prod.ext (Fin.ext (congrArg (fun g : GSem nD τ sig => g.1.1.val) h)) (ksem_inj (congrArg Prod.snd h))

/-- All cells. -/
def allCells : Finset (GSem nD τ sig) := Finset.univ.map ⟨kc, kc_inj⟩
/-- Seven tokens for each cell. -/
def allToks : Finset (GSem nD τ sig × ℕ × ℕ) :=
  Finset.univ.map ⟨fun x : (Dev nD × Fin 92) × Fin 7 => (kc x.1, 0, x.2.val), fun x y h =>
    Prod.ext (kc_inj (congrArg Prod.fst h)) (Fin.ext (congrArg (fun z : GSem nD τ sig × ℕ × ℕ => z.2.2) h))⟩

/-- The launch resource: the staging's and the cells'. -/
def u₀ : UU := (initOf (Pipeline.cells cfgs cellOf_inj) (Pipeline.launchToks cfgs cellOf_inj), initOf allCells allToks)

/-- The tokens of one cell. -/
def CellToks (g : GSem nD τ sig) : sProp 𝕄 := bigSep Finset.univ fun d : Fin 7 => dutyTok ER g 0 d.val

/-- What device `c`'s cells start with. -/
def G : sProp 𝕄 :=
  iprop((bigSep Finset.univ fun i : Fin 92 => roundState ER (Rd m) (kc (c, i)) 0)
    ∗ ((bigSep Finset.univ fun i : Fin 92 => atPos ER (kc (c, i)) 0 ∅ 0) ∗ bigSep Finset.univ fun i : Fin 92 => reached ER (kc (c, i)) 0)
    ∗ bigSep Finset.univ fun i : Fin 92 => CellToks (kc (c, i)))

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Fin 92 => Φ (kc (c, i)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun i : Fin 92 => CellToks (kc (c, i)) := by
    unfold allToks CellToks; rw [bigSep_map, bigSep_univ_prod, bigSep_univ_prod]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

/-- A device's semaphores at zero become its cells' records. -/
theorem open_cells :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 92 => iprop(∃ κ : ℕ, cellInv ER (Rd m) κ (kc (c, i))))
          ∗ ((bigSep Finset.univ fun i : Fin 92 => atPos ER (kc (c, i)) 0 ∅ 0) ∗ bigSep Finset.univ fun i : Fin 92 => reached ER (kc (c, i)) 0)
          ∗ bigSep Finset.univ fun i : Fin 92 => CellToks (kc (c, i))) := by
  unfold G
  rw [ownSems_eq, unscopedSems_eq]
  iintro ⟨Ho, Hu, Hst, Hat, Htok⟩
  imod (show iprop((bigSep Finset.univ fun i : Fin 92 => semVal (kc (c, i)) 0) ∗ bigSep Finset.univ fun i : Fin 92 => roundState ER (Rd m) (kc (c, i)) 0)
      ⊢ (|={Set.univ}=> bigSep Finset.univ fun i : Fin 92 => iprop(∃ κ : ℕ, cellInv ER (Rd m) κ (kc (c, i))) : sProp 𝕄) from by
        rw [← bigSep_sep']
        exact (bigSep_mono fun i _ => (Rounds.body_intro ER (Rd m) (kc (c, i))).trans inv_alloc).trans (bigSep_fupd _ _)) $$ [Ho Hu Hst] with Hinv
  · isplitr [Hst]
    · iapply (Entails.of_eq (cells_eq c fun g => semVal g 0).symm)
      isplitl [Hu] <;> iassumption
    iexact Hst
  imodintro
  isplitl [Hinv]; · iexact Hinv
  isplitl [Hat] <;> iassumption

/-! ## Handing the tokens round -/

/-- The device `a` places on, as a bijection. -/
def shE (a : ℕ) (h : a ≤ 8) : Dev nD ≃ Dev nD where
  toFun c := sh c a
  invFun c := sh c (8 - a)
  left_inv c := by show sh (sh c a) (8 - a) = c; rw [sh_sh, Nat.add_sub_cancel' h, sh_eight]
  right_inv c := by show sh (sh c (8 - a)) a = c; rw [sh_sh, Nat.sub_add_cancel h, sh_eight]

omit [FloatOps F] in
/-- A family over devices and numbers, each member moved to the device it is `a k` places from. -/
theorem bigSep_around (s : Finset ℕ) (a : ℕ → ℕ) (ha : ∀ k ∈ s, a k ≤ 8) (Φ : ℕ → Dev nD → sProp (MT nD τ sig Unit (Elt F) ℕ UU ℕ)) :
    (bigSep Finset.univ fun c : Dev nD => bigSep s fun k => Φ k c) = bigSep Finset.univ fun c : Dev nD => bigSep s fun k => Φ k (sh c (a k)) := by
  induction s using Finset.induction_on with
  | empty => simp only [bigSep_empty]
  | insert k s hk ih =>
    simp only [bigSep_insert hk]
    change bigSep Finset.univ (fun c : Dev nD => iprop(Φ k c ∗ bigSep s fun k => Φ k c))
      = bigSep Finset.univ fun c : Dev nD => iprop(Φ k (sh c (a k)) ∗ bigSep s fun k => Φ k (sh c (a k)))
    rw [bigSep_sep', bigSep_sep', ih fun k' h => ha k' (Finset.mem_insert_of_mem h), bigSep_univ_equiv (shE (a k) (ha k (Finset.mem_insert_self _ _))) (Φ k)]
    rfl

/-- The tokens of the duties that device `c` pays. -/
def PayToks : sProp 𝕄 :=
  iprop((bigSep (Finset.Ico 0 7) fun k => dutyTok ER (barCell (sh c (k + 1))) 0 k)
    ∗ (bigSep (Finset.Ico 0 7) fun i => dutyTok ER (loadCell i c) 0 0)
    ∗ (bigSep (Finset.Ico 0 35) fun n => dutyTok ER (sendCell n c) 0 0)
    ∗ bigSep (Finset.Ico 0 35) fun n => dutyTok ER (recvCell n (dst n c)) 0 0)

omit [FloatOps F] in
theorem own_toks : (bigSep Finset.univ fun i : Fin 92 => (CellToks (kc (c, i)) : sProp 𝕄))
    ⊢ iprop((bigSep (Finset.Ico 0 7) fun k => dutyTok ER (barCell c) 0 k)
        ∗ (bigSep (Finset.Ico 0 7) fun i => dutyTok ER (loadCell i c) 0 0)
        ∗ (bigSep (Finset.Ico 0 35) fun n => dutyTok ER (sendCell n c) 0 0)
        ∗ bigSep (Finset.Ico 0 35) fun n => dutyTok ER (recvCell n c) 0 0) := by
  have one (g : GSem nD τ sig) : (CellToks g : sProp 𝕄) ⊢ dutyTok ER g 0 0 := by
    unfold CellToks
    exact bigSep_elim (i := (0 : Fin 7)) (Finset.mem_univ _)
  have bar : (CellToks (barCell c) : sProp 𝕄) ⊢ bigSep (Finset.Ico 0 7) fun k => dutyTok ER (barCell c) 0 k := by
    unfold CellToks
    rw [bigSep_fin 7]
    exact Entails.of_eq (bigSep_congr fun k hk => by
      rw [show (Fin.ofNat 7 k).val = k from Nat.mod_eq_of_lt (Finset.mem_Ico.mp hk).2])
  rw [cells_eq]
  unfold Parts
  iintro ⟨Hb, Hl, Hs, -, Hr, -⟩
  isplitl [Hb]; · iapply bar; iexact Hb
  isplitl [Hl]; · iapply (show (bigSep (Finset.Ico 0 7) fun i => (CellToks (loadCell i c) : sProp 𝕄)) ⊢ _ from bigSep_mono fun i _ => one _); iexact Hl
  isplitl [Hs]; · iapply (show (bigSep (Finset.Ico 0 35) fun n => (CellToks (sendCell n c) : sProp 𝕄)) ⊢ _ from bigSep_mono fun i _ => one _); iexact Hs
  iapply (show (bigSep (Finset.Ico 0 35) fun n => (CellToks (recvCell n c) : sProp 𝕄)) ⊢ _ from bigSep_mono fun i _ => one _); iexact Hr

omit [FloatOps F] in
theorem toks_around : (bigSep Finset.univ fun c : Dev nD => bigSep Finset.univ fun i : Fin 92 => (CellToks (kc (c, i)) : sProp 𝕄))
    ⊢ bigSep Finset.univ fun c : Dev nD => PayToks c := by
  refine (bigSep_mono fun c _ => own_toks c).trans ?_
  unfold PayToks
  rw [bigSep_sep', bigSep_sep', bigSep_sep', bigSep_sep', bigSep_sep', bigSep_sep',
    bigSep_around (Finset.Ico 0 7) (fun k => k + 1) (fun k hk => by have := (Finset.mem_Ico.mp hk).2; omega) (fun k c => dutyTok ER (barCell c) 0 k),
    bigSep_around (Finset.Ico 0 35) off (fun n _ => by have := off_le n; omega) (fun n c => dutyTok ER (recvCell n c) 0 0)]
  exact Entails.refl _

/-- What device `c` starts with: everyone's records, its own positions, and the tokens of the duties it pays. -/
def G' : sProp 𝕄 :=
  iprop(∃ K : Dev nD × Fin 92 → ℕ, ((bigSep Finset.univ fun ci : Dev nD × Fin 92 => cellInv ER (Rd m) (K ci) (kc ci))
      ∗ (bigSep Finset.univ fun ci : Dev nD × Fin 92 => reached ER (kc ci) 0))
    ∗ (bigSep Finset.univ fun i : Fin 92 => atPos ER (kc (c, i)) 0 ∅ 0) ∗ PayToks c)

omit [FloatOps F] in
/-- A persistent fact goes to every member of a family. -/
theorem bigSep_give {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : Fin 92 => iprop(∃ κ : ℕ, cellInv ER (Rd m) κ (kc (c, i))))
          ∗ ((bigSep Finset.univ fun i : Fin 92 => atPos ER (kc (c, i)) 0 ∅ 0) ∗ bigSep Finset.univ fun i : Fin 92 => reached ER (kc (c, i)) 0)
          ∗ bigSep Finset.univ fun i : Fin 92 => CellToks (kc (c, i))) : sProp 𝕄)
      ⊢ bigSep Finset.univ (G' m) := by
  rw [bigSep_sep', bigSep_sep', bigSep_sep', ← bigSep_univ_prod (fun ci : Dev nD × Fin 92 => iprop(∃ κ : ℕ, cellInv ER (Rd m) κ (kc ci))),
    ← bigSep_univ_prod (fun ci : Dev nD × Fin 92 => (reached ER (kc ci) 0 : sProp 𝕄))]
  iintro ⟨HI, ⟨Hat, #HR⟩, Htok⟩
  ihave HK := (BI.bigSep_exists_pi Finset.univ (fun (ci : Dev nD × Fin 92) (κ : ℕ) => (cellInv ER (Rd m) κ (kc ci) : sProp 𝕄))) $$ HI
  icases HK with ⟨%K, #HI⟩
  ihave Htk := (toks_around (F := F)) $$ Htok
  iapply (bigSep_give (R := iprop((bigSep Finset.univ fun ci : Dev nD × Fin 92 => cellInv ER (Rd m) (K ci) (kc ci))
      ∗ (bigSep Finset.univ fun ci : Dev nD × Fin 92 => reached ER (kc ci) 0)))
    (Φ := fun c : Dev nD => iprop((bigSep Finset.univ fun i : Fin 92 => atPos ER (kc (c, i)) 0 ∅ 0) ∗ PayToks c)) fun c _ => by
      change _ ⊢ _
      unfold G'
      iintro ⟨#H, H'⟩
      iexists K
      isplitr; · iexact H
      iexact H')
  isplitr
  · isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-! ## The credit -/

theorem dS_inj {v w : ℕ} (hv : v < 92) (hw : w < 92) (h : dS v = dS w) : v = w := by
  rw [← dS_val hv, ← dS_val hw, h]

/-- One unit of each device's promise goes to each cell. -/
theorem sum_around (C : Dev nD → GSem nD τ sig) (hC : Function.Injective C) (a : ℕ) (ha : a ≤ 8) (x : ℕ) :
    ∑ d : Dev nD, (tallyAt (C (sh d a)) () x : CellTallies nD τ sig Unit) (C c) () = x := by
  rw [Fintype.sum_equiv (shE a ha) (fun d => (tallyAt (C (sh d a)) () x : CellTallies nD τ sig Unit) (C c) ())
      (fun d => (tallyAt (C d) () x : CellTallies nD τ sig Unit) (C c) ()) fun d => rfl, Finset.sum_eq_single c]
  · rw [tallyAt_apply, if_pos ⟨rfl, rfl⟩]
  · intro d _ hd; rw [tallyAt_apply, if_neg fun h => hd (hC h.1).symm]
  · intro h; exact absurd (Finset.mem_univ _) h

theorem barCell_inj : Function.Injective barCell := fun a b h => Fin.ext (congrArg (fun g : GSem nD τ sig => g.1.1.val) h)
theorem dCell_inj (v : ℕ) : Function.Injective (dCell v) := fun a b h => Fin.ext (congrArg (fun g : GSem nD τ sig => g.1.1.val) h)

theorem owed_bar : ∑ d : Dev nD, O₀ d (barCell c) () = 7 := by
  have h0 (d : Dev nD) : O₀ d (barCell c) () = ∑ k ∈ Finset.Ico 0 7, (tallyAt (barCell (sh d (k + 1))) () 1 : CellTallies nD τ sig Unit) (barCell c) () := by
    unfold O₀ Orem Obar
    rw [Pi.add_apply, Finsupp.add_apply, Finset.sum_apply, Finsupp.finset_sum_apply, Finset.sum_apply, Finsupp.finset_sum_apply,
      Finset.sum_eq_zero fun n _ => ?_, Nat.zero_add]
    rw [tallyAt_ne_cell (fun h => by cases congrArg Prod.snd h)]; rfl
  rw [Finset.sum_congr rfl fun d _ => h0 d, Finset.sum_comm, Finset.sum_congr rfl fun k hk =>
    sum_around c barCell barCell_inj (k + 1) (by have := (Finset.mem_Ico.mp hk).2; omega) 1]
  rfl

theorem owed_recv {n : ℕ} (hn : n < 35) : ∑ d : Dev nD, O₀ d (recvCell n c) () = N := by
  have h0 (d : Dev nD) : O₀ d (recvCell n c) () = (tallyAt (recvCell n (sh d (off n))) () N : CellTallies nD τ sig Unit) (recvCell n c) () := by
    unfold O₀ Orem Obar
    rw [Pi.add_apply, Finsupp.add_apply, Finset.sum_apply, Finsupp.finset_sum_apply, Finset.sum_apply, Finsupp.finset_sum_apply,
      Finset.sum_eq_zero (s := Finset.Ico 0 7) fun k _ => ?_, Nat.add_zero,
      Finset.sum_eq_single_of_mem n (Finset.mem_Ico.mpr ⟨Nat.zero_le _, hn⟩) fun n' hn' hne => ?_]
    · rfl
    · have h' := (Finset.mem_Ico.mp hn').2
      rw [tallyAt_ne_cell (fun h => hne (by
        have := dS_inj (by omega) (by omega) (SemLoc.dma.inj (congrArg Prod.snd h)); omega))]; rfl
    · rw [tallyAt_ne_cell (fun h => by cases congrArg Prod.snd h)]; rfl
  rw [Finset.sum_congr rfl fun d _ => h0 d]
  exact sum_around c (recvCell n) (dCell_inj _) (off n) (by have := off_le n; omega) N

theorem launch_at {g : GSem nD τ sig} {x : ℕ} (h : ∑ d : Dev nD, O₀ d g () = x) :
    tallyOn g (launchCredit (Pipeline.owing O₀) 0 g) = (tallyAt g () x : CellTallies nD τ sig Unit) := by
  unfold tallyAt; refine congrArg _ (Finsupp.ext fun u => ?_); cases u
  rw [Pipeline.launchCredit_owing, Finsupp.single_eq_same, h]

omit [FloatOps F] in
theorem creds : (Pipeline.launchCred O₀ c : sProp 𝕄)
    ⊢ iprop(cred (tallyAt (barCell c) () 7) ∗ bigSep (Finset.Ico 0 35) fun n => cred (tallyAt (recvCell n c) () N)) := by
  unfold Pipeline.launchCred
  rw [bigSep_univ_at _ (SemLoc.reg barS), launch_at (owed_bar c)]
  refine sep_mono_right ?_
  refine (bigSep_subset (t := (Finset.Ico 0 35).image fun n => SemLoc.dma (dS (50 + n))) fun s hs => ?_).trans ?_
  · obtain ⟨n, _, rfl⟩ := Finset.mem_image.mp hs
    exact Finset.mem_erase.mpr ⟨(fun h => by cases h), Finset.mem_univ _⟩
  · rw [bigSep_image_of_injOn fun a ha b hb h => by
      have h1 := (Finset.mem_Ico.mp (Finset.mem_coe.mp ha)).2
      have h2 := (Finset.mem_Ico.mp (Finset.mem_coe.mp hb)).2
      have := dS_inj (by omega) (by omega) (SemLoc.dma.inj h); omega]
    exact Entails.of_eq (bigSep_congr fun n hn => congrArg _ (launch_at (owed_recv c (Finset.mem_Ico.mp hn).2)))

end Cert.TpMlp

end
-- ==== Proof.Launch.lean ====
/-
# The launch

Each device starts its body with its buffers, its positions, its tokens and its credit, and ends it with the buffers
whole, the arguments as launched and every semaphore at zero; so the run of all devices ends with each result block in
place.
-/
module

public import proofs.«01_k».proof.Proof.Body
public import proofs.«01_k».proof.Proof.Ghost
public import proofs.«01_k».proof.Proof.Gen.KernelIdeal.Points
public import Idealize.ShloMosaic.Lib.Pipeline.CollectiveSegs
public import Idealize.ShloMosaic.Lib.Pipeline.ValueKit

@[expose] public section

noncomputable section

namespace Cert.TpMlp

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What a device holds before and after its body -/

/-- The argument arrays of device `c`, as launched. -/
def Args : sProp 𝕄 :=
  iprop(ArgPt m 0 c ∗ ArgPt m 1 c ∗ ArgPt m 3 c ∗ ArgPt m 5 c ∗ ArgPt m 2 c ∗ ArgPt m 4 c ∗ ArgPt m 6 c)
/-- The semaphores of device `c` that nothing uses, at zero. -/
def Idle : sProp 𝕄 :=
  iprop((bigSep (Finset.Ico 0 7) fun i => semVal (dCell (43 + i) c) 0) ∗ bigSep (Finset.Ico 0 7) fun i => semVal (dCell (85 + i) c) 0)

/-- What device `c` starts with, buffers apart. -/
def start : sProp 𝕄 :=
  iprop((∃ K, Recs m K) ∗ atPos ER (barCell c) 0 ∅ 0 ∗ (bigSep (Finset.Ico 0 7) fun i => atPos ER (loadCell i c) 0 ∅ 0)
    ∗ (bigSep (Finset.Ico 0 35) fun n => atPos ER (sendCell n c) 0 ∅ 0) ∗ (bigSep (Finset.Ico 0 35) fun n => atPos ER (recvCell n c) 0 ∅ 0)
    ∗ PayToks c ∗ cred (tallyAt (barCell c) () 7) ∗ (bigSep (Finset.Ico 0 35) fun n => cred (tallyAt (recvCell n c) () N))
    ∗ Args m c ∗ Idle c)

/-- The state before the body. -/
def Φ₀ : sProp 𝕄 := iprop(start m c ∗ Pipeline.scopedRest cfg0.spec c)
/-- The state after the body. -/
def Φ₁ : sProp 𝕄 := iprop(semVal (barCell c) 0 ∗ Args m c ∗ (Parts fun v => semVal (dCell v c) 0) ∗ Pipeline.scopedRest cfg0.spec c)

omit [FloatOps F] in
theorem seven (Φ : ℕ → sProp (MT nD τ sig Unit (Elt F) ℕ UU ℕ)) : bigSep (Finset.Ico 0 7) Φ = iprop(Φ 0 ∗ Φ 1 ∗ Φ 2 ∗ Φ 3 ∗ Φ 4 ∗ Φ 5 ∗ Φ 6) := by
  rw [bigSep_Ico_succ_bot (by decide), bigSep_Ico_succ_bot (by decide), bigSep_Ico_succ_bot (by decide), bigSep_Ico_succ_bot (by decide),
    bigSep_Ico_succ_bot (by decide), bigSep_Ico_succ_bot (by decide), bigSep_Ico_succ_bot (by decide), Finset.Ico_self, bigSep_empty]
  change iprop(Φ 0 ∗ Φ 1 ∗ Φ 2 ∗ Φ 3 ∗ Φ 4 ∗ Φ 5 ∗ Φ 6 ∗ emp) = _
  rw [sep_nothing]

/-- The state before the body holds all the body takes. -/
theorem body_in (fo : S64x256.Idx → Elt F .f32) :
    iprop(Φ₀ m c ∗ (∃ W, owes (c : Thread nD τ) (O₀ c) W) ∗ outR c fo)
      ⊢ iprop(∃ K f gi go fp fx, bodyIn m K c f gi go fp fx fo ∗ Idle c) := by
  unfold Φ₀ start
  rw [show (Pipeline.scopedRest cfg0.spec c : sProp 𝕄) = _ from scopedRest0_eq c]
  iintro ⟨⟨⟨⟨%K, #HR⟩, Ab, Al, As, Ar, Ht, Cb, Cr, HA, HI⟩, ⟨%f, B0⟩, ⟨%gi, B1⟩, ⟨%go, B2⟩, ⟨%fp, B3⟩, ⟨%fr, B4⟩, ⟨%fx, B5⟩⟩, HO, Hout⟩
  iexists K; iexists f; iexists gi; iexists go; iexists fp; iexists fx
  isplitr [HI]
  swap
  · iexact HI
  unfold PayToks Args
  icases Ht with ⟨Tb, Tl, Ts, Tr⟩
  icases HA with ⟨H0, H1, H3, H5, H2, H4, H6⟩
  ihave Hs := (make_slots c fr fx) $$ [B4 B5]
  · isplitl [B4] <;> iassumption
  icases Hs with ⟨Hs, X0, X1⟩
  ihave Hs := (slots_bars (F := F) c) $$ Hs
  ihave B1 := (Entails.of_eq (wiR_all c gi)) $$ B1
  ihave B2 := (Entails.of_eq (woR_all c go)) $$ B2
  ihave B3 := (Entails.of_eq (pR_all c fp)) $$ B3
  rw [p_groups c 1 fp, p_groups c 2 fp]
  icases B1 with ⟨W0, W1, W2⟩
  icases B2 with ⟨V0, V1, V2⟩
  icases B3 with ⟨P0, P1, P2⟩
  ihave Al := (Entails.of_eq (seven (F := F) fun i => atPos ER (loadCell i c) 0 ∅ 0)) $$ Al
  ihave Tl := (Entails.of_eq (seven (F := F) fun i => dutyTok ER (loadCell i c) 0 0)) $$ Tl
  icases Al with ⟨a0, a1, a2, a3, a4, a5, a6⟩
  icases Tl with ⟨t0, t1, t2, t3, t4, t5, t6⟩
  unfold bodyIn Bs LI
  isplitl [HO Tb Hs]
  · isplitr; · iexact HR
    isplitl [HO]; · iexact HO
    rw [bigSep_sep']
    isplitl [Tb] <;> iassumption
  isplitl [t0 a0 H0 B0]; · unfold inR; iframe
  isplitl [t1 a1 H1 W0]; · iframe
  isplitl [t2 a2 H2 V0]; · iframe
  isplitl [t3 a3 H3 W1]; · iframe
  isplitl [t4 a4 H4 V1]; · iframe
  isplitl [t5 a5 H5 W2]; · iframe
  isplitl [t6 a6 H6 V2]; · iframe
  isplitl [Cb]; · iexact Cb
  isplitl [Ab]; · iexact Ab
  isplitl [Ts Tr As]
  · unfold Tok
    rw [bigSep_sep', bigSep_sep']
    iframe
  isplitl [Cr Ar]
  · unfold Due
    rw [bigSep_sep']
    iframe
  isplitl [P0]; · iexact P0
  isplitl [P1]; · iexact P1
  isplitl [P2]; · iexact P2
  isplitr
  · unfold Rg; rw [rR_nil, rR_nil, rR_nil]
    isplitr; · iempintro
    isplitr <;> iempintro
  isplitr
  · unfold Xg; rw [xR_nil, xR_nil]
    isplitr <;> iempintro
  isplitl [X0 X1]; · isplitl [X0] <;> iassumption
  iexact Hout

/-- What the body leaves is the state after it. -/
theorem body_out (K : Dev nD × Fin 92 → ℕ) :
    iprop(bodyMid m K c 35 ∗ Idle c) ⊢ iprop(Φ₁ m c ∗ (∃ W, owes (c : Thread nD τ) 0 W) ∗ outR c (outV m c)) := by
  unfold bodyMid Idle Kept
  iintro ⟨⟨HS, Hr, Hb, ⟨⟨z0, H0⟩, ⟨z1, H1⟩, ⟨z2, H2⟩, ⟨z3, H3⟩, ⟨z4, H4⟩, ⟨z5, H5⟩, ⟨z6, H6⟩⟩, Hin, HW, HV, ⟨P0, P1, P2⟩, HR, ⟨Xo0, Xo1, Xg0, Xg1⟩, Hout⟩, I0, I1⟩
  ihave HS := (sw_end m K c) $$ HS
  icases HS with ⟨HO, Hz, HS⟩
  ihave HS := (srcs_back m c) $$ HS
  icases HS with ⟨S0, S1, S2, S3, S4⟩
  ihave HP := (p_back m c) $$ [S0 S2 S4 P0 P1 P2]
  · iframe
  ihave HX := (x_back m c) $$ [S1 S3 Xo0 Xo1 Xg0 Xg1]
  · iframe
  ihave HW := (Entails.of_eq (wiR_all c (WI m c)).symm) $$ HW
  ihave HV := (Entails.of_eq (woR_all c (WO m c)).symm) $$ HV
  ihave HR := (Entails.of_eq (rR_all c (RA m c)).symm) $$ HR
  isplitr [HO Hout]
  · unfold Φ₁ Args Parts
    rw [show (Pipeline.scopedRest cfg0.spec c : sProp 𝕄) = _ from scopedRest0_eq c]
    isplitl [Hb]; · iexact Hb
    isplitl [H0 H1 H2 H3 H4 H5 H6]; · iframe
    isplitl [z0 z1 z2 z3 z4 z5 z6 Hz Hr I0 I1]
    · isplitl [z0 z1 z2 z3 z4 z5 z6]
      · rw [seven]; iframe
      iframe
    isplitl [Hin]; · iexists (xA m c); unfold inR; iexact Hin
    isplitl [HW]; · iexists (WI m c); iexact HW
    isplitl [HV]; · iexists (WO m c); iexact HV
    isplitl [HP]; · iexists (PA m c); iexact HP
    isplitl [HR]; · iexists (RA m c); iexact HR
    iexists (XA m c); iexact HX
  isplitl [HO] <;> iassumption

/-! ## The body, as the launch calls it -/

/-- The data of the launch: the output block after the body, and what the device owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (w : Fin cfg0.W) : (dats m ρ 0 c).share w = fullShare := by unfold Dat.share; split <;> rfl

omit [FloatOps F] in
theorem owns_stage (X : S64x256.Idx → Elt F .f32) :
    (owns (Ix := Unit) (Name := ℕ) (U := UU) (Lvl := ℕ) (c : Thread nD τ) (Memref.whole cc0_stg0_0) fullShare X : sProp 𝕄)
      = iprop(∃ f : Buf (Elt F) (((c : Dev nD) : Thread nD τ).loc cc0_stg0_0), ⌜f = X⌝ ∗ (((c : Thread nD τ).loc cc0_stg0_0) ↦{fullShare} f)) := by
  unfold owns; simp only [Memref.view_whole, View.read_whole, View.set_whole]

/-- The output block at contents `X`. -/
abbrev stg (X : S64x256.Idx → Elt F .f32) : sProp 𝕄 :=
  iprop(∃ f : Buf (Elt F) (((c : Dev nD) : Thread nD τ).loc cc0_stg0_0), ⌜f = X⌝ ∗ (((c : Thread nD τ).loc cc0_stg0_0) ↦{fullShare} f))

theorem run_body : iprop(Φ₀ m c ∗ (dats m ρ 0 c).owesAt () t0_0.castSucc ∗ (∃ d, stg c ((dats m ρ 0 c).before (0 : Fin 1) t0_0 d)))
    ⊢ Wp c (On (cc0_body (F := F))) fun _ => iprop(Φ₁ m c ∗ (dats m ρ 0 c).owesAt () t0_0.succ ∗ stg c (outV m c)) := by
  unfold Dat.owesAt Pipeline.owesWithin
  rw [show (dats m ρ 0 c).owed t0_0.castSucc = O₀ c from rfl, show (dats m ρ 0 c).owed t0_0.succ = 0 from rfl]
  iintro ⟨H, ⟨%W, %hW, HO⟩, ⟨%d, %fo, %hfo, Hout⟩⟩
  ihave H := (body_in m c fo) $$ [H HO Hout]
  · isplitl [H]; · iexact H
    isplitl [HO]; · iexists W; iexact HO
    unfold outR; iexact Hout
  icases H with ⟨%K, %f, %gi, %go, %fp, %fx, H, HI⟩
  iapply (body_run m K c) $$ H
  iintro H
  ihave H := (body_out m c K) $$ [H HI]
  · isplitl [H] <;> iassumption
  icases H with ⟨H, ⟨%W', HO⟩, Hout⟩
  isplitl [H]; · iexact H
  isplitl [HO]
  · iexists W'
    isplitr; · ipureintro; exact fun _ _ => Or.inl trivial
    iexact HO
  iexists (outV m c)
  isplitr; · ipureintro; rfl
  unfold outR; iexact Hout

set_option maxRecDepth 60000 in
theorem body_obligation : BodyObligation (dats (F := F) m ρ 0 c) (defs₀ (F := F)) 𝒱₀ () Set.univ := fun t => by
  rw [fin_N0 t]
  rw [bigSep_W0, bigSep_W0]
  simp only [show ∀ X, (owns (Ix := Unit) (Name := ℕ) (U := UU) (Lvl := ℕ) (c : Thread nD τ) (Memref.whole cc0_stg0_0) fullShare X : sProp 𝕄) = _ from owns_stage c]
  exact run_body m ρ c

/-! ## The launch -/

omit [FloatOps F] in
theorem at_parts : (bigSep Finset.univ fun i : Fin 92 => atPos ER (kc (c, i)) 0 ∅ 0 : sProp 𝕄)
    ⊢ iprop(atPos ER (barCell c) 0 ∅ 0 ∗ (bigSep (Finset.Ico 0 7) fun i => atPos ER (loadCell i c) 0 ∅ 0)
      ∗ (bigSep (Finset.Ico 0 35) fun n => atPos ER (sendCell n c) 0 ∅ 0) ∗ (bigSep (Finset.Ico 0 7) fun i => atPos ER (dCell (43 + i) c) 0 ∅ 0)
      ∗ (bigSep (Finset.Ico 0 35) fun n => atPos ER (recvCell n c) 0 ∅ 0) ∗ (bigSep (Finset.Ico 0 7) fun i => atPos ER (dCell (85 + i) c) 0 ∅ 0)) :=
  Entails.of_eq (cells_eq c fun g => atPos ER g 0 ∅ 0)

/-- A device's records, levels, credit and arguments make what it starts with. -/
theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show (Pipeline.unscopedRest cfg0.spec c (fun b => m ((c : Thread nD τ).loc b)) : sProp 𝕄) = _ from unscopedRest0_eq c _]
  unfold G'
  iintro ⟨HA, #Hlev, Hcr, -, ⟨%K, ⟨#HI, #HR⟩, Hat, Htok⟩⟩
  ihave #Hrec : Recs m K $$ []
  · unfold Recs
    isplitr; · iexact HI
    isplitr; · iexact HR
    iexact Hlev
  ihave Hc := (creds (F := F) c) $$ Hcr
  icases Hc with ⟨Cb, Cr⟩
  ihave Hat := (at_parts (F := F) c) $$ Hat
  icases Hat with ⟨Ab, Al, As, Ai, Ar, Aj⟩
  have close (a : ℕ) (h0 : 0 < a) (h : a + 7 ≤ 92) (hu : ∀ i, i < 7 → ¬ used (a + i)) :
      iprop(Recs m K ∗ bigSep (Finset.Ico 0 7) fun i => atPos ER (dCell (a + i) c) 0 ∅ 0)
        ⊢ |={Set.univ}=> (bigSep (Finset.Ico 0 7) fun i => semVal (dCell (a + i) c) 0 : sProp 𝕄) :=
    (bigSep_give fun i hi => by
      have hi7 := (Finset.mem_Ico.mp hi).2
      refine (sep_mono_left (inv_d m K c (v := a + i) (by omega) (by omega))).trans ?_
      refine Rounds.cell_close ER (Rd m) (Set.mem_univ _) (fun h => h) (R := 0) fun r _ => ?_
      rcases Nat.eq_zero_or_pos r with rfl | hr
      · dsimp only [Rd]; rw [if_pos ⟨rfl, rfl⟩, dS_val (by omega), if_neg (hu i hi7)]
      · exact duties_later m _ r hr).trans (bigSep_fupd _ _)
  imod (close 43 (by decide) (by decide) fun i hi => by unfold used; omega) $$ [Ai] with I0
  · isplitr; · iexact Hrec
    iexact Ai
  imod (close 85 (by decide) (by decide) fun i hi => by unfold used; omega) $$ [Aj] with I1
  · isplitr; · iexact Hrec
    iexact Aj
  imodintro
  isplitl
  · unfold start Args Idle
    isplitr; · iexists K; iexact Hrec
    isplitl [Ab]; · iexact Ab
    isplitl [Al]; · iexact Al
    isplitl [As]; · iexact As
    isplitl [Ar]; · iexact Ar
    isplitl [Htok]; · iexact Htok
    isplitl [Cb]; · iexact Cb
    isplitl [Cr]; · iexact Cr
    isplitl [HA]; · iexact HA
    isplitl [I0] <;> iassumption
  · iempintro

theorem enter :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem leave :
    (dats m ρ 0 c).Φ (Fin.last cfg0.N) ⊢ iprop((Args m c ∗ unscopedSems0 c) ∗ Pipeline.ownSems0 osem c ∗ Pipeline.scopedRest cfg0.spec c) := by
  rw [show (dats m ρ 0 c).Φ (Fin.last cfg0.N) = Φ₁ m c from rfl, ownSems_eq, unscopedSems_eq]
  unfold Φ₁
  iintro ⟨Hb, HA, Hz, Hr⟩
  isplitl [Hb HA]; · isplitl [HA] <;> iassumption
  isplitl [Hz] <;> iassumption

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a final memory says of device `c`'s arguments. -/
def Same (s : MemSt nD τ sig (Elt F)) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

/-- The arguments in order. -/
def argRef : Fin 7 → Ref sig .tc := ![main_arg0, main_arg1, main_arg2, main_arg3, main_arg4, main_arg5, main_arg6]
omit [FloatOps F] in
theorem args_list : (Args m c : sProp 𝕄)
    = bigSep Finset.univ fun i : Fin 7 => ((c : Thread nD τ).loc (argRef i)) ↦{fullShare} m ((c : Thread nD τ).loc (argRef i)) := by
  rw [bigSep_univ_eq_bigSepL [0, 1, 2, 3, 4, 5, 6] (by decide) (by decide)]; rfl

omit [FloatOps F] in
theorem args_read (s' : Phys nD τ sig (Elt F)) : iprop(Args m c ∗ SI s') ⊢ iprop(⌜Same m c s'.mem⌝ ∗ SI s' : sProp 𝕄) := by
  rw [args_list]
  iintro H
  ihave H := (pointsTo_read_all Finset.univ (fun i : Fin 7 => (c : Thread nD τ).loc (argRef i)) (fun i => m ((c : Thread nD τ).loc (argRef i))) s') $$ H
  icases H with ⟨%h, H⟩
  isplitr
  · ipureintro
    exact ⟨h 0 (Finset.mem_univ _), h 1 (Finset.mem_univ _), h 2 (Finset.mem_univ _), h 3 (Finset.mem_univ _), h 4 (Finset.mem_univ _), h 5 (Finset.mem_univ _), h 6 (Finset.mem_univ _)⟩
  iexact H

/-! ## The result array -/

theorem flushed_eq (t : Fin cfg0.N) : (dats m ρ 0 c).flushed 0 t = ((cfg0.win 0).blk t).view.read (Elt F) (outV m c) := by
  obtain rfl := fin_N0 t
  unfold Pipeline.Dat.flushed
  rw [show (dats m ρ 0 c).after 0 t0_0 = outV m c from rfl]
  funext x
  blk_simp
  refine congrArg (outV m c) (funext fun a => Fin.ext ?_)
  match a with
  | ⟨0, h⟩ =>
    blk_simp
    show (x ⟨0, h⟩ : ℕ) = win0_0.index t0_0 0 * 64 + (x ⟨0, h⟩ : ℕ)
    rw [show win0_0.index t0_0 0 = 0 from rfl]; omega
  | ⟨1, h⟩ =>
    blk_simp
    show (x ⟨1, h⟩ : ℕ) = win0_0.index t0_0 1 * 256 + (x ⟨1, h⟩ : ℕ)
    rw [show win0_0.index t0_0 1 = 0 from rfl]; omega

theorem result_eq : (dats m ρ 0 c).arrAt 0 cfg0.N = outV m c :=
  (dats m ρ 0 c).arrAt_eq_of_cover 0 (outV m c) (fun t _ => flushed_eq m ρ c t) fun i => ⟨t0_0, flush0_0 _, by
    show i ∈ ((View.whole main_v1).slice (win0_0.rect t0_0)).set
    rw [View.set_slice_whole, Rect.mem_set_unit]
    have h0 : (i 0 : Nat) < 64 := (i 0).isLt
    have h1 : (i 1 : Nat) < 256 := (i 1).isLt
    have e : win0_0.index t0_0 0 * win0_0.size 0 = 0 ∧ win0_0.xsize (grid0.coords t0_0) 0 = 64
        ∧ win0_0.index t0_0 1 * win0_0.size 1 = 0 ∧ win0_0.xsize (grid0.coords t0_0) 1 = 256 := by decide +kernel
    intro a
    match a with
    | ⟨0, _⟩ => show win0_0.index t0_0 0 * win0_0.size 0 ≤ (i 0 : Nat) ∧ (i 0 : Nat) < win0_0.index t0_0 0 * win0_0.size 0 + win0_0.xsize (grid0.coords t0_0) 0
                rw [e.1, e.2.1]; omega
    | ⟨1, _⟩ => show win0_0.index t0_0 1 * win0_0.size 1 ≤ (i 1 : Nat) ∧ (i 1 : Nat) < win0_0.index t0_0 1 * win0_0.size 1 + win0_0.xsize (grid0.coords t0_0) 1
                rw [e.2.2.1, e.2.2.2]; omega⟩

/-! ## The run -/

set_option maxRecDepth 60000 in
/-- From any memory, for any float values: every execution of the eight devices ends, each device's result array at the
    computed block, the arguments unchanged and every semaphore counter at zero. -/
theorem run_main : θ_run defs (onTc (τ := τ) (main (F := F))) (s₀ m ρ)
    (fun r => (∀ c : Dev nD, r.2.mem ((c.tc : Thread nD τ).loc main_v1) = outV m c ∧ Same m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0)
    (hshare := fun c => share_eq m ρ c) (hdistinct := winFacts0.arr_inj)
    (O₀ := O₀) (howed₀ := fun _ => rfl) (howedN := fun _ => rfl)
    (L := L) (lv := lv) (hL := L_of_ne) (hwaits := fun c => waits m ρ c)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := fun c => start m c) (Y := fun c => iprop(Args m c ∗ unscopedSems0 c)) (Z := fun _ => iprop(emp))
    (hX := fun c => start_intro m ρ c) (hin := fun c => enter m ρ c) (hout := fun c => leave m ρ c)
    (QY := fun c s => Same m c s ∧ ∀ sm : SemLoc sig, sm.isScoped .tc = false → s.sem ((c.tc : Thread nD τ), sm) = 0)
    (hY := fun c s' => by
      iintro ⟨⟨HA, Hu⟩, -, HSI⟩
      ihave H := (args_read m c s') $$ [HA HSI]
      · isplitl [HA] <;> iassumption
      icases H with ⟨%h1, HSI⟩
      imod (Pipeline.unscopedSems0_read (X := unscopedSems0 c) (c := c) fupd_intro s') $$ [Hu HSI] with H
      · isplitl [Hu] <;> iassumption
      icases H with ⟨%h2, HSI⟩
      imodintro
      isplitr; · ipureintro; exact ⟨h1, h2⟩
      iexact HSI)
    (hQ := fun s h hs => ⟨fun c => ⟨((h c).1 0).trans (result_eq m ρ c), (h c).2.2.1⟩, sem_eq_zero hs fun c => (h c).2.2.2⟩)

end Cert.TpMlp

end
-- ==== Proof.MlpMath.lean ====
/-
# Two products with a rectifier between, over the extended reals

One row through one layer, `mlp`; the kernel's two matrix products read as `mlp` of a row (`stage_apply`); the sum over
the eight column blocks of the hidden axis (`mlp_blocks`); the eight devices counted from any one of them (`sum_from`).
-/
module

public import proofs.«01_k».proof.Proof.Values
public import Idealize.ShloMosaic.Lib.MatmulPlain
public import Idealize.ShloMosaic.Lib.StackMember
public import Idealize.ShloMosaic.Lib.Layout

@[expose] public section

noncomputable section

namespace Cert.TpMlp

open Cert.KernelIdeal Cert.KernelIdeal.Gen
open Idealize.ShloMosaic Idealize.ShloMosaic.TcCoe Idealize.ShloMosaic.ValueIdx Idealize.SL.Sem
open scoped BigOperators

/-- One row `x` through one layer with `n` hidden units: the row times `W`, negative entries set to zero, times `V`. -/
def mlp (n : ℕ) (x : Fin 256 → EReal) (W : (⟨2, ![256, n]⟩ : Shape).Idx → EReal)
    (V : (⟨2, ![n, 256]⟩ : Shape).Idx → EReal) (j : Fin 256) : EReal :=
  ∑ k : Fin n, max (∑ d : Fin 256, x d * W (ix2 d k)) 0 * V (ix2 k j)

/-- The kernel's two products of an `M`-row block, with the rectifier between them. -/
def stage (M n : ℕ) (x : FVec Ideal ⟨2, ![M, 256]⟩ .bf16) (W : FVec Ideal ⟨2, ![256, n]⟩ .bf16)
    (V : FVec Ideal ⟨2, ![n, 256]⟩ .bf16) : FVec Ideal ⟨2, ![M, 256]⟩ .f32 :=
  matmul (DotDims.plain M n 256) none
    (truncf .bf16 (maximumf (matmul (DotDims.plain M 256 n) none x W (constant ⟨2, ![M, n]⟩ .f32 0x00000000#32))
      (broadcast ⟨2, ![M, n]⟩ (Scalar.ofBits .f32 0x00000000#32))) bitsLt_bf16_f32)
    V (constant ⟨2, ![M, 256]⟩ .f32 0x00000000#32)

/-- An array of zeros reads zero. -/
theorem zeros_apply {s : Shape} (i : s.Idx) : (constant s .f32 0x00000000#32 : FVec Ideal s .f32) i = (0 : EReal) :=
  Ideal.ofBits_zero_f32

/-- The two products, row by row. -/
theorem stage_apply (M n : ℕ) (x : FVec Ideal ⟨2, ![M, 256]⟩ .bf16) (W : FVec Ideal ⟨2, ![256, n]⟩ .bf16)
    (V : FVec Ideal ⟨2, ![n, 256]⟩ .bf16) (r : Fin M) (j : Fin 256) :
    stage M n x W V (ix2 r j) = mlp n (fun d => x (ix2 r d)) W V j := by
  refine (Ideal.matmul_plain_apply none _ V _ r j).trans ?_
  rw [zeros_apply, zero_add]
  refine Finset.sum_congr rfl fun k _ => ?_
  refine congrArg (· * V (ix2 k j)) ?_
  show max (FloatOps.matmul (DotDims.plain M 256 n) none x W (constant ⟨2, ![M, n]⟩ .f32 0x00000000#32) (ix2 r k) : EReal)
    (Ideal.ofBits .f32 0x00000000#32) = _
  rw [Ideal.ofBits_zero_f32, Ideal.matmul_plain_apply, zeros_apply, zero_add]

/-- A sum over the 4096 hidden units, block by block. -/
theorem sum_hidden (f : Fin 4096 → EReal) :
    ∑ k : Fin 4096, f k = ∑ e : Fin 8, ∑ h : Fin 512, f ⟨e.val * 512 + h.val, by omega⟩ := by
  rw [← Fintype.sum_prod_type' (fun (e : Fin 8) (h : Fin 512) => f ⟨e.val * 512 + h.val, by omega⟩)]
  refine (Fintype.sum_equiv (finProdFinEquiv (m := 8) (n := 512)) _ _ fun p => congrArg f (Fin.ext ?_)).symm
  show p.1.val * 512 + p.2.val = p.2.val + 512 * p.1.val
  omega

/-- The whole layer is the sum of what the eight blocks of the hidden axis give. -/
theorem mlp_blocks (x : Fin 256 → EReal) (W : (⟨2, ![256, 4096]⟩ : Shape).Idx → EReal)
    (V : (⟨2, ![4096, 256]⟩ : Shape).Idx → EReal) (j : Fin 256) :
    ∑ e : Fin 8, mlp 512 x (Layout.block ⟨2, ![256, 512]⟩ ⟨2, ![256, 4096]⟩ 1 8 e W)
      (Layout.block ⟨2, ![512, 256]⟩ ⟨2, ![4096, 256]⟩ 0 8 e V) j = mlp 4096 x W V j := by
  unfold mlp
  rw [sum_hidden]
  refine Finset.sum_congr rfl fun e _ => Finset.sum_congr rfl fun h _ => ?_
  have eW : ∀ d : Fin 256, Layout.block ⟨2, ![256, 512]⟩ ⟨2, ![256, 4096]⟩ 1 8 e W (by decide) (ix2 d h)
      = W (ix2 d ⟨e.val * 512 + h.val, by omega⟩) := fun d => congrArg W (funext fun a => by
    match a with
    | ⟨0, _⟩ => exact Fin.ext rfl
    | ⟨1, _⟩ => exact Fin.ext rfl)
  have eV : Layout.block ⟨2, ![512, 256]⟩ ⟨2, ![4096, 256]⟩ 0 8 e V (by decide) (ix2 h j)
      = V (ix2 ⟨e.val * 512 + h.val, by omega⟩ j) := congrArg V (funext fun a => by
    match a with
    | ⟨0, _⟩ => exact Fin.ext rfl
    | ⟨1, _⟩ => exact Fin.ext rfl)
  rw [eV]
  simp only [eW]

/-- The eight devices counted from `c` upwards. -/
theorem sum_from (f : Dev nD → EReal) (c : Dev nD) :
    f c + f (sh c 1) + f (sh c 2) + f (sh c 3) + f (sh c 4) + f (sh c 5) + f (sh c 6) + f (sh c 7) = ∑ e : Dev nD, f e := by
  have hb : Function.Bijective fun a : Fin 8 => sh c a.val := by
    refine (Finite.injective_iff_bijective (α := Fin 8)).mp fun a b hab => ?_
    have h := congrArg Fin.val hab
    simp only [sh_val] at h
    exact Fin.ext (by omega)
  rw [← Fintype.sum_bijective _ hb (fun a : Fin 8 => f (sh c a.val)) f fun _ => rfl, Fin.sum_univ_eight]
  show _ = f (sh c 0) + _ + _ + _ + _ + _ + _ + _
  rw [sh_zero]
  rfl

/-- The eight devices, `c` first and then from its predecessor downwards. -/
theorem sum_down (f : Dev nD → EReal) (c : Dev nD) :
    f c + f (sh c 7) + f (sh c 6) + f (sh c 5) + f (sh c 4) + f (sh c 3) + f (sh c 2) + f (sh c 1) = ∑ e : Dev nD, f e := by
  rw [← sum_from f c]
  ac_rfl

end Cert.TpMlp

end
-- ==== Proof.PayValues.lean ====
/-
# What the kernel's vector computations compute, over the extended reals

Each group of row blocks is run through a layer row by row: a row of the result is `mlp` of the same row of the group.
The sums of received blocks read entry by entry.
-/
module

public import proofs.«01_k».proof.Proof.MlpMath

@[expose] public section

noncomputable section

namespace Cert.TpMlp

open Cert.KernelIdeal Cert.KernelIdeal.Gen
open Idealize.ShloMosaic Idealize.ShloMosaic.TcCoe Idealize.ShloMosaic.ValueIdx Idealize.SL.Sem
open scoped BigOperators

/-! ## Row blocks laid out as rows -/

section Casts
variable {α : Type} (w M : ℕ) (hM : M = 64 * w)

/-- `w` blocks of 64 rows with a leading unit axis, read as `64 * w` rows. -/
theorem rows_of_blocks (x : (⟨4, ![1, w, 64, 256]⟩ : Shape).Idx → α)
    (h₁ : (⟨4, ![1, w, 64, 256]⟩ : Shape).ShapeCasts ⟨3, ![w, 64, 256]⟩)
    (h₂ : (⟨3, ![w, 64, 256]⟩ : Shape).ShapeCasts ⟨2, ![M, 256]⟩) (k : Fin w) (r : Fin 64) (d : Fin 256)
    (hq : 64 * k.val + r.val < M) :
    shapeCast ⟨2, ![M, 256]⟩ (shapeCast ⟨3, ![w, 64, 256]⟩ x h₁) h₂ (ix2 ⟨64 * k.val + r.val, hq⟩ d) = x (ix4 0 k r d) :=
  (shapeCast_apply _ h₂ _ (ix3 k r d) (by
    rw [Shape.rowMajor_val_three, Shape.rowMajor_val_two]
    show (k.val * 64 + r.val) * 256 + d.val = (64 * k.val + r.val) * 256 + d.val
    omega)).trans (shapeCast_1abc_abc_apply x h₁ k r d)

/-- `64 * w` rows read as `w` blocks of 64 rows with a leading unit axis. -/
theorem blocks_of_rows (x : (⟨2, ![M, 256]⟩ : Shape).Idx → α)
    (h₁ : (⟨2, ![M, 256]⟩ : Shape).ShapeCasts ⟨3, ![w, 64, 256]⟩)
    (h₂ : (⟨3, ![w, 64, 256]⟩ : Shape).ShapeCasts ⟨4, ![1, w, 64, 256]⟩) (k : Fin w) (r : Fin 64) (d : Fin 256)
    (hq : 64 * k.val + r.val < M) :
    shapeCast ⟨4, ![1, w, 64, 256]⟩ (shapeCast ⟨3, ![w, 64, 256]⟩ x h₁) h₂ (ix4 0 k r d) = x (ix2 ⟨64 * k.val + r.val, hq⟩ d) :=
  (shapeCast_abc_1abc_apply _ h₂ 0 k r d).trans (shapeCast_apply x h₁ _ _ (by
    rw [Shape.rowMajor_val_three, Shape.rowMajor_val_two]
    show (64 * k.val + r.val) * 256 + d.val = (k.val * 64 + r.val) * 256 + d.val
    omega))

/-- One block with two leading unit axes, read as its rows. -/
theorem rows_of_one (x : (⟨4, ![1, 1, 64, 256]⟩ : Shape).Idx → α)
    (h : (⟨4, ![1, 1, 64, 256]⟩ : Shape).ShapeCasts ⟨2, ![64, 256]⟩) (r : Fin 64) (d : Fin 256) :
    shapeCast ⟨2, ![64, 256]⟩ x h (ix2 r d) = x (ix4 0 0 r d) :=
  shapeCast_apply x h _ _ (by
    rw [Shape.rowMajor_val_four, Shape.rowMajor_val_two]
    show ((0 * 1 + 0) * 64 + r.val) * 256 + d.val = r.val * 256 + d.val
    omega)

/-- Rows read as one block with two leading unit axes. -/
theorem one_of_rows (x : (⟨2, ![64, 256]⟩ : Shape).Idx → α)
    (h : (⟨2, ![64, 256]⟩ : Shape).ShapeCasts ⟨4, ![1, 1, 64, 256]⟩) (r : Fin 64) (d : Fin 256) :
    shapeCast ⟨4, ![1, 1, 64, 256]⟩ x h (ix4 0 0 r d) = x (ix2 r d) :=
  shapeCast_apply x h _ _ (by
    rw [Shape.rowMajor_val_four, Shape.rowMajor_val_two]
    show r.val * 256 + d.val = ((0 * 1 + 0) * 64 + r.val) * 256 + d.val
    omega)

end Casts

/-! ## A group of row blocks through a layer -/

/-- `w` row blocks through a layer: laid out as rows, the two products, laid out as blocks again. -/
def group (w M : ℕ) (W : FVec Ideal S256x512 .bf16) (V : FVec Ideal S512x256 .bf16)
    (x : FVec Ideal ⟨4, ![1, w, 64, 256]⟩ .bf16)
    (h₁ : (⟨4, ![1, w, 64, 256]⟩ : Shape).ShapeCasts ⟨3, ![w, 64, 256]⟩)
    (h₂ : (⟨3, ![w, 64, 256]⟩ : Shape).ShapeCasts ⟨2, ![M, 256]⟩)
    (h₃ : (⟨2, ![M, 256]⟩ : Shape).ShapeCasts ⟨3, ![w, 64, 256]⟩)
    (h₄ : (⟨3, ![w, 64, 256]⟩ : Shape).ShapeCasts ⟨4, ![1, w, 64, 256]⟩) : FVec Ideal ⟨4, ![1, w, 64, 256]⟩ .bf16 :=
  shapeCast ⟨4, ![1, w, 64, 256]⟩ (shapeCast ⟨3, ![w, 64, 256]⟩
    (truncf .bf16 (stage M 512 (shapeCast ⟨2, ![M, 256]⟩ (shapeCast ⟨3, ![w, 64, 256]⟩ x h₁) h₂) W V) bitsLt_bf16_f32) h₃) h₄

theorem group_apply (w M : ℕ) (hM : M = 64 * w) (W : FVec Ideal S256x512 .bf16) (V : FVec Ideal S512x256 .bf16)
    (x : FVec Ideal ⟨4, ![1, w, 64, 256]⟩ .bf16) (h₁ h₂ h₃ h₄) (k : Fin w) (r : Fin 64) (d : Fin 256) :
    group w M W V x h₁ h₂ h₃ h₄ (ix4 0 k r d) = mlp 512 (fun j => x (ix4 0 k r j)) W V d := by
  have hq : 64 * k.val + r.val < M := by have := k.isLt; have := r.isLt; omega
  refine (blocks_of_rows w M _ h₃ h₄ k r d hq).trans ?_
  refine (stage_apply M 512 _ W V ⟨64 * k.val + r.val, hq⟩ d).trans ?_
  exact congrArg (fun f => mlp 512 f W V d) (funext fun j => rows_of_blocks w M x h₁ h₂ k r j hq)

section Groups
variable (W : FVec Ideal S256x512 .bf16) (V : FVec Ideal S512x256 .bf16) (x₂ : Vec Ideal S1x2x64x256 .bf16)
  (x₁ : Vec Ideal S1x1x64x256 .bf16) (r : Fin 64) (d : Fin 256)

theorem pay10_apply (k : Fin 2) : k0_pay10 W V x₂ (ix4 0 k r d) = mlp 512 (fun j => x₂ (ix4 0 k r j)) W V d :=
  group_apply 2 128 rfl W V x₂ shapeCasts_S1x2x64x256_S2x64x256 shapeCasts_S2x64x256_S128x256 shapeCasts_S128x256_S2x64x256
    shapeCasts_S2x64x256_S1x2x64x256 k r d
theorem pay12_apply (k : Fin 2) : k0_pay12 (k0_pay11 W V x₂) (ix4 0 k r d) = mlp 512 (fun j => x₂ (ix4 0 k r j)) W V d :=
  pay10_apply W V x₂ r d k
theorem pay13_apply (k : Fin 2) : k0_pay13 W V x₂ (ix4 0 k r d) = mlp 512 (fun j => x₂ (ix4 0 k r j)) W V d :=
  pay10_apply W V x₂ r d k
theorem pay22_apply (k : Fin 2) : k0_pay22 W V x₂ (ix4 0 k r d) = mlp 512 (fun j => x₂ (ix4 0 k r j)) W V d :=
  pay10_apply W V x₂ r d k
theorem pay23_apply (k : Fin 2) : k0_pay23 W V x₂ (ix4 0 k r d) = mlp 512 (fun j => x₂ (ix4 0 k r j)) W V d :=
  pay10_apply W V x₂ r d k
theorem pay24_apply (k : Fin 2) : k0_pay24 W V x₂ (ix4 0 k r d) = mlp 512 (fun j => x₂ (ix4 0 k r j)) W V d :=
  pay10_apply W V x₂ r d k
theorem pay14_apply (k : Fin 1) : k0_pay14 W V x₁ (ix4 0 k r d) = mlp 512 (fun j => x₁ (ix4 0 k r j)) W V d :=
  group_apply 1 64 rfl W V x₁ shapeCasts_S1x1x64x256_S1x64x256 shapeCasts_S1x64x256_S64x256 shapeCasts_S64x256_S1x64x256
    shapeCasts_S1x64x256_S1x1x64x256 k r d
theorem pay25_apply (k : Fin 1) : k0_pay25 W V x₁ (ix4 0 k r d) = mlp 512 (fun j => x₁ (ix4 0 k r j)) W V d :=
  pay14_apply W V x₁ r d k

end Groups

section Own
variable (x₁ : Vec Ideal S1x1x64x256 .bf16) (w : Vec Ideal S1x256x512 .f32) (v : Vec Ideal S1x512x256 .f32)
  (r : Fin 64) (d : Fin 256)

theorem pay9_apply (k : Fin 1) :
    k0_pay9 (k0_pay8 x₁ w v) (ix4 0 k r d) = mlp 512 (fun j => x₁ (ix4 0 k r j)) (k0_pay5 w) (k0_pay6 v) d :=
  pay14_apply (k0_pay5 w) (k0_pay6 v) x₁ r d k
theorem pay21_apply (k : Fin 1) :
    k0_pay21 (k0_pay17 x₁) (k0_pay18 w) v (ix4 0 k r d) = mlp 512 (fun j => x₁ (ix4 0 k r j)) (k0_pay18 w) (k0_pay19 v) d :=
  pay14_apply (k0_pay18 w) (k0_pay19 v) x₁ r d k
/-- The block that stays on the device, before it is rounded to send. -/
theorem pay7_apply :
    k0_pay7 x₁ w v (ix2 r d) = mlp 512 (fun j => x₁ (ix4 0 0 r j)) (k0_pay5 w) (k0_pay6 v) d := by
  refine (stage_apply 64 512 _ (k0_pay5 w) (k0_pay6 v) r d).trans ?_
  refine congrArg (fun f => mlp 512 f (k0_pay5 w) (k0_pay6 v) d) (funext fun j => ?_)
  have h := rows_of_blocks 1 64 x₁ shapeCasts_S1x1x64x256_S1x64x256 shapeCasts_S1x64x256_S64x256 0 r j (by omega)
  refine Eq.trans (congrArg (fun q => shapeCast S64x256 (shapeCast S1x64x256 x₁ shapeCasts_S1x1x64x256_S1x64x256)
    shapeCasts_S1x64x256_S64x256 (ix2 q j)) (Fin.ext ?_)) h
  show r.val = 64 * 0 + r.val
  omega
theorem pay20_apply :
    k0_pay20 (k0_pay17 x₁) (k0_pay18 w) v (ix2 r d) = mlp 512 (fun j => x₁ (ix4 0 0 r j)) (k0_pay18 w) (k0_pay19 v) d :=
  pay7_apply x₁ w v r d

/-- Layer 0's product of all eight row blocks. -/
theorem pay1_apply (x : Vec Ideal S512x256 .f32) (k : Fin 8) (hq : 64 * k.val + r.val < 512) :
    k0_pay1 x w v (ix4 0 k r d) = mlp 512 (fun j => x (ix2 ⟨64 * k.val + r.val, hq⟩ j)) (k0_pay5 w) (k0_pay6 v) d := by
  unfold k0_pay1
  refine (blocks_of_rows 8 512 _ shapeCasts_S512x256_S8x64x256 shapeCasts_S8x64x256_S1x8x64x256 k r d hq).trans ?_
  exact stage_apply 512 512 (truncf .bf16 x bitsLt_bf16_f32) (k0_pay5 w) (k0_pay6 v) ⟨64 * k.val + r.val, hq⟩ d

end Own

/-! ## The sums of received blocks -/

section Sums
variable (a : FVec Ideal S64x256 .f32) (b₀ b₁ b₂ b₃ b₄ b₅ b₆ : Vec Ideal S1x1x64x256 .bf16) (r : Fin 64) (d : Fin 256)

/-- A received block as rows of the wider format. -/
def wide (b : Vec Ideal S1x1x64x256 .bf16) : FVec Ideal S64x256 .f32 :=
  extf .f32 (shapeCast S64x256 b shapeCasts_S1x1x64x256_S64x256 : FVec Ideal S64x256 .bf16) bitsLt_bf16_f32

theorem wide_apply (b : Vec Ideal S1x1x64x256 .bf16) : wide b (ix2 r d) = b (ix4 0 0 r d) :=
  rows_of_one b shapeCasts_S1x1x64x256_S64x256 r d

theorem pay26_apply : (k0_pay26 a b₀ b₁ b₂ b₃ b₄ b₅ b₆ (ix2 r d) : EReal)
    = a (ix2 r d) + b₀ (ix4 0 0 r d) + b₁ (ix4 0 0 r d) + b₂ (ix4 0 0 r d) + b₃ (ix4 0 0 r d) + b₄ (ix4 0 0 r d)
      + b₅ (ix4 0 0 r d) + b₆ (ix4 0 0 r d) := by
  show (a (ix2 r d) + wide b₀ (ix2 r d) + wide b₁ (ix2 r d) + wide b₂ (ix2 r d) + wide b₃ (ix2 r d) + wide b₄ (ix2 r d)
    + wide b₅ (ix2 r d) + wide b₆ (ix2 r d) : EReal) = _
  simp only [wide_apply]

theorem pay16_apply : (k0_pay16 (k0_pay15 a b₀ b₁ b₂) b₃ b₄ b₅ b₆ (ix4 0 0 r d) : EReal)
    = a (ix2 r d) + b₀ (ix4 0 0 r d) + b₁ (ix4 0 0 r d) + b₂ (ix4 0 0 r d) + b₃ (ix4 0 0 r d) + b₄ (ix4 0 0 r d)
      + b₅ (ix4 0 0 r d) + b₆ (ix4 0 0 r d) :=
  (one_of_rows _ shapeCasts_S64x256_S1x1x64x256 r d).trans (pay26_apply a b₀ b₁ b₂ b₃ b₄ b₅ b₆ r d)

theorem pay4_apply (p : Vec Ideal S1x1x64x256 .bf16) :
    (k0_pay4 (k0_pay3 (k0_pay2 p) b₀ b₁ b₂ b₃ b₄ b₅) b₆ (ix4 0 0 r d) : EReal)
    = p (ix4 0 0 r d) + b₀ (ix4 0 0 r d) + b₁ (ix4 0 0 r d) + b₂ (ix4 0 0 r d) + b₃ (ix4 0 0 r d) + b₄ (ix4 0 0 r d)
      + b₅ (ix4 0 0 r d) + b₆ (ix4 0 0 r d) := by
  refine ((one_of_rows _ shapeCasts_S64x256_S1x1x64x256 r d).trans (pay26_apply (k0_pay2 p) b₀ b₁ b₂ b₃ b₄ b₅ b₆ r d)).trans ?_
  have h : k0_pay2 p (ix2 r d) = p (ix4 0 0 r d) := by
    refine Eq.trans ?_ (rows_of_blocks 1 64 p shapeCasts_S1x1x64x256_S1x64x256 shapeCasts_S1x64x256_S64x256 0 r d (by omega))
    refine congrArg (fun q => shapeCast S64x256 (shapeCast S1x64x256 p shapeCasts_S1x1x64x256_S1x64x256)
      shapeCasts_S1x64x256_S64x256 (ix2 q d)) (Fin.ext ?_)
    show r.val = 64 * 0 + r.val
    omega
  rw [h]

end Sums

end Cert.TpMlp

end
-- ==== Proof.DeviceValues.lean ====
/-
# What the devices hold, over the extended reals

`share m l e x` is what device `e` contributes to a row `x` in layer `l`, `layer m l x` the sum of the eight shares. Row
block by row block: the partial products are shares, the received blocks are the other devices' shares of this
device's rows, and what a device keeps of a layer is `layer` of its rows. So the output block of device `c` is its 64
rows through the three layers (`outV_apply`).
-/
module

public import proofs.«01_k».proof.Proof.PayValues

@[expose] public section

noncomputable section

namespace Cert.TpMlp

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ)

/-! ## The weights as the products use them -/

theorem pay5_wi (l : ℕ) (hl : l < 3) (c : Dev nD) : k0_pay5 (wi m l hl c) = winA m ⟨l, hl⟩ c := by
  funext i
  obtain ⟨a, b, rfl⟩ : ∃ (a : Fin 256) (b : Fin 512), i = ix2 a b := ⟨i 0, i 1, eq_ix2 i⟩
  exact shapeCast_1ab_ab_apply (wi m l hl c) shapeCasts_S1x256x512_S256x512 a b
theorem pay6_wo (l : ℕ) (hl : l < 3) (c : Dev nD) : k0_pay6 (wo m l hl c) = woutA m ⟨l, hl⟩ c := by
  funext i
  obtain ⟨a, b, rfl⟩ : ∃ (a : Fin 512) (b : Fin 256), i = ix2 a b := ⟨i 0, i 1, eq_ix2 i⟩
  exact shapeCast_1ab_ab_apply (wo m l hl c) shapeCasts_S1x512x256_S512x256 a b
theorem pay18_wi (l : ℕ) (hl : l < 3) (c : Dev nD) : k0_pay18 (wi m l hl c) = winA m ⟨l, hl⟩ c := pay5_wi m l hl c
theorem pay19_wo (l : ℕ) (hl : l < 3) (c : Dev nD) : k0_pay19 (wo m l hl c) = woutA m ⟨l, hl⟩ c := pay6_wo m l hl c

/-! ## Shares -/

/-- Device `e`'s contribution to row `x` in layer `l`. -/
def share (l : Fin 3) (e : Dev nD) (x : Fin 256 → EReal) (j : Fin 256) : EReal := mlp 512 x (winA m l e) (woutA m l e) j
/-- Row `x` through layer `l`. -/
def layer (l : Fin 3) (x : Fin 256 → EReal) (j : Fin 256) : EReal := ∑ e : Dev nD, share m l e x j

/-! ## Layer 0 -/

/-- Row `r` of row block `b` of the activations on device `c`. -/
def row (c b : Dev nD) (r : Fin 64) (d : Fin 256) : EReal :=
  xA m c (ix2 ⟨64 * b.val + r.val, by have := b.isLt; have := r.isLt; simp only [nD] at *; omega⟩ d)

theorem P0_apply (e b : Dev nD) (l : Fin 3) (r : Fin 64) (d : Fin 256) :
    P0 m e (ix4 l b r d) = share m 0 e (row m e b r) d := by
  refine (pay1_apply (wi m 0 (by decide) e) (wo m 0 (by decide) e) r d (xA m e) b
    (by have := b.isLt; have := r.isLt; simp only [nD] at *; omega)).trans ?_
  rw [pay5_wi, pay6_wo]
  rfl

theorem R0_apply (c : Dev nD) (l : Fin 3) (s : Fin 7) (r : Fin 64) (d : Fin 256) :
    R0 m c (ix4 l s r d) = share m 0 (sh c (7 - s.val)) (row m (sh c (7 - s.val)) c r) d :=
  P0_apply m _ c 0 r d

variable (X : S512x256.Idx → EReal) (hX : ∀ c, xA m c = X)

/-- Row `r` of row block `b` of `X`. -/
def rowOf (b : Dev nD) (r : Fin 64) (d : Fin 256) : EReal :=
  X (ix2 ⟨64 * b.val + r.val, by have := b.isLt; have := r.isLt; simp only [nD] at *; omega⟩ d)

include hX in
theorem row_eq (c b : Dev nD) (r : Fin 64) : row m c b r = rowOf X b r := by
  unfold row; rw [hX]; rfl

include hX in
theorem A0_apply (c : Dev nD) (r : Fin 64) (d : Fin 256) :
    A0 m c (ix4 0 0 r d) = layer m 0 (rowOf X c r) d := by
  refine (pay4_apply _ _ _ _ _ _ _ r d _).trans ?_
  refine Eq.trans ?_ (sum_down (fun e => share m 0 e (rowOf X c r) d) c)
  have hP : P0 m c (ix4 ⟨0, by decide⟩ c r d) = share m 0 c (rowOf X c r) d := by
    rw [P0_apply, row_eq m X hX]
  have hR : ∀ s : Fin 7, R0 m c (ix4 ⟨0, by decide⟩ s r d) = share m 0 (sh c (7 - s.val)) (rowOf X c r) d := fun s => by
    rw [R0_apply, row_eq m X hX]
  exact congrArg₂ (· + ·) (congrArg₂ (· + ·) (congrArg₂ (· + ·) (congrArg₂ (· + ·) (congrArg₂ (· + ·) (congrArg₂ (· + ·)
    (congrArg₂ (· + ·) hP (hR 0)) (hR 1)) (hR 2)) (hR 3)) (hR 4)) (hR 5)) (hR 6)

/-! ## Layers 1 and 2 -/

/-- Eight blocks, computed in groups of one, two, two, two and one: all of them are given by `v` if each group is. -/
theorem groups_apply {e : EltTy} (g₀ : (⟨4, ![1, 1, 64, 256]⟩ : Shape).Idx → Elt Ideal e)
    (g₁ g₂ g₃ : (⟨4, ![1, 2, 64, 256]⟩ : Shape).Idx → Elt Ideal e)
    (g₄ : (⟨4, ![1, 1, 64, 256]⟩ : Shape).Idx → Elt Ideal e)
    (rest : S3x8x64x256.Idx → Elt Ideal e) (v : ℕ → Elt Ideal e) (r : Fin 64) (d : Fin 256)
    (h₀ : ∀ k : Fin 1, g₀ (ix4 0 k r d) = v (0 + k.val)) (h₁ : ∀ k : Fin 2, g₁ (ix4 0 k r d) = v (1 + k.val))
    (h₂ : ∀ k : Fin 2, g₂ (ix4 0 k r d) = v (3 + k.val)) (h₃ : ∀ k : Fin 2, g₃ (ix4 0 k r d) = v (5 + k.val))
    (h₄ : ∀ k : Fin 1, g₄ (ix4 0 k r d) = v (7 + k.val)) (l : Fin 3) (b : Fin 8) :
    (grp 0 1 g₀ <| grp 1 2 g₁ <| grp 3 2 g₂ <| grp 5 2 g₃ <| grp 7 1 g₄ rest) (ix4 l b r d) = v b.val := by
  have hb := b.isLt
  have step : ∀ (lo w : ℕ) (g : (⟨4, ![1, w, 64, 256]⟩ : Shape).Idx → Elt Ideal e)
      (hg : ∀ k : Fin w, g (ix4 0 k r d) = v (lo + k.val)) (f : S3x8x64x256.Idx → Elt Ideal e)
      (hf : ¬(lo ≤ b.val ∧ b.val < lo + w) → f (ix4 l b r d) = v b.val),
      grp lo w g f (ix4 l b r d) = v b.val := by
    intro lo w g hg f hf
    by_cases h : lo ≤ b.val ∧ b.val < lo + w
    · refine (dif_pos h).trans ((hg ⟨b.val - lo, by omega⟩).trans (congrArg v ?_))
      show lo + (b.val - lo) = b.val
      omega
    · exact (dif_neg h).trans (hf h)
  exact step 0 1 g₀ h₀ _ fun n₀ => step 1 2 g₁ h₁ _ fun n₁ => step 3 2 g₂ h₂ _ fun n₂ => step 5 2 g₃ h₃ _ fun n₃ =>
    step 7 1 g₄ h₄ _ fun n₄ => absurd hb (by omega)

section Layer1
variable (Y : Dev nD → Fin 64 → Fin 256 → EReal) (hY : ∀ c r d, A0 m c (ix4 0 0 r d) = Y c r d)

include hY

theorem X0_row (c : Dev nD) (l : Fin 2) (b : Fin 8) (r : Fin 64) :
    (fun j => X0 m c (ix4 l b r j)) = Y (sh c (8 - b.val)) r := funext fun j => hY _ r j

theorem P1_apply (e : Dev nD) (b : Fin 8) (l : Fin 3) (r : Fin 64) (d : Fin 256) :
    P1 m e (ix4 l b r d) = share m 1 e (Y (sh e (8 - b.val)) r) d := by
  have key : ∀ (j w : ℕ) (hj : j + w ≤ 8) (k : Fin w),
      mlp 512 (fun i => ld4 (X0 m e) 0 j w (by decide) hj (ix4 0 k r i)) (k0_pay5 (wi m 1 (by decide) e))
        (k0_pay6 (wo m 1 (by decide) e)) d = share m 1 e (Y (sh e (8 - (j + k.val))) r) d := by
    intro j w hj k
    rw [pay5_wi, pay6_wo]
    exact congrArg (fun f => mlp 512 f (winA m 1 e) (woutA m 1 e) d) (X0_row m Y hY e _ ⟨j + k.val, by omega⟩ r)
  unfold P1
  refine groups_apply (e := .bf16) _ _ _ _ _ (P0 m e) (fun b => share m 1 e (Y (sh e (8 - b)) r) d) r d ?_ ?_ ?_ ?_ ?_ l b
  · exact fun k => (pay9_apply _ _ _ r d k).trans (key 0 1 (by decide) k)
  · exact fun k => (pay10_apply _ _ _ r d k).trans (key 1 2 (by decide) k)
  · exact fun k => (pay12_apply _ _ _ r d k).trans (key 3 2 (by decide) k)
  · exact fun k => (pay13_apply _ _ _ r d k).trans (key 5 2 (by decide) k)
  · exact fun k => (pay14_apply _ _ _ r d k).trans (key 7 1 (by decide) k)

theorem R1_apply (c : Dev nD) (l : Fin 3) (s : Fin 7) (r : Fin 64) (d : Fin 256) :
    R1 m c (ix4 l s r d) = share m 1 (sh c (s.val + 1)) (Y c r) d := by
  have hs := s.isLt
  refine (P1_apply m Y hY _ ⟨s.val + 1, by omega⟩ 1 r d).trans ?_
  rw [sh_sh, show s.val + 1 + (8 - (s.val + 1)) = 8 by omega, sh_eight]

theorem A1_apply (c : Dev nD) (r : Fin 64) (d : Fin 256) : A1 m c (ix4 0 0 r d) = layer m 1 (Y c r) d := by
  refine (pay16_apply _ _ _ _ _ _ _ _ r d).trans ?_
  refine Eq.trans ?_ (sum_from (fun e => share m 1 e (Y c r) d) c)
  have hP : k0_pay7 (ld4 (X0 m c) 0 0 1 (by decide) (by decide)) (wi m 1 (by decide) c) (wo m 1 (by decide) c) (ix2 r d)
      = share m 1 c (Y c r) d := by
    refine (pay7_apply _ _ _ r d).trans ?_
    rw [pay5_wi, pay6_wo]
    refine congrArg (fun f => mlp 512 f (winA m 1 c) (woutA m 1 c) d) ((X0_row m Y hY c _ 0 r).trans ?_)
    rw [show 8 - (0 : Fin 8).val = 8 from rfl, sh_eight]
  have hR : ∀ s : Fin 7, R1 m c (ix4 ⟨1, by decide⟩ s r d) = share m 1 (sh c (s.val + 1)) (Y c r) d := fun s =>
    R1_apply m Y hY c _ s r d
  exact congrArg₂ (· + ·) (congrArg₂ (· + ·) (congrArg₂ (· + ·) (congrArg₂ (· + ·) (congrArg₂ (· + ·) (congrArg₂ (· + ·)
    (congrArg₂ (· + ·) hP (hR 0)) (hR 1)) (hR 2)) (hR 3)) (hR 4)) (hR 5)) (hR 6)

end Layer1

section Layer2
variable (Y : Dev nD → Fin 64 → Fin 256 → EReal) (hY : ∀ c r d, A1 m c (ix4 0 0 r d) = Y c r d)

include hY

theorem X1_row (c : Dev nD) (l : Fin 2) (b : Fin 8) (r : Fin 64) :
    (fun j => X1 m c (ix4 l b r j)) = Y (sh c (8 - b.val)) r := funext fun j => hY _ r j

theorem P2_apply (e : Dev nD) (b : Fin 8) (l : Fin 3) (r : Fin 64) (d : Fin 256) :
    P2 m e (ix4 l b r d) = share m 2 e (Y (sh e (8 - b.val)) r) d := by
  have key : ∀ (j w : ℕ) (hj : j + w ≤ 8) (k : Fin w),
      mlp 512 (fun i => ld4 (X1 m e) 1 j w (by decide) hj (ix4 0 k r i)) (k0_pay18 (wi m 2 (by decide) e))
        (k0_pay19 (wo m 2 (by decide) e)) d = share m 2 e (Y (sh e (8 - (j + k.val))) r) d := by
    intro j w hj k
    rw [pay18_wi, pay19_wo]
    exact congrArg (fun f => mlp 512 f (winA m 2 e) (woutA m 2 e) d) (X1_row m Y hY e _ ⟨j + k.val, by omega⟩ r)
  unfold P2
  refine groups_apply (e := .bf16) _ _ _ _ _ (P0 m e) (fun b => share m 2 e (Y (sh e (8 - b)) r) d) r d ?_ ?_ ?_ ?_ ?_ l b
  · exact fun k => (pay21_apply _ _ _ r d k).trans (key 0 1 (by decide) k)
  · exact fun k => (pay22_apply _ _ _ r d k).trans (key 1 2 (by decide) k)
  · exact fun k => (pay23_apply _ _ _ r d k).trans (key 3 2 (by decide) k)
  · exact fun k => (pay24_apply _ _ _ r d k).trans (key 5 2 (by decide) k)
  · exact fun k => (pay25_apply _ _ _ r d k).trans (key 7 1 (by decide) k)

theorem R2_apply (c : Dev nD) (l : Fin 3) (s : Fin 7) (r : Fin 64) (d : Fin 256) :
    R2 m c (ix4 l s r d) = share m 2 (sh c (s.val + 1)) (Y c r) d := by
  have hs := s.isLt
  refine (P2_apply m Y hY _ ⟨s.val + 1, by omega⟩ 2 r d).trans ?_
  rw [sh_sh, show s.val + 1 + (8 - (s.val + 1)) = 8 by omega, sh_eight]

theorem outV_layer (c : Dev nD) (r : Fin 64) (d : Fin 256) : outV m c (ix2 r d) = layer m 2 (Y c r) d := by
  refine (pay26_apply _ _ _ _ _ _ _ _ r d).trans ?_
  refine Eq.trans ?_ (sum_from (fun e => share m 2 e (Y c r) d) c)
  have hP : k0_pay20 (k0_pay17 (ld4 (X1 m c) 1 0 1 (by decide) (by decide))) (k0_pay18 (wi m 2 (by decide) c))
      (wo m 2 (by decide) c) (ix2 r d) = share m 2 c (Y c r) d := by
    refine (pay20_apply _ _ _ r d).trans ?_
    rw [pay18_wi, pay19_wo]
    refine congrArg (fun f => mlp 512 f (winA m 2 c) (woutA m 2 c) d) ((X1_row m Y hY c _ 0 r).trans ?_)
    rw [show 8 - (0 : Fin 8).val = 8 from rfl, sh_eight]
  have hR : ∀ s : Fin 7, R2 m c (ix4 ⟨2, by decide⟩ s r d) = share m 2 (sh c (s.val + 1)) (Y c r) d := fun s =>
    R2_apply m Y hY c _ s r d
  exact congrArg₂ (· + ·) (congrArg₂ (· + ·) (congrArg₂ (· + ·) (congrArg₂ (· + ·) (congrArg₂ (· + ·) (congrArg₂ (· + ·)
    (congrArg₂ (· + ·) hP (hR 0)) (hR 1)) (hR 2)) (hR 3)) (hR 4)) (hR 5)) (hR 6)

end Layer2

include hX in
/-- The output block of device `c`: its 64 rows through the three layers. -/
theorem outV_apply (c : Dev nD) (r : Fin 64) (d : Fin 256) :
    outV m c (ix2 r d) = layer m 2 (layer m 1 (layer m 0 (rowOf X c r))) d :=
  outV_layer m (fun c r d => layer m 1 (layer m 0 (rowOf X c r)) d)
    (fun c r d => A1_apply m (fun c r d => layer m 0 (rowOf X c r) d) (fun c r d => A0_apply m X hX c r d) c r d) c r d

end Cert.TpMlp

end
-- ==== Proof.RefValue.lean ====
/-
# What the reference computes

One layer of the reference, read at a row and a column, is `mlp` of that row with the whole weights.
-/
module

public import proofs.«01_k».proof.Proof.MlpMath
public import proofs.«01_k».proof.Proof.Gen.ReferenceIdeal.Run

@[expose] public section

noncomputable section

namespace Cert.TpMlp

open Cert.ReferenceIdeal Cert.ReferenceIdeal.Gen
open Idealize.ShloMosaic Idealize.ShloMosaic.TcCoe Idealize.ShloMosaic.ValueIdx Idealize.SL.Sem
open scoped BigOperators

/-- One layer of the reference. -/
def refLayer (x : FVec Ideal S512x256 .f32) (W : FVec Ideal S256x4096 .f32) (V : FVec Ideal S4096x256 .f32) :
    FVec Ideal S512x256 .f32 :=
  Host.dotGeneral dot_S512x4096_S4096x256_S512x256_1_0_0_1_n_n none
    (maximumf (Host.dotGeneral dot_S512x256_S256x4096_S512x4096_1_0_0_1_n_n none x W)
      (broadcastInDim S512x4096 ![] bcast_S_S512x4096 (constant S_ .f32 0x00000000#32))) V

theorem refLayer_apply (x : FVec Ideal S512x256 .f32) (W : FVec Ideal S256x4096 .f32) (V : FVec Ideal S4096x256 .f32)
    (i : Fin 512) (j : Fin 256) : refLayer x W V (ix2 i j) = mlp 4096 (fun d => x (ix2 i d)) W V j := by
  refine (StackMember.dotGeneral_plain_apply none _ V i j).trans ?_
  refine Finset.sum_congr rfl fun k _ => congrArg (· * V (ix2 k j)) ?_
  refine congrArg₂ (fun a b : EReal => max a b) ?_ Ideal.ofBits_zero_f32
  exact StackMember.dotGeneral_plain_apply none x W i k

/-- The reference's three layers, read at a row and a column. -/
theorem refLayers_apply (x : FVec Ideal S512x256 .f32) (W₀ W₁ W₂ : FVec Ideal S256x4096 .f32)
    (V₀ V₁ V₂ : FVec Ideal S4096x256 .f32) (i : Fin 512) (j : Fin 256) :
    refLayer (refLayer (refLayer x W₀ V₀) W₁ V₁) W₂ V₂ (ix2 i j)
      = mlp 4096 (mlp 4096 (mlp 4096 (fun d => x (ix2 i d)) W₀ V₀) W₁ V₁) W₂ V₂ j :=
  (refLayer_apply _ W₂ V₂ i j).trans (congrArg (fun f => mlp 4096 f W₂ V₂ j) (funext fun k =>
    (refLayer_apply _ W₁ V₁ i k).trans (congrArg (fun f => mlp 4096 f W₁ V₁ k) (funext fun k' => refLayer_apply x W₀ V₀ i k'))))

end Cert.TpMlp

end
-- ==== Proof.Equation.lean ====
/-
# The kernel's output is the reference's, block by block

When every device holds its blocks of the weights and all of the activations, the output block of device `c` is block
`c` of the rows of the reference's result.
-/
module

public import proofs.«01_k».proof.Proof.DeviceValues
public import proofs.«01_k».proof.Proof.RefValue

@[expose] public section

noncomputable section

namespace Cert.TpMlp

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ)

/-- A layer whose weights are held block by block is the layer with the whole weights. -/
theorem layer_whole (l : Fin 3) (W : (⟨2, ![256, 4096]⟩ : Shape).Idx → EReal) (V : (⟨2, ![4096, 256]⟩ : Shape).Idx → EReal)
    (hW : ∀ e : Dev nD, winA m l e = Layout.block ⟨2, ![256, 512]⟩ ⟨2, ![256, 4096]⟩ 1 8 e W)
    (hV : ∀ e : Dev nD, woutA m l e = Layout.block ⟨2, ![512, 256]⟩ ⟨2, ![4096, 256]⟩ 0 8 e V) (x : Fin 256 → EReal) :
    layer m l x = mlp 4096 x W V := funext fun j => by
  refine Eq.trans (Finset.sum_congr rfl fun e _ => ?_) (mlp_blocks x W V j)
  show mlp 512 x (winA m l e) (woutA m l e) j = _
  rw [hW, hV]

/-- Block `c` of 512 rows cut into eight blocks of 64. -/
theorem block_rows (Z : (⟨2, ![512, 256]⟩ : Shape).Idx → EReal) (c : Fin 8) (r : Fin 64) (d : Fin 256)
    (hq : c.val * 64 + r.val < 512) :
    Layout.block ⟨2, ![64, 256]⟩ ⟨2, ![512, 256]⟩ 0 8 c Z (by decide) (ix2 r d) = Z (ix2 ⟨c.val * 64 + r.val, hq⟩ d) :=
  congrArg Z (funext fun a => by
    match a with
    | ⟨0, _⟩ => exact Fin.ext rfl
    | ⟨1, _⟩ => exact Fin.ext rfl)

/-- A row of row block `c`, by its number among all rows. -/
theorem rowOf_eq (X : (⟨2, ![512, 256]⟩ : Shape).Idx → EReal) (c : Dev nD) (r : Fin 64) (hq : c.val * 64 + r.val < 512) :
    rowOf X c r = fun d => X (ix2 ⟨c.val * 64 + r.val, hq⟩ d) := funext fun d =>
  congrArg (fun q => X (ix2 q d)) (Fin.ext (show 64 * c.val + r.val = c.val * 64 + r.val by omega))

/-- The output block of device `c` is block `c` of the reference's three layers. -/
theorem outV_eq (X : (⟨2, ![512, 256]⟩ : Shape).Idx → EReal) (W₀ W₁ W₂ : (⟨2, ![256, 4096]⟩ : Shape).Idx → EReal)
    (V₀ V₁ V₂ : (⟨2, ![4096, 256]⟩ : Shape).Idx → EReal) (hX : ∀ c : Dev nD, xA m c = X)
    (h₀ : ∀ e : Dev nD, winA m 0 e = Layout.block ⟨2, ![256, 512]⟩ ⟨2, ![256, 4096]⟩ 1 8 e W₀)
    (h₁ : ∀ e : Dev nD, winA m 1 e = Layout.block ⟨2, ![256, 512]⟩ ⟨2, ![256, 4096]⟩ 1 8 e W₁)
    (h₂ : ∀ e : Dev nD, winA m 2 e = Layout.block ⟨2, ![256, 512]⟩ ⟨2, ![256, 4096]⟩ 1 8 e W₂)
    (g₀ : ∀ e : Dev nD, woutA m 0 e = Layout.block ⟨2, ![512, 256]⟩ ⟨2, ![4096, 256]⟩ 0 8 e V₀)
    (g₁ : ∀ e : Dev nD, woutA m 1 e = Layout.block ⟨2, ![512, 256]⟩ ⟨2, ![4096, 256]⟩ 0 8 e V₁)
    (g₂ : ∀ e : Dev nD, woutA m 2 e = Layout.block ⟨2, ![512, 256]⟩ ⟨2, ![4096, 256]⟩ 0 8 e V₂) (c : Dev nD) :
    outV m c = Layout.block ⟨2, ![64, 256]⟩ ⟨2, ![512, 256]⟩ 0 8 c
      (refLayer (refLayer (refLayer X W₀ V₀) W₁ V₁) W₂ V₂) := by
  funext i
  obtain ⟨r, d, rfl⟩ : ∃ (r : Fin 64) (d : Fin 256), i = ix2 r d := ⟨i 0, i 1, eq_ix2 i⟩
  have hc : c.val < 8 := c.isLt
  have hr := r.isLt
  have hq : c.val * 64 + r.val < 512 := by omega
  refine (outV_apply m X hX c r d).trans ?_
  rw [layer_whole m 0 W₀ V₀ h₀ g₀, layer_whole m 1 W₁ V₁ h₁ g₁, layer_whole m 2 W₂ V₂ h₂ g₂, rowOf_eq X c r hq]
  exact ((block_rows _ c r d hq).trans (refLayers_apply X W₀ W₁ W₂ V₀ V₁ V₂ ⟨c.val * 64 + r.val, hq⟩ d)).symm

end Cert.TpMlp

end
-- ==== Proof.lean ====
module

public import proofs.«01_k».proof.Proof.Gen.ReferenceIdeal.Run
public import proofs.«01_k».proof.Proof.Launch
public import proofs.«01_k».proof.Proof.Equation
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The two programs' bodies are one text. -/
theorem defs₀_eq : Cert.KernelIdeal.defs₀ (F := Bits) = Cert.Kernel.defs₀ (F := Bits) := by
  unfold Cert.KernelIdeal.defs₀ Cert.Kernel.defs₀
  congr 1
  funext l a
  match l, a with
  | ⟨0, _⟩, (t, s) => rfl
/-- So are their calls. -/
theorem defs_eq : Cert.KernelIdeal.defs (F := Bits) = Cert.Kernel.defs (F := Bits) := by
  unfold Cert.KernelIdeal.defs Cert.Kernel.defs
  rw [defs₀_eq]
  rfl

/-- The kernel at the machine's floats: the two programs have one text, so its run is the run for any float values. -/
theorem frame_kernel : Cert.quiescent_Kernel := by
  intro m ρ _
  have h := Cert.TpMlp.run_main (F := Bits) m ρ
  rw [defs_eq] at h
  exact (θ_run Cert.Kernel.defs _ _).mono (fun r h => ⟨fun c => (h.1 c).2, h.2⟩) h

/-- The kernel over the extended reals. -/
theorem frame_kernel_ideal : Cert.quiescent_KernelIdeal := fun m ρ _ =>
  (θ_run Cert.KernelIdeal.defs _ _).mono (fun _ h => ⟨fun c => (h.1 c).2, h.2⟩) (Cert.TpMlp.run_main (F := Ideal) m ρ)

/-- The reference over the extended reals: host operations only. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, each device's output is its block of the reference's result. -/
theorem algebraic : Cert.algebraic_KernelIdeal_ReferenceIdeal := by
  intro m g m' g' _ hin
  refine ⟨_, (θ_run Cert.KernelIdeal.defs _ _).mono (fun r h c => ⟨(h.1 c).1.trans ?_, (h.1 c).2⟩)
      (Cert.TpMlp.run_main (F := Ideal) m g),
    (θ_run Cert.ReferenceIdeal.defs _ _).mono (fun r h => h 0) (Cert.ReferenceIdeal.Value.run (F := Ideal) m' g')⟩
  exact Cert.TpMlp.outV_eq m _ _ _ _ _ _ _ (fun e => (hin e).1) (fun e => (hin e).2.1) (fun e => (hin e).2.2.1)
    (fun e => (hin e).2.2.2.1) (fun e => (hin e).2.2.2.2.1) (fun e => (hin e).2.2.2.2.2.1) (fun e => (hin e).2.2.2.2.2.2) c

theorem claim : Cert.Claim := ⟨Cert.Kernel.Gen.facts, Cert.KernelIdeal.Gen.facts, Cert.ReferenceIdeal.Gen.facts,
  frame_kernel, frame_kernel_ideal, frame_reference, trivial, algebraic⟩

end Cert.Proof

end
